-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)) (v3 : (c : Dev Cert.KernelIdeal.nD) → Buf (Elt Ideal) ((c.tc : Thread Cert.KernelIdeal.nD Cert.KernelIdeal.τ).loc Cert.KernelIdeal.main_v56_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_v56_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8320x8x128 : Shape := ⟨3, ![8320, 8, 128]⟩
abbrev S8320x8x64 : Shape := ⟨3, ![8320, 8, 64]⟩
abbrev S8320x64 : Shape := ⟨2, ![8320, 64]⟩
abbrev S8208x1024 : Shape := ⟨2, ![8208, 1024]⟩
abbrev S_ : Shape := ⟨0, ![]⟩

class Facts : Prop where
  bcast_S_S8320x8x128 : S_.BroadcastsInDim S8320x8x128 (![] : Fin 0 → Fin S8320x8x128.rank)
  reducesTo_S8320x8x128_S_d0_1_2 : S8320x8x128.ReducesTo [0, 1, 2] S_
  h_S_ : 0 < S_.numel
  bcast_S_S8320x8x64 : S_.BroadcastsInDim S8320x8x64 (![] : Fin 0 → Fin S8320x8x64.rank)
  reducesTo_S8320x8x64_S_d0_1_2 : S8320x8x64.ReducesTo [0, 1, 2] S_
  bcast_S_S8320x64 : S_.BroadcastsInDim S8320x64 (![] : Fin 0 → Fin S8320x64.rank)
  reducesTo_S8320x64_S_d0_1 : S8320x64.ReducesTo [0, 1] S_
  bcast_S_S8208x1024 : S_.BroadcastsInDim S8208x1024 (![] : Fin 0 → Fin S8208x1024.rank)
  reducesTo_S8208x1024_S_d0_1 : S8208x1024.ReducesTo [0, 1] S_

variable [Facts]

def fn_part1 {F : FTy → Type} [FloatOps F] (main_arg4 : FVec F S8320x8x128 .f32) (main_arg5 : FVec F S8208x1024 .f32) (main_v13 : IVec S_ 1) (main_v16 : IVec S8320x64 1) : IVec S_ 1 :=
  let main_c_5 : IVec S_ 1 := constantI S_ 1 1#1
  let main_v17 : IVec S_ 1 := (fun x v => Host.reduce IntOp.andi x v reducesTo_S8320x64_S_d0_1 h_S_) main_v16 main_c_5
  let main_v18 : IVec S_ 1 := andi main_v13 main_v17
  let main_v19 : FVec F S8320x8x128 .f32 := Host.absf main_arg4
  let main_cst_6 : FVec F S_ .f32 := constant S_ .f32 0x7F800000#32
  let main_v20 : FVec F S8320x8x128 .f32 := broadcastInDim S8320x8x128 ![] bcast_S_S8320x8x128 main_cst_6
  let main_v21 : IVec S8320x8x128 1 := cmpf .olt main_v19 main_v20
  let main_c_7 : IVec S_ 1 := constantI S_ 1 1#1
  let main_v22 : IVec S_ 1 := (fun x v => Host.reduce IntOp.andi x v reducesTo_S8320x8x128_S_d0_1_2 h_S_) main_v21 main_c_7
  let main_v23 : IVec S_ 1 := andi main_v18 main_v22
  let main_v24 : FVec F S8208x1024 .f32 := Host.absf main_arg5
  let main_cst_8 : FVec F S_ .f32 := constant S_ .f32 0x7F800000#32
  let main_v25 : FVec F S8208x1024 .f32 := broadcastInDim S8208x1024 ![] bcast_S_S8208x1024 main_cst_8
  let main_v26 : IVec S8208x1024 1 := cmpf .olt main_v24 main_v25
  let main_c_9 : IVec S_ 1 := constantI S_ 1 1#1
  let main_v27 : IVec S_ 1 := (fun x v => Host.reduce IntOp.andi x v reducesTo_S8208x1024_S_d0_1 h_S_) main_v26 main_c_9
  let main_v28 : IVec S_ 1 := andi main_v23 main_v27
  main_v28

def fn {F : FTy → Type} [FloatOps F] (main_arg0 : FVec F S8320x8x128 .f32) (main_arg1 : FVec F S8320x8x64 .f32) (main_arg2 : FVec F S8320x8x128 .f32) (main_arg3 : FVec F S8320x64 .f32) (main_arg4 : FVec F S8320x8x128 .f32) (main_arg5 : FVec F S8208x1024 .f32) : IVec S_ 1 :=
  let main_v0 : FVec F S8320x8x128 .f32 := Host.absf main_arg0
  let main_cst : FVec F S_ .f32 := constant S_ .f32 0x7F800000#32
  let main_v1 : FVec F S8320x8x128 .f32 := broadcastInDim S8320x8x128 ![] bcast_S_S8320x8x128 main_cst
  let main_v2 : IVec S8320x8x128 1 := cmpf .olt main_v0 main_v1
  let main_c : IVec S_ 1 := constantI S_ 1 1#1
  let main_v3 : IVec S_ 1 := (fun x v => Host.reduce IntOp.andi x v reducesTo_S8320x8x128_S_d0_1_2 h_S_) main_v2 main_c
  let main_v4 : FVec F S8320x8x64 .f32 := Host.absf main_arg1
  let main_cst_0 : FVec F S_ .f32 := constant S_ .f32 0x7F800000#32
  let main_v5 : FVec F S8320x8x64 .f32 := broadcastInDim S8320x8x64 ![] bcast_S_S8320x8x64 main_cst_0
  let main_v6 : IVec S8320x8x64 1 := cmpf .olt main_v4 main_v5
  let main_c_1 : IVec S_ 1 := constantI S_ 1 1#1
  let main_v7 : IVec S_ 1 := (fun x v => Host.reduce IntOp.andi x v reducesTo_S8320x8x64_S_d0_1_2 h_S_) main_v6 main_c_1
  let main_v8 : IVec S_ 1 := andi main_v3 main_v7
  let main_v9 : FVec F S8320x8x128 .f32 := Host.absf main_arg2
  let main_cst_2 : FVec F S_ .f32 := constant S_ .f32 0x7F800000#32
  let main_v10 : FVec F S8320x8x128 .f32 := broadcastInDim S8320x8x128 ![] bcast_S_S8320x8x128 main_cst_2
  let main_v11 : IVec S8320x8x128 1 := cmpf .olt main_v9 main_v10
  let main_c_3 : IVec S_ 1 := constantI S_ 1 1#1
  let main_v12 : IVec S_ 1 := (fun x v => Host.reduce IntOp.andi x v reducesTo_S8320x8x128_S_d0_1_2 h_S_) main_v11 main_c_3
  let main_v13 : IVec S_ 1 := andi main_v8 main_v12
  let main_v14 : FVec F S8320x64 .f32 := Host.absf main_arg3
  let main_cst_4 : FVec F S_ .f32 := constant S_ .f32 0x7F800000#32
  let main_v15 : FVec F S8320x64 .f32 := broadcastInDim S8320x64 ![] bcast_S_S8320x64 main_cst_4
  let main_v16 : IVec S8320x64 1 := cmpf .olt main_v14 main_v15
  fn_part1 (F := F) main_arg4 main_arg5 main_v13 main_v16
-- ==== Kernel.lean ====
abbrev S8320x8x128 : Shape := ⟨3, ![8320, 8, 128]⟩
abbrev S8320x8x64 : Shape := ⟨3, ![8320, 8, 64]⟩
abbrev S8320x64 : Shape := ⟨2, ![8320, 64]⟩
abbrev S8208x1024 : Shape := ⟨2, ![8208, 1024]⟩
abbrev S_ : Shape := ⟨0, ![]⟩
abbrev S8320x1x64 : Shape := ⟨3, ![8320, 1, 64]⟩
abbrev S8208x8x128 : Shape := ⟨3, ![8208, 8, 128]⟩
abbrev S8x8208x8208 : Shape := ⟨3, ![8, 8208, 8208]⟩
abbrev S8208x8x64 : Shape := ⟨3, ![8208, 8, 64]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x8208x128 : Shape := ⟨3, ![8, 8208, 128]⟩
abbrev S8x8320 : Shape := ⟨2, ![8, 8320]⟩
abbrev S8320x1024 : Shape := ⟨2, ![8320, 1024]⟩
abbrev S8320x8x192 : Shape := ⟨3, ![8320, 8, 192]⟩
abbrev S8320x8x256 : Shape := ⟨3, ![8320, 8, 256]⟩
abbrev S8320x2048 : Shape := ⟨2, ![8320, 2048]⟩
abbrev S8x1x8320 : Shape := ⟨3, ![8, 1, 8320]⟩
abbrev S8x8x8320 : Shape := ⟨3, ![8, 8, 8320]⟩
abbrev S64x8320 : Shape := ⟨2, ![64, 8320]⟩
abbrev S640x256 : Shape := ⟨2, ![640, 256]⟩
abbrev S640x128 : Shape := ⟨2, ![640, 128]⟩
abbrev S8x640 : Shape := ⟨2, ![8, 640]⟩
abbrev S8320x256 : Shape := ⟨2, ![8320, 256]⟩
abbrev S640x640 : Shape := ⟨2, ![640, 640]⟩
abbrev S1x640 : Shape := ⟨2, ![1, 640]⟩

abbrev nBuf : Space → Nat
  | .hbm => 84
  | .vmem => 24
  | .smem => 0
  | _ => 0

abbrev bufTy : (tb : Table) → Fin (tcTables nBuf tb) → BufTy
  | .hbm, ⟨0, _⟩ => ⟨S8320x8x128, .f32⟩
  | .hbm, ⟨1, _⟩ => ⟨S8320x8x64, .f32⟩
  | .hbm, ⟨2, _⟩ => ⟨S8320x8x128, .f32⟩
  | .hbm, ⟨3, _⟩ => ⟨S8320x64, .f32⟩
  | .hbm, ⟨4, _⟩ => ⟨S8320x8x128, .f32⟩
  | .hbm, ⟨5, _⟩ => ⟨S8208x1024, .f32⟩
  | .hbm, ⟨6, _⟩ => ⟨S_, .f32⟩
  | .hbm, ⟨7, _⟩ => ⟨S8320x8x128, .f32⟩
  | .hbm, ⟨8, _⟩ => ⟨S8320x8x128, .f32⟩
  | .hbm, ⟨9, _⟩ => ⟨S_, .f32⟩
  | .hbm, ⟨10, _⟩ => ⟨S8320x8x64, .f32⟩
  | .hbm, ⟨11, _⟩ => ⟨S8320x8x64, .f32⟩
  | .hbm, ⟨12, _⟩ => ⟨S8320x1x64, .f32⟩
  | .hbm, ⟨13, _⟩ => ⟨S8320x8x64, .f32⟩
  | .hbm, ⟨14, _⟩ => ⟨S8208x8x128, .f32⟩
  | .hbm, ⟨15, _⟩ => ⟨S8208x8x128, .f32⟩
  | .hbm, ⟨16, _⟩ => ⟨S8x8208x8208, .f32⟩
  | .hbm, ⟨17, _⟩ => ⟨S8208x8x64, .f32⟩
  | .hbm, ⟨18, _⟩ => ⟨S8208x8x64, .f32⟩
  | .hbm, ⟨19, _⟩ => ⟨S8x8208x8208, .f32⟩
  | .hbm, ⟨20, _⟩ => ⟨S8x8208x8208, .f32⟩
  | .hbm, ⟨21, _⟩ => ⟨S8208, .i32⟩
  | .hbm, ⟨22, _⟩ => ⟨S1x8208, .i32⟩
  | .hbm, ⟨23, _⟩ => ⟨S8208x1, .i32⟩
  | .hbm, ⟨24, _⟩ => ⟨S8208x8208, .i32⟩
  | .hbm, ⟨25, _⟩ => ⟨S8208x8208, .i32⟩
  | .hbm, ⟨26, _⟩ => ⟨S8208x8208, .i1⟩
  | .hbm, ⟨27, _⟩ => ⟨S_, .f32⟩
  | .hbm, ⟨28, _⟩ => ⟨S_, .f32⟩
  | .hbm, ⟨29, _⟩ => ⟨S8x8208x8208, .i1⟩
  | .hbm, ⟨30, _⟩ => ⟨S8x8208x8208, .f32⟩
  | .hbm, ⟨31, _⟩ => ⟨S8x8208x8208, .f32⟩
  | .hbm, ⟨32, _⟩ => ⟨S_, .f32⟩
  | .hbm, ⟨33, _⟩ => ⟨S8x8208, .f32⟩
  | .hbm, ⟨34, _⟩ => ⟨S8x8208x1, .f32⟩
  | .hbm, ⟨35, _⟩ => ⟨S8x8208x8208, .f32⟩
  | .hbm, ⟨36, _⟩ => ⟨S8x8208x8208, .f32⟩
  | .hbm, ⟨37, _⟩ => ⟨S8x8208x8208, .f32⟩
  | .hbm, ⟨38, _⟩ => ⟨S_, .f32⟩
  | .hbm, ⟨39, _⟩ => ⟨S8x8208, .f32⟩
  | .hbm, ⟨40, _⟩ => ⟨S8x8208x1, .f32⟩
  | .hbm, ⟨41, _⟩ => ⟨S8x8208x8208, .f32⟩
  | .hbm, ⟨42, _⟩ => ⟨S8x8208x8208, .f32⟩
  | .hbm, ⟨43, _⟩ => ⟨S8208x8x128, .f32⟩
  | .hbm, ⟨44, _⟩ => ⟨S8x8208x128, .f32⟩
  | .hbm, ⟨45, _⟩ => ⟨S8x8208x1, .f32⟩
  | .hbm, ⟨46, _⟩ => ⟨S8x8208x1, .f32⟩
  | .hbm, ⟨47, _⟩ => ⟨S8x8208, .f32⟩
  | .hbm, ⟨48, _⟩ => ⟨S_, .i32⟩
  | .hbm, ⟨49, _⟩ => ⟨S_, .f32⟩
  | .hbm, ⟨50, _⟩ => ⟨S8x8320, .f32⟩
  | .hbm, ⟨51, _⟩ => ⟨S8208x8x128, .f32⟩
  | .hbm, ⟨52, _⟩ => ⟨S8x8208, .f32⟩
  | .hbm, ⟨53, _⟩ => ⟨S_, .i32⟩
  | .hbm, ⟨54, _⟩ => ⟨S_, .f32⟩
  | .hbm, ⟨55, _⟩ => ⟨S8x8320, .f32⟩
  | .hbm, ⟨56, _⟩ => ⟨S_, .i32⟩
  | .hbm, ⟨57, _⟩ => ⟨S_, .f32⟩
  | .hbm, ⟨58, _⟩ => ⟨S8320x1024, .f32⟩
  | .hbm, ⟨59, _⟩ => ⟨S8320x8x192, .f32⟩
  | .hbm, ⟨60, _⟩ => ⟨S_, .i32⟩
  | .hbm, ⟨61, _⟩ => ⟨S_, .f32⟩
  | .hbm, ⟨62, _⟩ => ⟨S8320x8x256, .f32⟩
  | .hbm, ⟨63, _⟩ => ⟨S8320x2048, .f32⟩
  | .hbm, ⟨64, _⟩ => ⟨S8320x2048, .bf16⟩
  | .hbm, ⟨65, _⟩ => ⟨S8320x1024, .f32⟩
  | .hbm, ⟨66, _⟩ => ⟨S8320x1024, .f32⟩
  | .hbm, ⟨67, _⟩ => ⟨S8320x2048, .f32⟩
  | .hbm, ⟨68, _⟩ => ⟨S8320x2048, .bf16⟩
  | .hbm, ⟨69, _⟩ => ⟨S_, .i32⟩
  | .hbm, ⟨70, _⟩ => ⟨S_, .f32⟩
  | .hbm, ⟨71, _⟩ => ⟨S8320x8x128, .f32⟩
  | .hbm, ⟨72, _⟩ => ⟨S8320x1024, .f32⟩
  | .hbm, ⟨73, _⟩ => ⟨S8320x1024, .bf16⟩
  | .hbm, ⟨74, _⟩ => ⟨S8x1x8320, .f32⟩
  | .hbm, ⟨75, _⟩ => ⟨S8x8x8320, .f32⟩
  | .hbm, ⟨76, _⟩ => ⟨S64x8320, .f32⟩
  | .hbm, ⟨77, _⟩ => ⟨S8x1x8320, .f32⟩
  | .hbm, ⟨78, _⟩ => ⟨S8x8x8320, .f32⟩
  | .hbm, ⟨79, _⟩ => ⟨S64x8320, .f32⟩
  | .hbm, ⟨80, _⟩ => ⟨S8320x2048, .f32⟩
  | .hbm, ⟨81, _⟩ => ⟨S8320x1024, .bf16⟩
  | .hbm, ⟨82, _⟩ => ⟨S8320x1024, .f32⟩
  | .hbm, ⟨83, _⟩ => ⟨S8320x1024, .bf16⟩
  | .local _ .vmem, ⟨0, _⟩ => ⟨S640x256, .bf16⟩
  | .local _ .vmem, ⟨1, _⟩ => ⟨S640x256, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S640x128, .bf16⟩
  | .local _ .vmem, ⟨7, _⟩ => ⟨S640x128, .bf16⟩
  | .local _ .vmem, ⟨8, _⟩ => ⟨S640x128, .f32⟩
  | .local _ .vmem, ⟨9, _⟩ => ⟨S640x128, .f32⟩
  | .local _ .vmem, ⟨10, _⟩ => ⟨S8x640, .f32⟩
  | .local _ .vmem, ⟨11, _⟩ => ⟨S8x640, .f32⟩
  | .local _ .vmem, ⟨12, _⟩ => ⟨S8x640, .f32⟩
  | .local _ .vmem, ⟨13, _⟩ => ⟨S8x640, .f32⟩
  | .local _ .vmem, ⟨14, _⟩ => ⟨S8320x256, .f32⟩
  | .local _ .vmem, ⟨15, _⟩ => ⟨S8320x256, .f32⟩
  | .local _ .vmem, ⟨16, _⟩ => ⟨S640x128, .bf16⟩
  | .local _ .vmem, ⟨17, _⟩ => ⟨S640x128, .bf16⟩
  | .local _ .vmem, ⟨18, _⟩ => ⟨S640x128, .f32⟩
  | .local _ .vmem, ⟨19, _⟩ => ⟨S640x128, .f32⟩
  | .local _ .vmem, ⟨20, _⟩ => ⟨S640x128, .bf16⟩
  | .local _ .vmem, ⟨21, _⟩ => ⟨S640x128, .bf16⟩
  | .local _ .vmem, ⟨22, _⟩ => ⟨S640x256, .f32⟩
  | .local _ .vmem, ⟨23, _⟩ => ⟨S640x128, .f32⟩
  | _, _ => ⟨S8320x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_call2_v0 : Ref sig .tc := ⟨.hbm, 54, rfl⟩
abbrev main_v37 : Ref sig .tc := ⟨.hbm, 55, rfl⟩
abbrev main_c_5 : Ref sig .tc := ⟨.hbm, 56, rfl⟩
abbrev main_call3_v0 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_call4_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_call5_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56_0 : Ref sig .tc := ⟨.hbm, 80, rfl⟩
abbrev main_v56_1 : Ref sig .tc := ⟨.hbm, 81, rfl⟩
abbrev main_v56_2 : Ref sig .tc := ⟨.hbm, 82, rfl⟩
abbrev main_v56_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 13, 13], ![false, false, false]⟩

def k0_cond2 (i : grid0.Coords) : BitVec 1 :=
  let arg2 : BitVec 32 := BitVec.ofNat 32 (i 2).val
  let arg1 : BitVec 32 := BitVec.ofNat 32 (i 1).val
  let v6 : BitVec 1 := Scalar.cmpi .sge arg2 arg1
  let v3 : BitVec 1 := Scalar.cmpi .eq arg1 arg2
  let c0_i32_1 : BitVec 32 := 0#32
  let v4 : BitVec 1 := Scalar.cmpi .eq arg1 c0_i32_1
  let v5 : BitVec 1 := Scalar.ori v3 v4
  let v7 : BitVec 1 := Scalar.andi v6 v5
  let v8 : BitVec 32 := Scalar.extui v7
  let c0_i32_2 : BitVec 32 := 0#32
  let v9 : BitVec 1 := Scalar.cmpi .ne v8 c0_i32_2
  v9

def k0_mult1 (i : grid0.Coords) : BitVec 32 :=
  let arg2 : BitVec 32 := BitVec.ofNat 32 (i 2).val
  let c640_i32_32 : BitVec 32 := 640#32
  let v71 : BitVec 32 := Scalar.muli arg2 c640_i32_32
  v71
def k0_cond3 (i : grid0.Coords) : BitVec 1 :=
  let arg1 : BitVec 32 := BitVec.ofNat 32 (i 1).val
  let c0_i32_33 : BitVec 32 := 0#32
  let v73 : BitVec 1 := Scalar.cmpi .eq arg1 c0_i32_33
  let v74 : BitVec 32 := Scalar.extui v73
  let c0_i32_34 : BitVec 32 := 0#32
  let v75 : BitVec 1 := Scalar.cmpi .ne v74 c0_i32_34
  v75

def k0_off1 (i : grid0.Coords) : Fin 2 → Nat :=
  let arg2 : BitVec 32 := BitVec.ofNat 32 (i 2).val
  let c640_i32_32 : BitVec 32 := 640#32
  let v71 : BitVec 32 := Scalar.muli arg2 c640_i32_32
  let v72 : BitVec 32 := v71
  let v79 : Index := Scalar.indexCast v72
  let c0_37 : Index := 0#32
  ![v79.toNat, 0]
def k0_cond4 (i : grid0.Coords) : BitVec 1 :=
  let arg1 : BitVec 32 := BitVec.ofNat 32 (i 1).val
  let c0_i32_35 : BitVec 32 := 0#32
  let v76 : BitVec 1 := Scalar.cmpi .sgt arg1 c0_i32_35
  let v77 : BitVec 32 := Scalar.extui v76
  let c0_i32_36 : BitVec 32 := 0#32
  let v78 : BitVec 1 := Scalar.cmpi .ne v77 c0_i32_36
  v78

def k0_off2 (i : grid0.Coords) : Fin 2 → Nat :=
  let arg2 : BitVec 32 := BitVec.ofNat 32 (i 2).val
  let c640_i32_32 : BitVec 32 := 640#32
  let v71 : BitVec 32 := Scalar.muli arg2 c640_i32_32
  let v72 : BitVec 32 := v71
  let v79 : Index := Scalar.indexCast v72
  let c0_37 : Index := 0#32
  ![v79.toNat, 0]
def k0_cond5 (i : grid0.Coords) : BitVec 1 :=
  let arg2 : BitVec 32 := BitVec.ofNat 32 (i 2).val
  let arg1 : BitVec 32 := BitVec.ofNat 32 (i 1).val
  let v10 : BitVec 1 := Scalar.cmpi .sge arg2 arg1
  let v3 : BitVec 1 := Scalar.cmpi .eq arg1 arg2
  let c0_i32_1 : BitVec 32 := 0#32
  let v4 : BitVec 1 := Scalar.cmpi .eq arg1 c0_i32_1
  let v5 : BitVec 1 := Scalar.ori v3 v4
  let v_true : BitVec 1 := 1#1
  let v11 : BitVec 1 := Scalar.xori v5 v_true
  let v12 : BitVec 1 := Scalar.andi v10 v11
  let v13 : BitVec 32 := Scalar.extui v12
  let c0_i32_3 : BitVec 32 := 0#32
  let v14 : BitVec 1 := Scalar.cmpi .ne v13 c0_i32_3
  v14

def k0_mult2 (i : grid0.Coords) : BitVec 32 :=
  let arg2 : BitVec 32 := BitVec.ofNat 32 (i 2).val
  let c640_i32 : BitVec 32 := 640#32
  let v57 : BitVec 32 := Scalar.muli arg2 c640_i32
  v57
def k0_cond6 (i : grid0.Coords) : BitVec 1 :=
  let arg1 : BitVec 32 := BitVec.ofNat 32 (i 1).val
  let c0_i32_30 : BitVec 32 := 0#32
  let v59 : BitVec 1 := Scalar.cmpi .eq arg1 c0_i32_30
  let v60 : BitVec 32 := Scalar.extui v59
  let c0_i32_31 : BitVec 32 := 0#32
  let v61 : BitVec 1 := Scalar.cmpi .ne v60 c0_i32_31
  v61

def k0_off3 (i : grid0.Coords) : Fin 2 → Nat :=
  let arg2 : BitVec 32 := BitVec.ofNat 32 (i 2).val
  let c640_i32 : BitVec 32 := 640#32
  let v57 : BitVec 32 := Scalar.muli arg2 c640_i32
  let v58 : BitVec 32 := v57
  let v65 : Index := Scalar.indexCast v58
  let c0_34 : Index := 0#32
  ![v65.toNat, 0]
def k0_cond7 (i : grid0.Coords) : BitVec 1 :=
  let arg1 : BitVec 32 := BitVec.ofNat 32 (i 1).val
  let c0_i32_32 : BitVec 32 := 0#32
  let v62 : BitVec 1 := Scalar.cmpi .sgt arg1 c0_i32_32
  let v63 : BitVec 32 := Scalar.extui v62
  let c0_i32_33 : BitVec 32 := 0#32
  let v64 : BitVec 1 := Scalar.cmpi .ne v63 c0_i32_33
  v64

def k0_off4 (i : grid0.Coords) : Fin 2 → Nat :=
  let arg2 : BitVec 32 := BitVec.ofNat 32 (i 2).val
  let c640_i32 : BitVec 32 := 640#32
  let v57 : BitVec 32 := Scalar.muli arg2 c640_i32
  let v58 : BitVec 32 := v57
  let v65 : Index := Scalar.indexCast v58
  let c0_34 : Index := 0#32
  ![v65.toNat, 0]
def k0_cond8 (i : grid0.Coords) : BitVec 1 :=
  let arg2 : BitVec 32 := BitVec.ofNat 32 (i 2).val
  let c12_i32 : BitVec 32 := 12#32
  let v15 : BitVec 1 := Scalar.cmpi .eq arg2 c12_i32
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S640x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S640x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "masked" => some ⊥
  | _ => none
-- ==== ReferenceIdeal.lean ====
abbrev S8320x8x128 : Shape := ⟨3, ![8320, 8, 128]⟩
abbrev S8320x8x64 : Shape := ⟨3, ![8320, 8, 64]⟩
abbrev S8320x64 : Shape := ⟨2, ![8320, 64]⟩
abbrev S8208x1024 : Shape := ⟨2, ![8208, 1024]⟩
abbrev S8320x1x64 : Shape := ⟨3, ![8320, 1, 64]⟩
abbrev S_ : Shape := ⟨0, ![]⟩
abbrev S8208x8x128 : Shape := ⟨3, ![8208, 8, 128]⟩
abbrev S8208x8x64 : Shape := ⟨3, ![8208, 8, 64]⟩
abbrev S8x8208x8208 : Shape := ⟨3, ![8, 8208, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x128x8208 : Shape := ⟨3, ![8, 128, 8208]⟩
abbrev S8x8208x64 : Shape := ⟨3, ![8, 8208, 64]⟩
abbrev S8x8208x128 : Shape := ⟨3, ![8, 8208, 128]⟩
abbrev S8320x8x192 : Shape := ⟨3, ![8320, 8, 192]⟩
abbrev S8320x8x256 : Shape := ⟨3, ![8320, 8, 256]⟩
abbrev S8320x2048 : Shape := ⟨2, ![8320, 2048]⟩
abbrev S8320x1024 : Shape := ⟨2, ![8320, 1024]⟩

abbrev nBuf : Space → Nat
  | .hbm => 129
  | .vmem => 0
  | .smem => 0
  | _ => 0

abbrev hbmTy0_0 (i : Nat) : BufTy := match i % 128 with
  | 0 => ⟨S8320x8x128, .f32⟩
  | 1 => ⟨S8320x8x64, .f32⟩
  | 2 => ⟨S8320x8x128, .f32⟩
  | 3 => ⟨S8320x64, .f32⟩
  | 4 => ⟨S8320x8x128, .f32⟩
  | 5 => ⟨S8208x1024, .f32⟩
  | 6 => ⟨S8320x1x64, .f32⟩
  | 7 => ⟨S8320x8x64, .f32⟩
  | 8 => ⟨S_, .f32⟩
  | 9 => ⟨S8320x8x128, .f32⟩
  | 10 => ⟨S8320x8x128, .f32⟩
  | 11 => ⟨S_, .f32⟩
  | 12 => ⟨S8320x8x64, .f32⟩
  | 13 => ⟨S8320x8x64, .f32⟩
  | 14 => ⟨S8208x8x128, .f32⟩
  | 15 => ⟨S8208x8x64, .f32⟩
  | 16 => ⟨S8208x8x128, .f32⟩
  | 17 => ⟨S8208x8x64, .f32⟩
  | 18 => ⟨S8208x8x128, .f32⟩
  | 19 => ⟨S8x8208x8208, .f32⟩
  | 20 => ⟨S8x8208x8208, .f32⟩
  | 21 => ⟨S8x8208x8208, .f32⟩
  | 22 => ⟨S8208, .i32⟩
  | 23 => ⟨S1x8208, .i32⟩
  | 24 => ⟨S8208x1, .i32⟩
  | 25 => ⟨S8208x8208, .i32⟩
  | 26 => ⟨S8208x8208, .i32⟩
  | 27 => ⟨S8208x8208, .i1⟩
  | 28 => ⟨S_, .f32⟩
  | 29 => ⟨S_, .f32⟩
  | 30 => ⟨S8x8208x8208, .i1⟩
  | 31 => ⟨S8x8208x8208, .f32⟩
  | 32 => ⟨S8x8208x8208, .f32⟩
  | 33 => ⟨S_, .f32⟩
  | 34 => ⟨S8x8208x8208, .f32⟩
  | 35 => ⟨S_, .f32⟩
  | 36 => ⟨S8x8208, .f32⟩
  | 37 => ⟨S8x8208x1, .f32⟩
  | 38 => ⟨S8x8208x8208, .f32⟩
  | 39 => ⟨S8x8208x8208, .i1⟩
  | 40 => ⟨S8x8208x8208, .f32⟩
  | 41 => ⟨S_, .f32⟩
  | 42 => ⟨S8x8208, .f32⟩
  | 43 => ⟨S_, .f32⟩
  | 44 => ⟨S8x8208, .f32⟩
  | 45 => ⟨S8x8208, .f32⟩
  | 46 => ⟨S_, .f32⟩
  | 47 => ⟨S8x8208, .f32⟩
  | 48 => ⟨S8x8208, .i1⟩
  | 49 => ⟨S_, .f32⟩
  | 50 => ⟨S8x8208, .f32⟩
  | 51 => ⟨S8x8208, .i1⟩
  | 52 => ⟨S_, .f32⟩
  | 53 => ⟨S8x8208, .f32⟩
  | 54 => ⟨S_, .f32⟩
  | 55 => ⟨S8x8208, .f32⟩
  | 56 => ⟨S_, .f32⟩
  | 57 => ⟨S8x8208, .f32⟩
  | 58 => ⟨S8x8208, .f32⟩
  | 59 => ⟨S8x8208, .f32⟩
  | 60 => ⟨S8x8208x1, .f32⟩
  | 61 => ⟨S8x8208x8208, .f32⟩
  | 62 => ⟨S8x8208x8208, .f32⟩
  | 63 => ⟨S8x8208x8208, .f32⟩
  | 64 => ⟨S_, .f32⟩
  | 65 => ⟨S8x8208, .f32⟩
  | 66 => ⟨S8x8208x1, .f32⟩
  | 67 => ⟨S8x8208x8208, .f32⟩
  | 68 => ⟨S8x8208x8208, .f32⟩
  | 69 => ⟨S8x8208x1, .f32⟩
  | 70 => ⟨S_, .f32⟩
  | 71 => ⟨S8x8208x1, .f32⟩
  | 72 => ⟨S8x8208x1, .f32⟩
  | 73 => ⟨S8x128x8208, .f32⟩
  | 74 => ⟨S8208x8x128, .f32⟩
  | 75 => ⟨S8208x1024, .f32⟩
  | 76 => ⟨S8208x8x128, .f32⟩
  | 77 => ⟨S8x128x8208, .f32⟩
  | 78 => ⟨S8x8208x8208, .f32⟩
  | 79 => ⟨S8x128x8208, .f32⟩
  | 80 => ⟨S8208x8x128, .f32⟩
  | 81 => ⟨S8x8208x8208, .f32⟩
  | 82 => ⟨S8x8208x8208, .f32⟩
  | 83 => ⟨S8x8208x8208, .f32⟩
  | 84 => ⟨S_, .f32⟩
  | 85 => ⟨S8x8208, .f32⟩
  | 86 => ⟨S8x8208x1, .f32⟩
  | 87 => ⟨S8x8208x1, .f32⟩
  | 88 => ⟨S8x8208x8208, .f32⟩
  | 89 => ⟨S8x8208x8208, .f32⟩
  | 90 => ⟨S_, .f32⟩
  | 91 => ⟨S8x8208, .f32⟩
  | 92 => ⟨S8x8208x8208, .f32⟩
  | 93 => ⟨S8x8208x8208, .f32⟩
  | 94 => ⟨S8x8208x8208, .f32⟩
  | 95 => ⟨S_, .f32⟩
  | 96 => ⟨S8x8208x8208, .f32⟩
  | 97 => ⟨S8x8208x8208, .f32⟩
  | 98 => ⟨S8x8208x64, .f32⟩
  | 99 => ⟨S8208x8x64, .f32⟩
  | 100 => ⟨S8x8208x64, .f32⟩
  | 101 => ⟨S8208x8x64, .f32⟩
  | 102 => ⟨S8x8208x128, .f32⟩
  | 103 => ⟨S8208x8x128, .f32⟩
  | 104 => ⟨S8x8208x128, .f32⟩
  | 105 => ⟨S8208x8x128, .f32⟩
  | 106 => ⟨S_, .f32⟩
  | 107 => ⟨S8320x8x128, .f32⟩
  | 108 => ⟨S_, .f32⟩
  | 109 => ⟨S8320x8x64, .f32⟩
  | 110 => ⟨S_, .f32⟩
  | 111 => ⟨S8320x8x128, .f32⟩
  | 112 => ⟨S_, .f32⟩
  | 113 => ⟨S8320x8x64, .f32⟩
  | 114 => ⟨S_, .f32⟩
  | 115 => ⟨S8320x8x128, .f32⟩
  | 116 => ⟨S8320x8x192, .f32⟩
  | 117 => ⟨S_, .i32⟩
  | 118 => ⟨S_, .f32⟩
  | 119 => ⟨S8320x8x256, .f32⟩
  | 120 => ⟨S8320x2048, .f32⟩
  | 121 => ⟨S8320x1024, .f32⟩
  | 122 => ⟨S8320x1024, .bf16⟩
  | 123 => ⟨S_, .i32⟩
  | 124 => ⟨S_, .f32⟩
  | 125 => ⟨S8320x8x128, .f32⟩
  | 126 => ⟨S8320x1024, .f32⟩
  | 127 => ⟨S8320x1024, .f32⟩
  | _ => ⟨S8320x8x128, .f32⟩

abbrev hbmTy0_1 (i : Nat) : BufTy := match i % 128 with
  | 0 => ⟨S8320x1024, .bf16⟩
  | _ => ⟨S8320x8x128, .f32⟩

abbrev hbmTy (i : Nat) : BufTy := match i / 128 with
  | 0 => hbmTy0_0 i
  | 1 => hbmTy0_1 i
  | _ => ⟨S8320x8x128, .f32⟩

abbrev bufTy : (tb : Table) → Fin (tcTables nBuf tb) → BufTy
  | .hbm, ⟨i, _⟩ => hbmTy i
  | _, _ => ⟨S8320x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_call0_v0 : Ref sig .tc := ⟨.hbm, 29, rfl⟩
abbrev main_v20_1 : Ref sig .tc := ⟨.hbm, 30, rfl⟩
abbrev main_call0_v2 : Ref sig .tc := ⟨.hbm, 31, rfl⟩
abbrev main_v20_0 : Ref sig .tc := ⟨.hbm, 32, rfl⟩
abbrev main_call0_cst : Ref sig .tc := ⟨.hbm, 33, rfl⟩
abbrev main_v20_2 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_cst_18 : Ref sig .tc := ⟨.hbm, 114, rfl⟩
abbrev main_v82 : Ref sig .tc := ⟨.hbm, 115, rfl⟩
abbrev main_v83 : Ref sig .tc := ⟨.hbm, 116, rfl⟩
abbrev main_c : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_call3_v0 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Kernel2.lean ====
abbrev S1024x8448 : Shape := ⟨2, ![1024, 8448]⟩
abbrev S8320x8448 : Shape := ⟨2, ![8320, 8448]⟩
abbrev S8320x1024 : Shape := ⟨2, ![8320, 1024]⟩
abbrev S832x2816 : Shape := ⟨2, ![832, 2816]⟩
abbrev S1024x2816 : Shape := ⟨2, ![1024, 2816]⟩
abbrev S832x1024 : Shape := ⟨2, ![832, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x8448, .f32⟩
  | .hbm, ⟨1, _⟩ => ⟨S8320x8448, .f32⟩
  | .hbm, ⟨2, _⟩ => ⟨S8320x1024, .f32⟩
  | .hbm, ⟨3, _⟩ => ⟨S8320x8448, .bf16⟩
  | .hbm, ⟨4, _⟩ => ⟨S1024x8448, .bf16⟩
  | .hbm, ⟨5, _⟩ => ⟨S8320x1024, .f32⟩
  | .local _ .vmem, ⟨0, _⟩ => ⟨S832x2816, .bf16⟩
  | .local _ .vmem, ⟨1, _⟩ => ⟨S832x2816, .bf16⟩
  | .local _ .vmem, ⟨2, _⟩ => ⟨S1024x2816, .bf16⟩
  | .local _ .vmem, ⟨3, _⟩ => ⟨S1024x2816, .bf16⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S832x1024, .f32⟩
  | .local _ .vmem, ⟨8, _⟩ => ⟨S832x1024, .f32⟩
  | _, _ => ⟨S1024x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S1024x8448 : Shape := ⟨2, ![1024, 8448]⟩
abbrev S8320x8448 : Shape := ⟨2, ![8320, 8448]⟩
abbrev S8320x1024 : Shape := ⟨2, ![8320, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x8448, .f32⟩
  | .hbm, ⟨1, _⟩ => ⟨S8320x8448, .f32⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S8320x8448, .f32⟩
  | .hbm, ⟨6, _⟩ => ⟨S8320x1024, .f32⟩
  | .hbm, ⟨7, _⟩ => ⟨S8320x1024, .f32⟩
  | _, _ => ⟨S1024x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S8320x1024 : Shape := ⟨2, ![8320, 1024]⟩
abbrev S8320x8448 : Shape := ⟨2, ![8320, 8448]⟩
abbrev S1024x8448 : Shape := ⟨2, ![1024, 8448]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x8448, .f32⟩
  | .hbm, ⟨2, _⟩ => ⟨S8320x1024, .bf16⟩
  | .hbm, ⟨3, _⟩ => ⟨S8320x8448, .bf16⟩
  | .hbm, ⟨4, _⟩ => ⟨S1024x8448, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x1024 : Shape := ⟨2, ![8320, 1024]⟩
abbrev S8320x8448 : Shape := ⟨2, ![8320, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x8448, .f32⟩
  | .hbm, ⟨2, _⟩ => ⟨S_, .f32⟩
  | .hbm, ⟨3, _⟩ => ⟨S1024x8448, .f32⟩
  | .hbm, ⟨4, _⟩ => ⟨S8320x8448, .f32⟩
  | .hbm, ⟨5, _⟩ => ⟨S8448x1024, .f32⟩
  | .hbm, ⟨6, _⟩ => ⟨S1024x8448, .f32⟩
  | .hbm, ⟨7, _⟩ => ⟨S1024x8448, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8320x1024 : Shape := ⟨2, ![8320, 1024]⟩
abbrev S1024x8448 : Shape := ⟨2, ![1024, 8448]⟩
abbrev S8320x8448 : Shape := ⟨2, ![8320, 8448]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x8448, .f32⟩
  | .hbm, ⟨2, _⟩ => ⟨S8320x1024, .bf16⟩
  | .hbm, ⟨3, _⟩ => ⟨S1024x8448, .bf16⟩
  | .hbm, ⟨4, _⟩ => ⟨S8320x8448, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S1024x8448 : Shape := ⟨2, ![1024, 8448]⟩
abbrev S8320x8448 : Shape := ⟨2, ![8320, 8448]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x8448, .f32⟩
  | .hbm, ⟨2, _⟩ => ⟨S8320x8448, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x1024, .bf16⟩
  | .hbm, ⟨3, _⟩ => ⟨S1024x5632, .bf16⟩
  | .hbm, ⟨4, _⟩ => ⟨S8320x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .bf16⟩
  | .local _ .vmem, ⟨5, _⟩ => ⟨S1664x1408, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x5632, .f32⟩
  | .hbm, ⟨2, _⟩ => ⟨S8320x5632, .f32⟩
  | .hbm, ⟨3, _⟩ => ⟨S8320x5632, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S1024x5632 : Shape := ⟨2, ![1024, 5632]⟩
abbrev S8320x5632 : Shape := ⟨2, ![8320, 5632]⟩
abbrev S8320x1024 : Shape := ⟨2, ![8320, 1024]⟩
abbrev S832x2816 : Shape := ⟨2, ![832, 2816]⟩
abbrev S1024x2816 : Shape := ⟨2, ![1024, 2816]⟩
abbrev S832x1024 : Shape := ⟨2, ![832, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x5632, .f32⟩
  | .hbm, ⟨1, _⟩ => ⟨S8320x5632, .f32⟩
  | .hbm, ⟨2, _⟩ => ⟨S8320x1024, .f32⟩
  | .hbm, ⟨3, _⟩ => ⟨S8320x5632, .bf16⟩
  | .hbm, ⟨4, _⟩ => ⟨S1024x5632, .bf16⟩
  | .hbm, ⟨5, _⟩ => ⟨S8320x1024, .f32⟩
  | .local _ .vmem, ⟨0, _⟩ => ⟨S832x2816, .bf16⟩
  | .local _ .vmem, ⟨1, _⟩ => ⟨S832x2816, .bf16⟩
  | .local _ .vmem, ⟨2, _⟩ => ⟨S1024x2816, .bf16⟩
  | .local _ .vmem, ⟨3, _⟩ => ⟨S1024x2816, .bf16⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S832x1024, .f32⟩
  | .local _ .vmem, ⟨8, _⟩ => ⟨S832x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S1024x5632 : Shape := ⟨2, ![1024, 5632]⟩
abbrev S8320x5632 : Shape := ⟨2, ![8320, 5632]⟩
abbrev S8320x1024 : Shape := ⟨2, ![8320, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8320x5632, .f32⟩
  | .hbm, ⟨2, _⟩ => ⟨S8320x1024, .f32⟩
  | .hbm, ⟨3, _⟩ => ⟨S_, .f32⟩
  | .hbm, ⟨4, _⟩ => ⟨S8320x1024, .f32⟩
  | .hbm, ⟨5, _⟩ => ⟨S8320x5632, .f32⟩
  | .hbm, ⟨6, _⟩ => ⟨S8320x1024, .f32⟩
  | .hbm, ⟨7, _⟩ => ⟨S8320x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8320x1024 : Shape := ⟨2, ![8320, 1024]⟩
abbrev S8320x5632 : Shape := ⟨2, ![8320, 5632]⟩
abbrev S1024x5632 : Shape := ⟨2, ![1024, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x5632, .f32⟩
  | .hbm, ⟨2, _⟩ => ⟨S8320x1024, .bf16⟩
  | .hbm, ⟨3, _⟩ => ⟨S8320x5632, .bf16⟩
  | .hbm, ⟨4, _⟩ => ⟨S1024x5632, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x1024 : Shape := ⟨2, ![8320, 1024]⟩
abbrev S8320x5632 : Shape := ⟨2, ![8320, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x5632, .f32⟩
  | .hbm, ⟨2, _⟩ => ⟨S_, .f32⟩
  | .hbm, ⟨3, _⟩ => ⟨S1024x5632, .f32⟩
  | .hbm, ⟨4, _⟩ => ⟨S8320x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8320x2816 : Shape := ⟨2, ![8320, 2816]⟩
abbrev S2816x1024 : Shape := ⟨2, ![2816, 1024]⟩
abbrev S8320x1024 : Shape := ⟨2, ![8320, 1024]⟩
abbrev S1040x2816 : Shape := ⟨2, ![1040, 2816]⟩
abbrev S1040x1024 : Shape := ⟨2, ![1040, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x2816, .bf16⟩
  | .hbm, ⟨3, _⟩ => ⟨S2816x1024, .bf16⟩
  | .hbm, ⟨4, _⟩ => ⟨S8320x1024, .f32⟩
  | .local _ .vmem, ⟨0, _⟩ => ⟨S1040x2816, .bf16⟩
  | .local _ .vmem, ⟨1, _⟩ => ⟨S1040x2816, .bf16⟩
  | .local _ .vmem, ⟨2, _⟩ => ⟨S2816x1024, .bf16⟩
  | .local _ .vmem, ⟨3, _⟩ => ⟨S1040x1024, .f32⟩
  | .local _ .vmem, ⟨4, _⟩ => ⟨S1040x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S2816x1024, .f32⟩
  | .hbm, ⟨2, _⟩ => ⟨S8320x1024, .f32⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S2816x1024 : Shape := ⟨2, ![2816, 1024]⟩
abbrev S8320x1024 : Shape := ⟨2, ![8320, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8320x1024, .f32⟩
  | .hbm, ⟨2, _⟩ => ⟨S8320x1024, .bf16⟩
  | .hbm, ⟨3, _⟩ => ⟨S2816x1024, .bf16⟩
  | .hbm, ⟨4, _⟩ => ⟨S8320x2816, .bf16⟩
  | .local _ .vmem, ⟨0, _⟩ => ⟨S1664x1024, .bf16⟩
  | .local _ .vmem, ⟨1, _⟩ => ⟨S1664x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1408, .bf16⟩
  | .local _ .vmem, ⟨5, _⟩ => ⟨S1664x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2816x1024 : Shape := ⟨2, ![2816, 1024]⟩
abbrev S8320x1024 : Shape := ⟨2, ![8320, 1024]⟩
abbrev S_ : Shape := ⟨0, ![]⟩
abbrev S8320x2816 : Shape := ⟨2, ![8320, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8320x1024, .f32⟩
  | .hbm, ⟨2, _⟩ => ⟨S_, .f32⟩
  | .hbm, ⟨3, _⟩ => ⟨S8320x2816, .f32⟩
  | .hbm, ⟨4, _⟩ => ⟨S8320x1024, .f32⟩
  | .hbm, ⟨5, _⟩ => ⟨S8320x2816, .f32⟩
  | .hbm, ⟨6, _⟩ => ⟨S8320x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8320x2816, .f32⟩
  | .hbm, ⟨1, _⟩ => ⟨S8320x1024, .f32⟩
  | .hbm, ⟨2, _⟩ => ⟨S8320x2816, .bf16⟩
  | .hbm, ⟨3, _⟩ => ⟨S8320x1024, .bf16⟩
  | .hbm, ⟨4, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S1024x1024, .bf16⟩
  | .hbm, ⟨3, _⟩ => ⟨S8320x1024, .f32⟩
  | .local _ .vmem, ⟨0, _⟩ => ⟨S1664x1024, .f32⟩
  | .local _ .vmem, ⟨1, _⟩ => ⟨S1664x1024, .f32⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S1024x1024 : Shape := ⟨2, ![1024, 1024]⟩
abbrev S8320x1024 : Shape := ⟨2, ![8320, 1024]⟩
abbrev S1664x1024 : Shape := ⟨2, ![1664, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8320x1024, .f32⟩
  | .hbm, ⟨2, _⟩ => ⟨S8320x1024, .bf16⟩
  | .hbm, ⟨3, _⟩ => ⟨S1024x1024, .bf16⟩
  | .hbm, ⟨4, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S8320x1024 : Shape := ⟨2, ![8320, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8320x1024, .f32⟩
  | .hbm, ⟨2, _⟩ => ⟨S_, .f32⟩
  | .hbm, ⟨3, _⟩ => ⟨S8320x1024, .f32⟩
  | .hbm, ⟨4, _⟩ => ⟨S8320x1024, .f32⟩
  | .hbm, ⟨5, _⟩ => ⟨S8320x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .bf16⟩
  | .hbm, ⟨3, _⟩ => ⟨S1024x1024, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8320x2048 : Shape := ⟨2, ![8320, 2048]⟩
abbrev S2048x1024 : Shape := ⟨2, ![2048, 1024]⟩
abbrev S8320x1024 : Shape := ⟨2, ![8320, 1024]⟩
abbrev S1040x2048 : Shape := ⟨2, ![1040, 2048]⟩
abbrev S1040x1024 : Shape := ⟨2, ![1040, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048x1024, .f32⟩
  | .hbm, ⟨2, _⟩ => ⟨S8320x2048, .bf16⟩
  | .hbm, ⟨3, _⟩ => ⟨S2048x1024, .bf16⟩
  | .hbm, ⟨4, _⟩ => ⟨S8320x1024, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .bf16⟩
  | .local _ .vmem, ⟨3, _⟩ => ⟨S1040x1024, .f32⟩
  | .local _ .vmem, ⟨4, _⟩ => ⟨S1040x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x1024, .f32⟩
  | .hbm, ⟨2, _⟩ => ⟨S8320x1024, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x1024 : Shape := ⟨2, ![2048, 1024]⟩
abbrev S8320x1024 : Shape := ⟨2, ![8320, 1024]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8320x1024, .f32⟩
  | .hbm, ⟨2, _⟩ => ⟨S8320x1024, .bf16⟩
  | .hbm, ⟨3, _⟩ => ⟨S2048x1024, .bf16⟩
  | .hbm, ⟨4, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .f32⟩
  | .local _ .vmem, ⟨5, _⟩ => ⟨S1664x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S8320x1024 : Shape := ⟨2, ![8320, 1024]⟩
abbrev S_ : Shape := ⟨0, ![]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8320x1024, .f32⟩
  | .hbm, ⟨2, _⟩ => ⟨S_, .f32⟩
  | .hbm, ⟨3, _⟩ => ⟨S8320x2048, .f32⟩
  | .hbm, ⟨4, _⟩ => ⟨S8320x1024, .f32⟩
  | .hbm, ⟨5, _⟩ => ⟨S8320x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8320x2048 : Shape := ⟨2, ![8320, 2048]⟩
abbrev S8320x1024 : Shape := ⟨2, ![8320, 1024]⟩
abbrev S2048x1024 : Shape := ⟨2, ![2048, 1024]⟩
abbrev S1664x1024 : Shape := ⟨2, ![1664, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S8320x2048, .bf16⟩
  | .hbm, ⟨3, _⟩ => ⟨S8320x1024, .bf16⟩
  | .hbm, ⟨4, _⟩ => ⟨S2048x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x2048 : Shape := ⟨2, ![8320, 2048]⟩
abbrev S8320x1024 : Shape := ⟨2, ![8320, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S_, .f32⟩
  | .hbm, ⟨3, _⟩ => ⟨S2048x1024, .f32⟩
  | .hbm, ⟨4, _⟩ => ⟨S8320x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ideal.Conds.lean ====
/-
  The points of the attention gradient's grid.

  Point `t` of the grid (8, 13, 13) is head `t / 169`, key block `t / 13 % 13`, query block `t % 13`, the query
  blocks innermost. Here: the body's branch conditions in closed form over the point, the memrefs the body runs on, and
  what the region lends a point besides the windows.
-/
module

public import proofs.«01_k».proof.Proof.Gen.KernelIdeal.Frame
public import proofs.«01_k».proof.Proof.Gen.KernelIdeal.Skeleton

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The head, the key block and the query block of a point. -/
abbrev hd (t : Fin cfg0.N) : ℕ := t.val / 169
abbrev kb (t : Fin cfg0.N) : ℕ := t.val / 13 % 13
abbrev qb (t : Fin cfg0.N) : ℕ := t.val % 13

/-- A key block's first point: the two accumulators are cleared. -/
abbrev Reset (i : grid0.Coords) : Prop :=
  (Scalar.cmpi .ne (Scalar.extui (Scalar.cmpi .eq (BitVec.ofNat 32 (i 2).val) 0#32)) 0#32) = 1#1

theorem reset_iff : ∀ t : Fin cfg0.N, Reset (grid0.coords t) ↔ qb t = 0 :=
  (by decide +kernel : ∀ t : Fin grid0.N, Reset (grid0.coords t) ↔ t.val % 13 = 0)

/-- A tile on the diagonal, or of the first key block (which holds the padding): the masked step. -/
theorem masked_iff : ∀ t : Fin cfg0.N, k0_cond2 (grid0.coords t) = 1#1 ↔ kb t = 0 ∨ kb t = qb t :=
  (by decide +kernel : ∀ t : Fin grid0.N,
    k0_cond2 (grid0.coords t) = 1#1 ↔ t.val / 13 % 13 = 0 ∨ t.val / 13 % 13 = t.val % 13)
theorem first_iff : ∀ t : Fin cfg0.N, k0_cond3 (grid0.coords t) = 1#1 ↔ kb t = 0 :=
  (by decide +kernel : ∀ t : Fin grid0.N, k0_cond3 (grid0.coords t) = 1#1 ↔ t.val / 13 % 13 = 0)
theorem later_iff : ∀ t : Fin cfg0.N, k0_cond4 (grid0.coords t) = 1#1 ↔ 0 < kb t :=
  (by decide +kernel : ∀ t : Fin grid0.N, k0_cond4 (grid0.coords t) = 1#1 ↔ 0 < t.val / 13 % 13)
/-- A tile off the diagonal, of a later key block: the step without a mask. -/
theorem plain_iff : ∀ t : Fin cfg0.N, k0_cond5 (grid0.coords t) = 1#1 ↔ 0 < kb t ∧ kb t < qb t :=
  (by decide +kernel : ∀ t : Fin grid0.N,
    k0_cond5 (grid0.coords t) = 1#1 ↔ 0 < t.val / 13 % 13 ∧ t.val / 13 % 13 < t.val % 13)
theorem first'_iff : ∀ t : Fin cfg0.N, k0_cond6 (grid0.coords t) = 1#1 ↔ kb t = 0 :=
  (by decide +kernel : ∀ t : Fin grid0.N, k0_cond6 (grid0.coords t) = 1#1 ↔ t.val / 13 % 13 = 0)
theorem later'_iff : ∀ t : Fin cfg0.N, k0_cond7 (grid0.coords t) = 1#1 ↔ 0 < kb t :=
  (by decide +kernel : ∀ t : Fin grid0.N, k0_cond7 (grid0.coords t) = 1#1 ↔ 0 < t.val / 13 % 13)
/-- A key block's last point: the two accumulators are written out. -/
theorem last_iff : ∀ t : Fin cfg0.N, k0_cond8 (grid0.coords t) = 1#1 ↔ qb t = 12 :=
  (by decide +kernel : ∀ t : Fin grid0.N, k0_cond8 (grid0.coords t) = 1#1 ↔ t.val % 13 = 12)

end Cert.KernelIdeal.Grad

end
-- ==== Proof.Ideal.Steps.lean ====
/-
  What one point of the attention gradient computes.

  A point reads seven blocks: `x0` the queries (scaled, rotary part included), `x1`, `x2` the two parts of a head's keys,
  `x3` its values, `x4` the cotangent of the attention's result, `x5`, `x6` the rows of the log sums of exponentials and
  of delta (the same row eight times). Its tile adds to the two accumulators and to the rows of the queries' gradient;
  here are those sums, as functions of the blocks and of what they are added to, over the body's named payloads.
-/
module

public import proofs.«01_k».proof.Proof.Ideal.Conds
public import Mathlib.Tactic.IntervalCases
public import Idealize.ShloMosaic.Lib.VecWindow
public import Idealize.ShloMosaic.Lib.WholeRead

@[expose] public section

set_option maxRecDepth 16384

noncomputable section

namespace Cert.KernelIdeal.Grad

open Cert.KernelIdeal Cert.KernelIdeal.Gen
open Idealize.ShloMosaic Idealize.ShloMosaic.TcCoe

variable {F : FTy → Type} [FloatOps F] [Named F]

/-! ## The parts of a block the body reads -/

/-- The first of a statistic's eight equal rows. -/
def row (x : Vec F S8x640 .f32) : Vec F S1x640 .f32 :=
  VecWindow.window x ![0, 0] ![1, 640] inb_S8x640_S1x640_0_0

/-- The first and the second half of the keys' accumulator's lanes. -/
def left (d : Vec F S640x256 .f32) : Vec F S640x128 .f32 :=
  VecWindow.window d ![0, 0] ![640, 128] inb_S640x256_S640x128_0_0
def right (d : Vec F S640x256 .f32) : Vec F S640x128 .f32 :=
  VecWindow.window d ![0, 128] ![640, 128] inb_S640x256_S640x128_0_128

/-- Where query block `i 2`'s rows begin in the queries' gradient. -/
abbrev off (i : grid0.Coords) : Fin 2 → ℕ := ![640 * (i 2).val, 0]

theorem off_inb (i : grid0.Coords) : ∀ a, off i a + (![640, 256] : Fin 2 → ℕ) a ≤ S8320x256.size a := by
  have h : (i 2).val < 13 := (i 2).isLt
  intro a
  match a with
  | 0 => show 640 * (i 2).val + 640 ≤ 8320; omega
  | 1 => exact le_refl _

/-- Query block `i 2`'s rows of the queries' gradient, and the gradient with those rows replaced. -/
def rows (i : grid0.Coords) (y : Vec F S8320x256 .f32) : Vec F S640x256 .f32 :=
  VecWindow.window y (off i) ![640, 256] (off_inb i)
def putRows (i : grid0.Coords) (y : Vec F S8320x256 .f32) (w : Vec F S640x256 .f32) : Vec F S8320x256 .f32 :=
  VecWindow.put y (off i) ![640, 256] w

theorem word_off (n : ℕ) (h : n < 13) :
    (![(Scalar.indexCast (Scalar.muli (BitVec.ofNat 32 n) 640#32)).toNat, 0] : Fin 2 → ℕ) = ![640 * n, 0] := by
  interval_cases n <;> rfl

theorem off1_eq (i : grid0.Coords) : k0_off1 i = off i := word_off _ (i 2).isLt
theorem off2_eq (i : grid0.Coords) : k0_off2 i = off i := word_off _ (i 2).isLt
theorem off3_eq (i : grid0.Coords) : k0_off3 i = off i := word_off _ (i 2).isLt
theorem off4_eq (i : grid0.Coords) : k0_off4 i = off i := word_off _ (i 2).isLt

/-! ## The masked tile -/

section Tile

variable (i : grid0.Coords) (x0 : Vec F S640x256 .bf16) (x1 x2 x3 : Vec F S640x128 .bf16) (x4 : Vec F S640x128 .f32)
  (x5 x6 : Vec F S8x640 .f32)

/-- The tile's probabilities, keys down and queries across. -/
def probM : FVec F S640x640 .f32 :=
  k0_pay14 (BitVec.ofNat 32 (i 1).val) (BitVec.ofNat 32 (i 2).val) x0 x1 x2 (row x5)
/-- The values' accumulator, the keys' accumulator and the tile's part of the queries' gradient. -/
def dvM (e : Vec F S640x128 .f32) : Vec F S640x128 .f32 :=
  k0_pay16 (BitVec.ofNat 32 (i 1).val) (BitVec.ofNat 32 (i 2).val) x0 x1 x2 (row x5) x4 e
def dkM (d : Vec F S640x256 .f32) : Vec F S640x256 .f32 :=
  k0_pay4 (k0_pay12 x0) (probM i x0 x1 x2 x5) (k0_pay15 x4) x3 (row x6) d
def dqM : Vec F S640x256 .f32 :=
  k0_pay5 (k0_pay13 x1 x2) (probM i x0 x1 x2 x5) (k0_pay15 x4) x3 (row x6)
def dqM' (y : Vec F S640x256 .f32) : Vec F S640x256 .f32 :=
  k0_pay6 (k0_pay13 x1 x2) (probM i x0 x1 x2 x5) (k0_pay15 x4) x3 (row x6) y

/-! ## The tile without a mask -/

def dvP (e : Vec F S640x128 .f32) : Vec F S640x128 .f32 := k0_pay21 x0 x1 x2 (row x5) x4 e
def dkP (d : Vec F S640x256 .f32) : Vec F S640x256 .f32 := k0_pay7 (k0_pay23 x0 x1 x2 (row x5) x4 x3 (row x6) d)
def dqP' (y : Vec F S640x256 .f32) : Vec F S640x256 .f32 :=
  k0_pay9 (k0_pay18 x1 x2) (k0_pay22 x0 x1 x2 (row x5) x4 x3 (row x6)) y

/-! ## The point's whole step -/

/-- The keys' and the values' accumulator after the point: cleared first at a key block's first point, added to by the
    tile the point takes, if it takes one. -/
def dkStep (d : Vec F S640x256 .f32) : Vec F S640x256 .f32 :=
  let d₀ := if Reset i then k0_pay1 else d
  if k0_cond2 i = 1#1 then dkM i x0 x1 x2 x3 x4 x5 x6 d₀ else if k0_cond5 i = 1#1 then dkP x0 x1 x2 x3 x4 x5 x6 d₀ else d₀
def dvStep (e : Vec F S640x128 .f32) : Vec F S640x128 .f32 :=
  let e₀ := if Reset i then k0_pay2 else e
  if k0_cond2 i = 1#1 then dvM i x0 x1 x2 x4 x5 e₀ else if k0_cond5 i = 1#1 then dvP x0 x1 x2 x4 x5 e₀ else e₀
/-- The queries' gradient after the point: the query block's rows stored by the first key block, added to by the later. -/
def dqStep (y : Vec F S8320x256 .f32) : Vec F S8320x256 .f32 :=
  if k0_cond2 i = 1#1 then
    if k0_cond3 i = 1#1 then putRows i y (dqM i x0 x1 x2 x3 x4 x5 x6)
    else putRows i y (dqM' i x0 x1 x2 x3 x4 x5 x6 (rows i y))
  else if k0_cond5 i = 1#1 then putRows i y (dqP' x0 x1 x2 x3 x4 x5 x6 (rows i y)) else y
/-- The three results a key block's last point writes out, from the accumulators it leaves. -/
def knOut (d' : Vec F S640x256 .f32) (y : Vec F S640x128 .bf16) : Vec F S640x128 .bf16 :=
  if k0_cond8 i = 1#1 then k0_pay10 (left d') else y
def krOut (d' : Vec F S640x256 .f32) (y : Vec F S640x128 .f32) : Vec F S640x128 .f32 :=
  if k0_cond8 i = 1#1 then right d' else y
def vOut (e' : Vec F S640x128 .f32) (y : Vec F S640x128 .bf16) : Vec F S640x128 .bf16 :=
  if k0_cond8 i = 1#1 then k0_pay11 e' else y

end Tile

/-! ## Whole loads and stores -/

section Whole

variable {κ : Kind} {sp : Space} {e : EltTy}

theorem readAt_256 (v : View sig κ sp S640x256 e) (f : v.ty.Contents (Elt F)) (inb) :
    v.readAt (Elt F) (Rect.unit (s := S640x256) ![0, 0] ![640, 256] inb).toLoadRect f = v.read (Elt F) f :=
  View.readAt_full v f inb
theorem readAt_128 (v : View sig κ sp S640x128 e) (f : v.ty.Contents (Elt F)) (inb) :
    v.readAt (Elt F) (Rect.unit (s := S640x128) ![0, 0] ![640, 128] inb).toLoadRect f = v.read (Elt F) f :=
  View.readAt_full v f inb
theorem readCov_256 (v : View sig κ sp S640x256 e) (inb inb') (w) (L) :
    v.readCov (Val := Elt F) (⟨Rect.unit (s := S640x256) ![0, 0] ![640, 256] inb, w⟩ :: L)
      (Rect.unit (s := S640x256) ![0, 0] ![640, 256] inb').toLoadRect = w :=
  View.readCov_full v inb' inb w L
theorem readCov_128 (v : View sig κ sp S640x128 e) (inb inb') (w) (L) :
    v.readCov (Val := Elt F) (⟨Rect.unit (s := S640x128) ![0, 0] ![640, 128] inb, w⟩ :: L)
      (Rect.unit (s := S640x128) ![0, 0] ![640, 128] inb').toLoadRect = w :=
  View.readCov_full v inb' inb w L
theorem writes_256 (v : View sig κ sp S640x256 e) (f : v.ty.Contents (Elt F)) (inb) (w) (L) :
    v.read (Elt F) (v.writes (Elt F) f (⟨Rect.unit (s := S640x256) ![0, 0] ![640, 256] inb, w⟩ :: L)) = w :=
  View.read_writes_full v f inb w L
theorem writes_128 (v : View sig κ sp S640x128 e) (f : v.ty.Contents (Elt F)) (inb) (w) (L) :
    v.read (Elt F) (v.writes (Elt F) f (⟨Rect.unit (s := S640x128) ![0, 0] ![640, 128] inb, w⟩ :: L)) = w :=
  View.read_writes_full v f inb w L
theorem readCov_left (v : View sig κ sp S640x256 .f32) (inb inb') (w : Vec F S640x256 .f32) (L) :
    v.readCov (Val := Elt F) (⟨Rect.unit (s := S640x256) ![0, 0] ![640, 256] inb, w⟩ :: L)
      (Rect.unit (s := S640x256) ![0, 0] ![640, 128] inb').toLoadRect = left w := by
  unfold View.readCov left
  rw [View.readAt_unit v _ inb' rfl inb', writes_256]
theorem readCov_right (v : View sig κ sp S640x256 .f32) (inb inb') (w : Vec F S640x256 .f32) (L) :
    v.readCov (Val := Elt F) (⟨Rect.unit (s := S640x256) ![0, 0] ![640, 256] inb, w⟩ :: L)
      (Rect.unit (s := S640x256) ![0, 128] ![640, 128] inb').toLoadRect = right w := by
  unfold View.readCov right
  rw [View.readAt_unit v _ inb' rfl inb', writes_256]
theorem readAt_row (v : View sig κ sp S8x640 .f32) (f : v.ty.Contents (Elt F)) (inb) :
    v.readAt (Elt F) (Rect.unit (s := S8x640) ![0, 0] ![1, 640] inb).toLoadRect f = row (v.read (Elt F) f) :=
  View.readAt_unit v f inb rfl inb
theorem readAt_rows (i : grid0.Coords) (v : View sig κ sp S8320x256 .f32) (f : v.ty.Contents (Elt F)) (o : Fin 2 → ℕ) (inb)
    (h : o = off i) :
    v.readAt (Elt F) (Rect.unit (s := S8320x256) o ![640, 256] inb).toLoadRect f = rows i (v.read (Elt F) f) :=
  View.readAt_unit v f inb h (off_inb i)
theorem writes_rows (i : grid0.Coords) (v : View sig κ sp S8320x256 .f32) (f : v.ty.Contents (Elt F)) (o : Fin 2 → ℕ) (inb)
    (w : Vec F S640x256 .f32) (h : o = off i) :
    v.read (Elt F) (v.writes (Elt F) f [⟨Rect.unit (s := S8320x256) o ![640, 256] inb, w⟩])
      = putRows i (v.read (Elt F) f) w := by
  rw [View.read_writes_cons_put v f inb w [] h]; rfl

end Whole

end Cert.KernelIdeal.Grad

end
-- ==== Proof.Ideal.RunA.lean ====
/-
  The attention gradient's body at the first key block's first point: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first key block's first point. -/
theorem run_A (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : Reset i) (hm : k0_cond2 i = 1#1) (hf : k0_cond3 i = 1#1) (hl : ¬ k0_cond4 i = 1#1) (hp : ¬ k0_cond5 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqM i x0 x1 x2 x3 x4 x5 x6) := by unfold dqStep; simp only [if_pos hr, if_pos hm, if_pos hf, if_neg hl, if_neg hp, if_neg he]
  have e11 : dkStep i x0 x1 x2 x3 x4 x5 x6 d = dkM i x0 x1 x2 x3 x4 x5 x6 k0_pay1 := by unfold dkStep; simp only [if_pos hr, if_pos hm, if_pos hf, if_neg hl, if_neg hp, if_neg he]
  have e12 : dvStep i x0 x1 x2 x4 x5 e = dvM i x0 x1 x2 x4 x5 k0_pay2 := by unfold dvStep; simp only [if_pos hr, if_pos hm, if_pos hf, if_neg hl, if_neg hp, if_neg he]
  have e8 : ∀ d', knOut i d' y8 = y8 := fun d' => by unfold knOut; simp only [if_pos hr, if_pos hm, if_pos hf, if_neg hl, if_neg hp, if_neg he]
  have e9 : ∀ d', krOut i d' y9 = y9 := fun d' => by unfold krOut; simp only [if_pos hr, if_pos hm, if_pos hf, if_neg hl, if_neg hp, if_neg he]
  have e10 : ∀ e', vOut i e' y10 = y10 := fun e' => by unfold vOut; simp only [if_pos hr, if_pos hm, if_pos hf, if_neg hl, if_neg hp, if_neg he]
  rw [e8, e9, e10, e7, e11, e12]
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hf | sl_exact hl | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunB.lean ====
/-
  The attention gradient's body at the first key block's inner points: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first key block's inner points. -/
theorem run_B (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : k0_cond2 i = 1#1) (hf : k0_cond3 i = 1#1) (hl : ¬ k0_cond4 i = 1#1) (hp : ¬ k0_cond5 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqM i x0 x1 x2 x3 x4 x5 x6) := by unfold dqStep; simp only [if_neg hr, if_pos hm, if_pos hf, if_neg hl, if_neg hp, if_neg he]
  have e11 : dkStep i x0 x1 x2 x3 x4 x5 x6 d = dkM i x0 x1 x2 x3 x4 x5 x6 d := by unfold dkStep; simp only [if_neg hr, if_pos hm, if_pos hf, if_neg hl, if_neg hp, if_neg he]
  have e12 : dvStep i x0 x1 x2 x4 x5 e = dvM i x0 x1 x2 x4 x5 e := by unfold dvStep; simp only [if_neg hr, if_pos hm, if_pos hf, if_neg hl, if_neg hp, if_neg he]
  have e8 : ∀ d', knOut i d' y8 = y8 := fun d' => by unfold knOut; simp only [if_neg hr, if_pos hm, if_pos hf, if_neg hl, if_neg hp, if_neg he]
  have e9 : ∀ d', krOut i d' y9 = y9 := fun d' => by unfold krOut; simp only [if_neg hr, if_pos hm, if_pos hf, if_neg hl, if_neg hp, if_neg he]
  have e10 : ∀ e', vOut i e' y10 = y10 := fun e' => by unfold vOut; simp only [if_neg hr, if_pos hm, if_pos hf, if_neg hl, if_neg hp, if_neg he]
  rw [e8, e9, e10, e7, e11, e12]
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hf | sl_exact hl | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunC.lean ====
/-
  The attention gradient's body at the first key block's last point: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the first key block's last point. -/
theorem run_C (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : k0_cond2 i = 1#1) (hf : k0_cond3 i = 1#1) (hl : ¬ k0_cond4 i = 1#1) (hp : ¬ k0_cond5 i = 1#1) (he : k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqM i x0 x1 x2 x3 x4 x5 x6) := by unfold dqStep; simp only [if_neg hr, if_pos hm, if_pos hf, if_neg hl, if_neg hp, if_pos he]
  have e11 : dkStep i x0 x1 x2 x3 x4 x5 x6 d = dkM i x0 x1 x2 x3 x4 x5 x6 d := by unfold dkStep; simp only [if_neg hr, if_pos hm, if_pos hf, if_neg hl, if_neg hp, if_pos he]
  have e12 : dvStep i x0 x1 x2 x4 x5 e = dvM i x0 x1 x2 x4 x5 e := by unfold dvStep; simp only [if_neg hr, if_pos hm, if_pos hf, if_neg hl, if_neg hp, if_pos he]
  have e8 : ∀ d', knOut i d' y8 = k0_pay10 (left d') := fun d' => by unfold knOut; simp only [if_neg hr, if_pos hm, if_pos hf, if_neg hl, if_neg hp, if_pos he]
  have e9 : ∀ d', krOut i d' y9 = right d' := fun d' => by unfold krOut; simp only [if_neg hr, if_pos hm, if_pos hf, if_neg hl, if_neg hp, if_pos he]
  have e10 : ∀ e', vOut i e' y10 = k0_pay11 e' := fun e' => by unfold vOut; simp only [if_neg hr, if_pos hm, if_pos hf, if_neg hl, if_neg hp, if_pos he]
  rw [e8, e9, e10, e7, e11, e12]
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hf | sl_exact hl | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunD.lean ====
/-
  The attention gradient's body at a later key block's first point, which only clears the accumulators: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a later key block's first point, which only clears the accumulators. -/
theorem run_D (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : Reset i) (hm : ¬ k0_cond2 i = 1#1) (hp : ¬ k0_cond5 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = y7 := by unfold dqStep; simp only [if_pos hr, if_neg hm, if_neg hp, if_neg he]
  have e11 : dkStep i x0 x1 x2 x3 x4 x5 x6 d = k0_pay1 := by unfold dkStep; simp only [if_pos hr, if_neg hm, if_neg hp, if_neg he]
  have e12 : dvStep i x0 x1 x2 x4 x5 e = k0_pay2 := by unfold dvStep; simp only [if_pos hr, if_neg hm, if_neg hp, if_neg he]
  have e8 : ∀ d', knOut i d' y8 = y8 := fun d' => by unfold knOut; simp only [if_pos hr, if_neg hm, if_neg hp, if_neg he]
  have e9 : ∀ d', krOut i d' y9 = y9 := fun d' => by unfold krOut; simp only [if_pos hr, if_neg hm, if_neg hp, if_neg he]
  have e10 : ∀ e', vOut i e' y10 = y10 := fun e' => by unfold vOut; simp only [if_pos hr, if_neg hm, if_neg hp, if_neg he]
  rw [e8, e9, e10, e7, e11, e12]
  simp only [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunE.lean ====
/-
  The attention gradient's body at a point above the diagonal, which does nothing: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a point above the diagonal, which does nothing. -/
theorem run_E (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : ¬ k0_cond2 i = 1#1) (hp : ¬ k0_cond5 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = y7 := by unfold dqStep; simp only [if_neg hr, if_neg hm, if_neg hp, if_neg he]
  have e11 : dkStep i x0 x1 x2 x3 x4 x5 x6 d = d := by unfold dkStep; simp only [if_neg hr, if_neg hm, if_neg hp, if_neg he]
  have e12 : dvStep i x0 x1 x2 x4 x5 e = e := by unfold dvStep; simp only [if_neg hr, if_neg hm, if_neg hp, if_neg he]
  have e8 : ∀ d', knOut i d' y8 = y8 := fun d' => by unfold knOut; simp only [if_neg hr, if_neg hm, if_neg hp, if_neg he]
  have e9 : ∀ d', krOut i d' y9 = y9 := fun d' => by unfold krOut; simp only [if_neg hr, if_neg hm, if_neg hp, if_neg he]
  have e10 : ∀ e', vOut i e' y10 = y10 := fun e' => by unfold vOut; simp only [if_neg hr, if_neg hm, if_neg hp, if_neg he]
  rw [e8, e9, e10, e7, e11, e12]
  simp only [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunF.lean ====
/-
  The attention gradient's body at a later diagonal tile: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a later diagonal tile. -/
theorem run_F (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : k0_cond2 i = 1#1) (hf : ¬ k0_cond3 i = 1#1) (hl : k0_cond4 i = 1#1) (hp : ¬ k0_cond5 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqM' i x0 x1 x2 x3 x4 x5 x6 (rows i y7)) := by unfold dqStep; simp only [if_neg hr, if_pos hm, if_neg hf, if_pos hl, if_neg hp, if_neg he]
  have e11 : dkStep i x0 x1 x2 x3 x4 x5 x6 d = dkM i x0 x1 x2 x3 x4 x5 x6 d := by unfold dkStep; simp only [if_neg hr, if_pos hm, if_neg hf, if_pos hl, if_neg hp, if_neg he]
  have e12 : dvStep i x0 x1 x2 x4 x5 e = dvM i x0 x1 x2 x4 x5 e := by unfold dvStep; simp only [if_neg hr, if_pos hm, if_neg hf, if_pos hl, if_neg hp, if_neg he]
  have e8 : ∀ d', knOut i d' y8 = y8 := fun d' => by unfold knOut; simp only [if_neg hr, if_pos hm, if_neg hf, if_pos hl, if_neg hp, if_neg he]
  have e9 : ∀ d', krOut i d' y9 = y9 := fun d' => by unfold krOut; simp only [if_neg hr, if_pos hm, if_neg hf, if_pos hl, if_neg hp, if_neg he]
  have e10 : ∀ e', vOut i e' y10 = y10 := fun e' => by unfold vOut; simp only [if_neg hr, if_pos hm, if_neg hf, if_pos hl, if_neg hp, if_neg he]
  rw [e8, e9, e10, e7, e11, e12]
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hf | sl_exact hl | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunG.lean ====
/-
  The attention gradient's body at the last key block's diagonal tile, its last point: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at the last key block's diagonal tile, its last point. -/
theorem run_G (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : k0_cond2 i = 1#1) (hf : ¬ k0_cond3 i = 1#1) (hl : k0_cond4 i = 1#1) (hp : ¬ k0_cond5 i = 1#1) (he : k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqM' i x0 x1 x2 x3 x4 x5 x6 (rows i y7)) := by unfold dqStep; simp only [if_neg hr, if_pos hm, if_neg hf, if_pos hl, if_neg hp, if_pos he]
  have e11 : dkStep i x0 x1 x2 x3 x4 x5 x6 d = dkM i x0 x1 x2 x3 x4 x5 x6 d := by unfold dkStep; simp only [if_neg hr, if_pos hm, if_neg hf, if_pos hl, if_neg hp, if_pos he]
  have e12 : dvStep i x0 x1 x2 x4 x5 e = dvM i x0 x1 x2 x4 x5 e := by unfold dvStep; simp only [if_neg hr, if_pos hm, if_neg hf, if_pos hl, if_neg hp, if_pos he]
  have e8 : ∀ d', knOut i d' y8 = k0_pay10 (left d') := fun d' => by unfold knOut; simp only [if_neg hr, if_pos hm, if_neg hf, if_pos hl, if_neg hp, if_pos he]
  have e9 : ∀ d', krOut i d' y9 = right d' := fun d' => by unfold krOut; simp only [if_neg hr, if_pos hm, if_neg hf, if_pos hl, if_neg hp, if_pos he]
  have e10 : ∀ e', vOut i e' y10 = k0_pay11 e' := fun e' => by unfold vOut; simp only [if_neg hr, if_pos hm, if_neg hf, if_pos hl, if_neg hp, if_pos he]
  rw [e8, e9, e10, e7, e11, e12]
  simp only [cc0_attn_bwd_eq_skeleton]; unfold cc0_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hf | sl_exact hl | sl_exact hp | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunH.lean ====
/-
  The attention gradient's body at a tile below the diagonal: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a tile below the diagonal. -/
theorem run_H (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : ¬ k0_cond2 i = 1#1) (hp : k0_cond5 i = 1#1) (hf' : ¬ k0_cond6 i = 1#1) (hl' : k0_cond7 i = 1#1) (he : ¬ k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqP' x0 x1 x2 x3 x4 x5 x6 (rows i y7)) := by unfold dqStep; simp only [if_neg hr, if_neg hm, if_pos hp, if_neg hf', if_pos hl', if_neg he]
  have e11 : dkStep i x0 x1 x2 x3 x4 x5 x6 d = dkP x0 x1 x2 x3 x4 x5 x6 d := by unfold dkStep; simp only [if_neg hr, if_neg hm, if_pos hp, if_neg hf', if_pos hl', if_neg he]
  have e12 : dvStep i x0 x1 x2 x4 x5 e = dvP x0 x1 x2 x4 x5 e := by unfold dvStep; simp only [if_neg hr, if_neg hm, if_pos hp, if_neg hf', if_pos hl', if_neg he]
  have e8 : ∀ d', knOut i d' y8 = y8 := fun d' => by unfold knOut; simp only [if_neg hr, if_neg hm, if_pos hp, if_neg hf', if_pos hl', if_neg he]
  have e9 : ∀ d', krOut i d' y9 = y9 := fun d' => by unfold krOut; simp only [if_neg hr, if_neg hm, if_pos hp, if_neg hf', if_pos hl', if_neg he]
  have e10 : ∀ e', vOut i e' y10 = y10 := fun e' => by unfold vOut; simp only [if_neg hr, if_neg hm, if_pos hp, if_neg hf', if_pos hl', if_neg he]
  rw [e8, e9, e10, e7, e11, e12]
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hp | sl_exact hf' | sl_exact hl' | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.RunI.lean ====
/-
  The attention gradient's body at a tile below the diagonal at the last query block: its run, with what each buffer is left at.
-/
module

public import proofs.«01_k».proof.Proof.Ideal.Steps

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body at a tile below the diagonal at the last query block. -/
theorem run_I (c : Dev nD) (i : grid0.Coords)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (hr : ¬ Reset i) (hm : ¬ k0_cond2 i = 1#1) (hp : k0_cond5 i = 1#1) (hf' : ¬ k0_cond6 i = 1#1) (hl' : k0_cond7 i = 1#1) (he : k0_cond8 i = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i x0 x1 x2 x3 x4 x5 x6 y7) ∗ owns (c : Thread nD τ) arg11 fullShare (knOut i (dkStep i x0 x1 x2 x3 x4 x5 x6 d) y8) ∗ owns (c : Thread nD τ) arg12 fullShare (krOut i (dkStep i x0 x1 x2 x3 x4 x5 x6 d) y9) ∗ owns (c : Thread nD τ) arg13 fullShare (vOut i (dvStep i x0 x1 x2 x4 x5 e) y10) ∗ owns (c : Thread nD τ) arg14 fullShare (dkStep i x0 x1 x2 x3 x4 x5 x6 d) ∗ owns (c : Thread nD τ) arg15 fullShare (dvStep i x0 x1 x2 x4 x5 e)) -∗ K ⟨⟩))
    ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15) K := by
  have e7 : dqStep i x0 x1 x2 x3 x4 x5 x6 y7 = putRows i y7 (dqP' x0 x1 x2 x3 x4 x5 x6 (rows i y7)) := by unfold dqStep; simp only [if_neg hr, if_neg hm, if_pos hp, if_neg hf', if_pos hl', if_pos he]
  have e11 : dkStep i x0 x1 x2 x3 x4 x5 x6 d = dkP x0 x1 x2 x3 x4 x5 x6 d := by unfold dkStep; simp only [if_neg hr, if_neg hm, if_pos hp, if_neg hf', if_pos hl', if_pos he]
  have e12 : dvStep i x0 x1 x2 x4 x5 e = dvP x0 x1 x2 x4 x5 e := by unfold dvStep; simp only [if_neg hr, if_neg hm, if_pos hp, if_neg hf', if_pos hl', if_pos he]
  have e8 : ∀ d', knOut i d' y8 = k0_pay10 (left d') := fun d' => by unfold knOut; simp only [if_neg hr, if_neg hm, if_pos hp, if_neg hf', if_pos hl', if_pos he]
  have e9 : ∀ d', krOut i d' y9 = right d' := fun d' => by unfold krOut; simp only [if_neg hr, if_neg hm, if_pos hp, if_neg hf', if_pos hl', if_pos he]
  have e10 : ∀ e', vOut i e' y10 = k0_pay11 e' := fun e' => by unfold vOut; simp only [if_neg hr, if_neg hm, if_pos hp, if_neg hf', if_pos hl', if_pos he]
  rw [e8, e9, e10, e7, e11, e12]
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  obtain rfl := harg15.eq_unread hf12
  sl_exec (disch := first | sl_exact hr | sl_exact hm | sl_exact hp | sl_exact hf' | sl_exact hl' | sl_exact he)
  sl_step
  iapply Hk
  isplitl [H0]
  · iexists _; isplitr; swap; · iexact H0
    ipureintro
    exact harg3.read_unread _
  isplitl [H1]
  · iexists _; isplitr; swap; · iexact H1
    ipureintro
    exact harg4.read_unread _
  isplitl [H2]
  · iexists _; isplitr; swap; · iexact H2
    ipureintro
    exact harg5.read_unread _
  isplitl [H3]
  · iexists _; isplitr; swap; · iexact H3
    ipureintro
    exact harg6.read_unread _
  isplitl [H4]
  · iexists _; isplitr; swap; · iexact H4
    ipureintro
    exact harg7.read_unread _
  isplitl [H5]
  · iexists _; isplitr; swap; · iexact H5
    ipureintro
    exact harg8.read_unread _
  isplitl [H6]
  · iexists _; isplitr; swap; · iexact H6
    ipureintro
    exact harg9.read_unread _
  isplitl [H7]
  · iexists _; isplitr; swap; · iexact H7
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H8]
  · iexists _; isplitr; swap; · iexact H8
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H9]
  · iexists _; isplitr; swap; · iexact H9
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H10]
  · iexists _; isplitr; swap; · iexact H10
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  isplitl [H11]
  · iexists _; isplitr; swap; · iexact H11
    ipureintro
    sl_unfold_run_names
    try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
    try rfl
  iexists _; isplitr; swap; · iexact H12
  ipureintro
  sl_unfold_run_names
  try simp only [readAt_256, readAt_128, readCov_256, readCov_128, readCov_left, readCov_right, readAt_row, writes_256, writes_128, readAt_rows i _ _ _ _ (off2_eq i), readAt_rows i _ _ _ _ (off4_eq i), writes_rows i _ _ _ _ _ (off1_eq i), writes_rows i _ _ _ _ _ (off2_eq i), writes_rows i _ _ _ _ _ (off4_eq i), Memref.IsWhole.read_unread]
  try rfl

end Cert.KernelIdeal.Grad

end
-- ==== Proof.Ideal.Run.lean ====
/-
  The attention gradient's body at any point of the grid, from the runs of its nine cases.
-/
module

public import proofs.«01_k».proof.Proof.Ideal.RunA
public import proofs.«01_k».proof.Proof.Ideal.RunB
public import proofs.«01_k».proof.Proof.Ideal.RunC
public import proofs.«01_k».proof.Proof.Ideal.RunD
public import proofs.«01_k».proof.Proof.Ideal.RunE
public import proofs.«01_k».proof.Proof.Ideal.RunF
public import proofs.«01_k».proof.Proof.Ideal.RunG
public import proofs.«01_k».proof.Proof.Ideal.RunH
public import proofs.«01_k».proof.Proof.Ideal.RunI

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body at a point of the grid: the seven blocks it reads are left as they were, every other buffer by the point's
    step. -/
theorem run_body (c : Dev nD) (t : Fin cfg0.N)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep (grid0.coords t) x0 x1 x2 x3 x4 x5 x6 y7) ∗ owns (c : Thread nD τ) arg11 fullShare (knOut (grid0.coords t) (dkStep (grid0.coords t) x0 x1 x2 x3 x4 x5 x6 d) y8) ∗ owns (c : Thread nD τ) arg12 fullShare (krOut (grid0.coords t) (dkStep (grid0.coords t) x0 x1 x2 x3 x4 x5 x6 d) y9) ∗ owns (c : Thread nD τ) arg13 fullShare (vOut (grid0.coords t) (dvStep (grid0.coords t) x0 x1 x2 x4 x5 e) y10) ∗ owns (c : Thread nD τ) arg14 fullShare (dkStep (grid0.coords t) x0 x1 x2 x3 x4 x5 x6 d) ∗ owns (c : Thread nD τ) arg15 fullShare (dvStep (grid0.coords t) x0 x1 x2 x4 x5 e)) -∗ K ⟨⟩))
    ⊢ wp frame (wpE (defs₀ (F := F)) Variants.none c none) E (cc0_attn_bwd (grid0.coords t) arg3 harg3 arg4 harg4 arg5 harg5 arg6 harg6 arg7 harg7 arg8 harg8 arg9 harg9 arg10 harg10 arg11 harg11 arg12 harg12 arg13 harg13 arg14 harg14 arg15 harg15) K := by
  have hq : qb t < 13 := Nat.mod_lt _ (by decide)
  have hk : kb t < 13 := Nat.mod_lt _ (by decide)
  have hr := reset_iff t
  have hm := masked_iff t
  have hf := first_iff t
  have hl := later_iff t
  have hp := plain_iff t
  have hl' := later'_iff t
  have hf' := first'_iff t
  have he := last_iff t
  rcases Nat.eq_zero_or_pos (kb t) with k0 | k0
  · rcases Nat.eq_zero_or_pos (qb t) with q0 | q0
    · exact run_A c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (hr.2 (by omega)) (hm.2 (by omega)) (hf.2 (by omega)) (fun h => absurd (hl.1 h) (by omega)) (fun h => absurd (hp.1 h) (by omega)) (fun h => absurd (he.1 h) (by omega)) E K
    · rcases Nat.lt_or_ge (qb t) 12 with q1 | q1
      · exact run_B c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (hf.2 (by omega)) (fun h => absurd (hl.1 h) (by omega)) (fun h => absurd (hp.1 h) (by omega)) (fun h => absurd (he.1 h) (by omega)) E K
      · exact run_C c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (hf.2 (by omega)) (fun h => absurd (hl.1 h) (by omega)) (fun h => absurd (hp.1 h) (by omega)) (he.2 (by omega)) E K
  · rcases Nat.eq_zero_or_pos (qb t) with q0 | q0
    · exact run_D c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (hr.2 (by omega)) (fun h => absurd (hm.1 h) (by omega)) (fun h => absurd (hp.1 h) (by omega)) (fun h => absurd (he.1 h) (by omega)) E K
    · rcases Nat.lt_trichotomy (qb t) (kb t) with h | h | h
      · exact run_E c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (fun h => absurd (hp.1 h) (by omega)) (fun h => absurd (he.1 h) (by omega)) E K
      · rcases Nat.lt_or_ge (qb t) 12 with q1 | q1
        · exact run_F c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (fun h => absurd (hf.1 h) (by omega)) (hl.2 (by omega)) (fun h => absurd (hp.1 h) (by omega)) (fun h => absurd (he.1 h) (by omega)) E K
        · exact run_G c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (fun h => absurd (hf.1 h) (by omega)) (hl.2 (by omega)) (fun h => absurd (hp.1 h) (by omega)) (he.2 (by omega)) E K
      · rcases Nat.lt_or_ge (qb t) 12 with q1 | q1
        · exact run_H c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (hp.2 (by omega)) (fun h => absurd (hf'.1 h) (by omega)) (hl'.2 (by omega)) (fun h => absurd (he.1 h) (by omega)) E K
        · exact run_I c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (hp.2 (by omega)) (fun h => absurd (hf'.1 h) (by omega)) (hl'.2 (by omega)) (he.2 (by omega)) E K

end Cert.KernelIdeal.Grad

end
-- ==== Proof.Ideal.Data.lean ====
/-
  The attention gradient's pipeline: what its accumulators hold before each point, what each point may leave in each
  window, the body obligation, the launch, and the frame.

  The two accumulators' contents before a point are an iteration of the point's step from whatever the region found in
  them; a window's contents after a point are the step's result from what the point found there. Nothing is said of an
  output's block before the points that write it.
-/
module

public import proofs.«01_k».proof.Proof.Ideal.Run
public import Idealize.ShloMosaic.Lib.Pipeline.ArrRel

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulators -/

/-- The keys' and the values' accumulator before point `n`, begun at `d` and at `e`. -/
def accK (c : Dev nD) (d : Vec F S640x256 .f32) : ℕ → Vec F S640x256 .f32
  | 0 => d
  | n + 1 => if h : n < cfg0.N then
      let t : Fin cfg0.N := ⟨n, h⟩
      dkStep (grid0.coords t) (iblk m c 0 t) (iblk m c 1 t) (iblk m c 2 t) (iblk m c 3 t) (iblk m c 4 t) (iblk m c 5 t) (iblk m c 6 t) (accK c d n)
    else accK c d n
def accV (c : Dev nD) (e : Vec F S640x128 .f32) : ℕ → Vec F S640x128 .f32
  | 0 => e
  | n + 1 => if h : n < cfg0.N then
      let t : Fin cfg0.N := ⟨n, h⟩
      dvStep (grid0.coords t) (iblk m c 0 t) (iblk m c 1 t) (iblk m c 2 t) (iblk m c 4 t) (iblk m c 5 t) (accV c e n)
    else accV c e n

theorem accK_succ (c : Dev nD) (d : Vec F S640x256 .f32) (t : Fin cfg0.N) :
    accK m c d (t.val + 1) = dkStep (grid0.coords t) (iblk m c 0 t) (iblk m c 1 t) (iblk m c 2 t) (iblk m c 3 t) (iblk m c 4 t) (iblk m c 5 t) (iblk m c 6 t) (accK m c d t.val) := by
  rw [accK, dif_pos t.isLt]
theorem accV_succ (c : Dev nD) (e : Vec F S640x128 .f32) (t : Fin cfg0.N) :
    accV m c e (t.val + 1) = dvStep (grid0.coords t) (iblk m c 0 t) (iblk m c 1 t) (iblk m c 2 t) (iblk m c 4 t) (iblk m c 5 t) (accV m c e t.val) := by
  rw [accV, dif_pos t.isLt]

/-- The invariant before point `n`: the accumulators at an iteration's contents, and the generator's register. -/
def inv (c : Dev nD) (n : ℕ) : sProp 𝕄 :=
  iprop(((∃ d, owns (c : Thread nD τ) (Memref.whole cc0_scratch0) fullShare (accK m c d n))
    ∗ (∃ e, owns (c : Thread nD τ) (Memref.whole cc0_scratch1) fullShare (accV m c e n))) ∗ (∃ r, prngReg c r))

theorem lent_eq (c : Dev nD) : (Pipeline.ΦA spec0 c : sProp 𝕄)
    = iprop(((∃ d, owns (c : Thread nD τ) (Memref.whole cc0_scratch0) fullShare d)
      ∗ (∃ e, owns (c : Thread nD τ) (Memref.whole cc0_scratch1) fullShare e)) ∗ (∃ r, prngReg c r)) := by
  unfold Pipeline.ΦA; rw [scopedRest0_eq]; simp only [owns_whole]; try rfl

/-! ## The proof data -/

/-- What point `t` may leave in window `w` where it found `Y`. -/
def after (c : Dev nD) : (w : Fin cfg0.W) → (t : Fin cfg0.N) → (Y X : (cfg0.win w).block.Idx → Elt F (cfg0.win w).elt) → Prop
  | 0, t, Y, X => X = Y
  | 1, t, Y, X => X = Y
  | 2, t, Y, X => X = Y
  | 3, t, Y, X => X = Y
  | 4, t, Y, X => X = Y
  | 5, t, Y, X => X = Y
  | 6, t, Y, X => X = Y
  | 7, t, Y, X => X = dqStep (grid0.coords t) (iblk m c 0 t) (iblk m c 1 t) (iblk m c 2 t) (iblk m c 3 t) (iblk m c 4 t) (iblk m c 5 t) (iblk m c 6 t) Y
  | 8, t, Y, X => ∃ d, X = knOut (grid0.coords t) (accK m c d (t.val + 1)) Y
  | 9, t, Y, X => ∃ d, X = krOut (grid0.coords t) (accK m c d (t.val + 1)) Y
  | 10, t, Y, X => ∃ e, X = vOut (grid0.coords t) (accV m c e (t.val + 1)) Y

/-- The region's proof data on core `c`. -/
def rdat (c : Dev nD) : RDat τ (Elt F) Unit ℕ (UR sig nD τ) ℕ cfg0 c where
  A w := V m c (Pipeline.arrRef spec0 w)
  after := after m c
  Φ n := inv m c n.val
  q := Pipeline.shareOf spec0
  owed _ := 0

theorem found_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk
  try rfl
theorem found_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk
  try rfl
theorem found_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk
  try rfl
theorem found_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk
  try rfl
theorem found_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk
  try rfl
theorem found_5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk
  try rfl
theorem found_6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold RDat.fetched RDat.blockOf iblk
  try rfl

/-! ## The body -/

/-- The body at a point, between the invariants. -/
theorem body_at (c : Dev nD) (t : Fin cfg0.N) (Y : (w : Fin cfg0.W) → (cfg0.win w).block.Idx → Elt F (cfg0.win w).elt)
    (hY : ∀ w, (rdat m c).Finds w t (Y w)) :
    iprop(inv m c t.val ∗ (rdat m c).owesAt () t.castSucc
      ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
    ⊢ wp frame (wpE (defs₀ (F := F)) Variants.none c none) Set.univ (bodyAt0 t) fun _ =>
      iprop(inv m c (t.val + 1) ∗ (rdat m c).owesAt () t.succ
        ∗ (∃ X, ⌜after m c 0 t (Y 0) X⌝ ∗ owns (c : Thread nD τ) (st0_0 t) fullShare X) ∗ (∃ X, ⌜after m c 1 t (Y 1) X⌝ ∗ owns (c : Thread nD τ) (st0_1 t) fullShare X) ∗ (∃ X, ⌜after m c 2 t (Y 2) X⌝ ∗ owns (c : Thread nD τ) (st0_2 t) fullShare X) ∗ (∃ X, ⌜after m c 3 t (Y 3) X⌝ ∗ owns (c : Thread nD τ) (st0_3 t) fullShare X) ∗ (∃ X, ⌜after m c 4 t (Y 4) X⌝ ∗ owns (c : Thread nD τ) (st0_4 t) fullShare X) ∗ (∃ X, ⌜after m c 5 t (Y 5) X⌝ ∗ owns (c : Thread nD τ) (st0_5 t) fullShare X) ∗ (∃ X, ⌜after m c 6 t (Y 6) X⌝ ∗ owns (c : Thread nD τ) (st0_6 t) fullShare X) ∗ (∃ X, ⌜after m c 7 t (Y 7) X⌝ ∗ owns (c : Thread nD τ) (st0_7 t) fullShare X) ∗ (∃ X, ⌜after m c 8 t (Y 8) X⌝ ∗ owns (c : Thread nD τ) (st0_8 t) fullShare X) ∗ (∃ X, ⌜after m c 9 t (Y 9) X⌝ ∗ owns (c : Thread nD τ) (st0_9 t) fullShare X) ∗ (∃ X, ⌜after m c 10 t (Y 10) X⌝ ∗ owns (c : Thread nD τ) (st0_10 t) fullShare X)) := by
  have h0 : Y 0 = iblk m c 0 t := found_0 m c t _ (hY 0)
  have h1 : Y 1 = iblk m c 1 t := found_1 m c t _ (hY 1)
  have h2 : Y 2 = iblk m c 2 t := found_2 m c t _ (hY 2)
  have h3 : Y 3 = iblk m c 3 t := found_3 m c t _ (hY 3)
  have h4 : Y 4 = iblk m c 4 t := found_4 m c t _ (hY 4)
  have h5 : Y 5 = iblk m c 5 t := found_5 m c t _ (hY 5)
  have h6 : Y 6 = iblk m c 6 t := found_6 m c t _ (hY 6)
  rw [show (rdat m c).owesAt () t.succ = (rdat m c).owesAt () t.castSucc from rfl]
  unfold inv bodyAt0
  iintro ⟨⟨⟨⟨%d, HD⟩, ⟨%e, HE⟩⟩, Hg⟩, Ho, H0, H1, H2, H3, H4, H5, H6, H7, H8, H9, H10⟩
  iapply (run_body (F := F) c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (Memref.isWhole_whole _) _ (Memref.isWhole_whole _)
    (Y 0) (Y 1) (Y 2) (Y 3) (Y 4) (Y 5) (Y 6) (Y 7) (Y 8) (Y 9) (Y 10) (accK m c d t.val) (accV m c e t.val))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HD]; · iexact HD
  isplitl [HE]; · iexact HE
  iintro ⟨H0, H1, H2, H3, H4, H5, H6, H7, H8, H9, H10, HD, HE⟩
  rw [h0, h1, h2, h3, h4, h5, h6, ← accK_succ, ← accV_succ]
  isplitl [HD HE Hg]
  · isplitl [HD HE]
    · isplitl [HD]
      · iexists d; iexact HD
      iexists e; iexact HE
    iexact Hg
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact ⟨d, rfl⟩
  isplitl [H9]
  · iexists _; isplitr; swap; · iexact H9
    ipureintro; exact ⟨d, rfl⟩
  iexists _; isplitr; swap; · iexact H10
  ipureintro; exact ⟨e, rfl⟩

/-- The body table's row at a point's slots is the body. -/
theorem row_eq (t : Fin cfg0.N) : defs₀ (F := F) .tc cfg0.body (cfg0.bodyArgs t (cfg0.slots t)) = bodyAt0 t := by
  unfold defs₀; rw [Defs.onTc_tc]

theorem obligation (c : Dev nD) : (rdat m c).BodyObligation (defs₀ (F := F)) Variants.none () Set.univ := fun t Y hY => by
  rw [bigSep_W0, bigSep_W0, row_eq]
  exact triple_restated (body_at m c t Y hY) rfl .rfl fun _ => .rfl

/-! ## The launch -/

theorem inv_in (c : Dev nD) : Pipeline.ΦA spec0 c ⊢ (rdat m c).Φ 0 := by
  rw [show (rdat m c).Φ 0 = inv m c 0 from rfl, lent_eq]
  exact .rfl

theorem inv_out (c : Dev nD) : (rdat m c).Φ (Fin.last cfg0.N) ⊢ Pipeline.ΦA spec0 c := by
  rw [show (rdat m c).Φ (Fin.last cfg0.N) = inv m c cfg0.N from rfl, lent_eq]
  unfold inv
  iintro ⟨⟨⟨%d, HD⟩, ⟨%e, HE⟩⟩, Hg⟩
  isplitl [HD HE]
  · isplitl [HD]
    · iexists _; iexact HD
    iexists _; iexact HE
  iexact Hg

set_option backward.isDefEq.respectTransparency.types false in
/-- Every weakly fair execution of @main ends, with the windows' arrays at contents the proof data allow, every other
    array as the region found it, and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := obligation m) (hq := fun _ _ _ => rfl) (howed := fun _ _ => rfl) (V := V m) (hmain := hmain m Variants.none)
    (hA := fun _ _ => rfl) (hin := inv_in m) (hout := inv_out m) (hQ' := fun _ h => h)

/-- The frame: the six argument arrays end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Grad

end
-- ==== Proof.Bits.Run.lean ====
/-
  The attention gradient's body at any point of the grid, from the runs of its nine cases.
-/
module

public import proofs.«01_k».proof.Proof.Bits.RunA
public import proofs.«01_k».proof.Proof.Bits.RunB
public import proofs.«01_k».proof.Proof.Bits.RunC
public import proofs.«01_k».proof.Proof.Bits.RunD
public import proofs.«01_k».proof.Proof.Bits.RunE
public import proofs.«01_k».proof.Proof.Bits.RunF
public import proofs.«01_k».proof.Proof.Bits.RunG
public import proofs.«01_k».proof.Proof.Bits.RunH
public import proofs.«01_k».proof.Proof.Bits.RunI

@[expose] public section

set_option maxRecDepth 16384

noncomputable section

namespace Cert.Kernel.Grad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at a point of the grid: the seven blocks it reads are left as they were, every other buffer by the point's
    step. -/
theorem run_body (c : Dev nD) (t : Fin cfg0.N)
    (arg3 : Memref sig .tc .vmem S640x256 .bf16) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S8x640 .f32) (harg8 : arg8.IsWhole) (arg9 : Memref sig .tc .vmem S8x640 .f32) (harg9 : arg9.IsWhole) (arg10 : Memref sig .tc .vmem S8320x256 .f32) (harg10 : arg10.IsWhole) (arg11 : Memref sig .tc .vmem S640x128 .bf16) (harg11 : arg11.IsWhole) (arg12 : Memref sig .tc .vmem S640x128 .f32) (harg12 : arg12.IsWhole) (arg13 : Memref sig .tc .vmem S640x128 .bf16) (harg13 : arg13.IsWhole) (arg14 : Memref sig .tc .vmem S640x256 .f32) (harg14 : arg14.IsWhole) (arg15 : Memref sig .tc .vmem S640x128 .f32) (harg15 : arg15.IsWhole)
    (x0 : Vec F S640x256 .bf16) (x1 : Vec F S640x128 .bf16) (x2 : Vec F S640x128 .bf16) (x3 : Vec F S640x128 .bf16) (x4 : Vec F S640x128 .f32) (x5 : Vec F S8x640 .f32) (x6 : Vec F S8x640 .f32) (y7 : Vec F S8320x256 .f32) (y8 : Vec F S640x128 .bf16) (y9 : Vec F S640x128 .f32) (y10 : Vec F S640x128 .bf16) (d : Vec F S640x256 .f32) (e : Vec F S640x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare d ∗ owns (c : Thread nD τ) arg15 fullShare e
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep (grid0.coords t) x0 x1 x2 x3 x4 x5 x6 y7) ∗ owns (c : Thread nD τ) arg11 fullShare (knOut (grid0.coords t) (dkStep (grid0.coords t) x0 x1 x2 x3 x4 x5 x6 d) y8) ∗ owns (c : Thread nD τ) arg12 fullShare (krOut (grid0.coords t) (dkStep (grid0.coords t) x0 x1 x2 x3 x4 x5 x6 d) y9) ∗ owns (c : Thread nD τ) arg13 fullShare (vOut (grid0.coords t) (dvStep (grid0.coords t) x0 x1 x2 x4 x5 e) y10) ∗ owns (c : Thread nD τ) arg14 fullShare (dkStep (grid0.coords t) x0 x1 x2 x3 x4 x5 x6 d) ∗ owns (c : Thread nD τ) arg15 fullShare (dvStep (grid0.coords t) x0 x1 x2 x4 x5 e)) -∗ K ⟨⟩))
    ⊢ wp frame (wpE (defs₀ (F := F)) Variants.none c none) E (cc0_attn_bwd (grid0.coords t) arg3 harg3 arg4 harg4 arg5 harg5 arg6 harg6 arg7 harg7 arg8 harg8 arg9 harg9 arg10 harg10 arg11 harg11 arg12 harg12 arg13 harg13 arg14 harg14 arg15 harg15) K := by
  have hq : qb t < 13 := Nat.mod_lt _ (by decide)
  have hk : kb t < 13 := Nat.mod_lt _ (by decide)
  have hr := reset_iff t
  have hm := masked_iff t
  have hf := first_iff t
  have hl := later_iff t
  have hp := plain_iff t
  have hl' := later'_iff t
  have hf' := first'_iff t
  have he := last_iff t
  rcases Nat.eq_zero_or_pos (kb t) with k0 | k0
  · rcases Nat.eq_zero_or_pos (qb t) with q0 | q0
    · exact run_A c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (hr.2 (by omega)) (hm.2 (by omega)) (hf.2 (by omega)) (fun h => absurd (hl.1 h) (by omega)) (fun h => absurd (hp.1 h) (by omega)) (fun h => absurd (he.1 h) (by omega)) E K
    · rcases Nat.lt_or_ge (qb t) 12 with q1 | q1
      · exact run_B c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (hf.2 (by omega)) (fun h => absurd (hl.1 h) (by omega)) (fun h => absurd (hp.1 h) (by omega)) (fun h => absurd (he.1 h) (by omega)) E K
      · exact run_C c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (hf.2 (by omega)) (fun h => absurd (hl.1 h) (by omega)) (fun h => absurd (hp.1 h) (by omega)) (he.2 (by omega)) E K
  · rcases Nat.eq_zero_or_pos (qb t) with q0 | q0
    · exact run_D c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (hr.2 (by omega)) (fun h => absurd (hm.1 h) (by omega)) (fun h => absurd (hp.1 h) (by omega)) (fun h => absurd (he.1 h) (by omega)) E K
    · rcases Nat.lt_trichotomy (qb t) (kb t) with h | h | h
      · exact run_E c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (fun h => absurd (hp.1 h) (by omega)) (fun h => absurd (he.1 h) (by omega)) E K
      · rcases Nat.lt_or_ge (qb t) 12 with q1 | q1
        · exact run_F c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (fun h => absurd (hf.1 h) (by omega)) (hl.2 (by omega)) (fun h => absurd (hp.1 h) (by omega)) (fun h => absurd (he.1 h) (by omega)) E K
        · exact run_G c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (hm.2 (by omega)) (fun h => absurd (hf.1 h) (by omega)) (hl.2 (by omega)) (fun h => absurd (hp.1 h) (by omega)) (he.2 (by omega)) E K
      · rcases Nat.lt_or_ge (qb t) 12 with q1 | q1
        · exact run_H c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (hp.2 (by omega)) (fun h => absurd (hf'.1 h) (by omega)) (hl'.2 (by omega)) (fun h => absurd (he.1 h) (by omega)) E K
        · exact run_I c (grid0.coords t) arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 y7 y8 y9 y10 d e (fun h => absurd (hr.1 h) (by omega)) (fun h => absurd (hm.1 h) (by omega)) (hp.2 (by omega)) (fun h => absurd (hf'.1 h) (by omega)) (hl'.2 (by omega)) (he.2 (by omega)) E K

end Cert.Kernel.Grad

end
-- ==== Proof.Value.Entry.lean ====
/-
  What the kernel's seven arrays hold when its grid starts: the host's lines before it, composed, as functions of the six
  arguments.
-/
module

public import proofs.«01_k».proof.Proof.Ideal.Data
public import Idealize.ShloMosaic.Lib.Pointwise
public import Idealize.ShloMosaic.Lib.Claim

@[expose] public section

set_option maxRecDepth 16384

noncomputable section

namespace Cert.KernelIdeal.Grad

open Cert.KernelIdeal Cert.KernelIdeal.Gen
open Idealize.ShloMosaic Idealize.ShloMosaic.TcCoe Idealize.SL.Sem

/-! ## The host's lines -/

section Host

variable (a0 : FVec Ideal S8320x8x128 .f32) (a1 : FVec Ideal S8320x8x64 .f32) (a2 : FVec Ideal S8320x8x128 .f32)
  (a3 : FVec Ideal S8320x64 .f32) (a4 : FVec Ideal S8320x8x128 .f32) (a5 : FVec Ideal S8208x1024 .f32)

/-- The scaled queries, the heads' copies of the rotary key, the masked scores. -/
def hQn : FVec Ideal S8320x8x128 .f32 := mulf a0 (broadcastInDim S8320x8x128 ![] bcast_S_S8320x8x128 (constant S_ .f32 0x3D93CD3A#32))
def hQp : FVec Ideal S8320x8x64 .f32 := mulf a1 (broadcastInDim S8320x8x64 ![] bcast_S_S8320x8x64 (constant S_ .f32 0x3D93CD3A#32))
def hKp : FVec Ideal S8320x8x64 .f32 :=
  broadcastInDim S8320x8x64 ![0, 1, 2] bcast_S8320x1x64_S8320x8x64_0_1_2 (broadcastInDim S8320x1x64 ![0, 2] bcast_S8320x64_S8320x1x64_0_2 a3)
def hSeen : IVec S8208x8208 1 :=
  cmpi .sle (broadcastInDim S8208x8208 ![0, 1] bcast_S1x8208_S8208x8208_0_1 (broadcastInDim S1x8208 ![1] bcast_S8208_S1x8208_1 (iotaInDim S8208 32 0)))
    (broadcastInDim S8208x8208 ![0, 1] bcast_S8208x1_S8208x8208_0_1 (broadcastInDim S8208x1 ![0] bcast_S8208_S8208x1_0 (iotaInDim S8208 32 0)))
def hScore : FVec Ideal S8x8208x8208 .f32 :=
  select (broadcastInDim S8x8208x8208 ![1, 2] bcast_S8208x8208_S8x8208x8208_1_2 hSeen)
    (addf (Host.dotGeneral dot_S8208x8x128_S8208x8x128_S8x8208x8208_2_2_0_0_1_1 none
        (extractStridedSlice S8208x8x128 ![112, 0, 0] (hQn a0) slices_S8320x8x128_S8208x8x128_112_0_0)
        (extractStridedSlice S8208x8x128 ![112, 0, 0] a2 slices_S8320x8x128_S8208x8x128_112_0_0))
      (Host.dotGeneral dot_S8208x8x64_S8208x8x64_S8x8208x8208_2_2_0_0_1_1 none
        (extractStridedSlice S8208x8x64 ![112, 0, 0] (hQp a1) slices_S8320x8x64_S8208x8x64_112_0_0)
        (extractStridedSlice S8208x8x64 ![112, 0, 0] (hKp a3) slices_S8320x8x64_S8208x8x64_112_0_0)))
    (broadcastInDim S8x8208x8208 ![] bcast_S_S8x8208x8208 (constant S_ .f32 0xFF800000#32))
/-- Each row's largest score, the weights below it and their sums, over the masked scores. -/
def hTop (s : FVec Ideal S8x8208x8208 .f32) : FVec Ideal S8x8208x1 .f32 :=
  broadcastInDim S8x8208x1 ![0, 1] bcast_S8x8208_S8x8208x1_0_1 (Host.reduce FloatOps.maximumf s (constant S_ .f32 0xFF800000#32) reducesTo_S8x8208x8208_S8x8208_d2 h_S_)
def hWeight (s : FVec Ideal S8x8208x8208 .f32) : FVec Ideal S8x8208x8208 .f32 :=
  Host.exp (subf s (broadcastInDim S8x8208x8208 ![0, 1, 2] bcast_S8x8208x1_S8x8208x8208_0_1_2 (hTop s)))
def hDen (w : FVec Ideal S8x8208x8208 .f32) : FVec Ideal S8x8208x1 .f32 :=
  broadcastInDim S8x8208x1 ![0, 1] bcast_S8x8208_S8x8208x1_0_1 (Host.reduceAdd w (constant S_ .f32 0x00000000#32) reducesTo_S8x8208x8208_S8x8208_d2 h_S_)
def hLse (s : FVec Ideal S8x8208x8208 .f32) : FVec Ideal S8x8208 .f32 :=
  shapeCast S8x8208 (addf (hTop s) (Host.log (hDen (hWeight s)))) shapeCasts_S8x8208x1_S8x8208
def hOut (w : FVec Ideal S8x8208x8208 .f32) : FVec Ideal S8x8208x128 .f32 :=
  Host.dotGeneral dot_S8x8208x8208_S8208x8x128_S8x8208x128_2_0_1_2_0_1 none
    (Host.divf w (broadcastInDim S8x8208x8208 ![0, 1, 2] bcast_S8x8208x1_S8x8208x8208_0_1_2 (hDen w)))
    (extractStridedSlice S8208x8x128 ![112, 0, 0] a4 slices_S8320x8x128_S8208x8x128_112_0_0)
def hDo : FVec Ideal S8320x1024 .f32 :=
  pad S8320x1024 ![112, 0] ![0, 0] ![0, 0] a5 (sitofp .f32 (constantI S_ 32 0#32)) pads_S8208x1024_S8320x1024_11200_000 h_S_
def hDelta (o : FVec Ideal S8x8208x128 .f32) : FVec Ideal S8x8208 .f32 :=
  Host.dotGeneral dot_S8208x8x128_S8x8208x128_S8x8208_2_2_n_n_10_01 none (shapeCast S8208x8x128 a5 shapeCasts_S8208x1024_S8208x8x128) o
/-- The kernel's arrays. -/
def hQ : FVec Ideal S8320x2048 .bf16 :=
  truncf .bf16 (shapeCast S8320x2048
    (pad S8320x8x256 ![0, 0, 0] ![0, 0, 64] ![0, 0, 0]
      (concatenate S8320x8x192 2 [⟨S8320x8x128, hQn a0⟩, ⟨S8320x8x64, hQp a1⟩] concatenates_S8320x8x128_S8320x8x64_S8320x8x192_d2)
      (sitofp .f32 (constantI S_ 32 0#32)) pads_S8320x8x192_S8320x8x256_000_000_0640 h_S_) shapeCasts_S8320x8x256_S8320x2048) bitsLt_bf16_f32
def hKv : FVec Ideal S8320x2048 .bf16 :=
  truncf .bf16 (concatenate S8320x2048 1 [⟨S8320x1024, shapeCast S8320x1024 a2 shapeCasts_S8320x8x128_S8320x1024⟩,
    ⟨S8320x1024, shapeCast S8320x1024 a4 shapeCasts_S8320x8x128_S8320x1024⟩] concatenates_S8320x1024_S8320x1024_S8320x2048_d1) bitsLt_bf16_f32
def hKr : FVec Ideal S8320x1024 .bf16 :=
  truncf .bf16 (shapeCast S8320x1024
    (pad S8320x8x128 ![0, 0, 0] ![0, 0, 64] ![0, 0, 0] (hKp a3) (sitofp .f32 (constantI S_ 32 0#32))
      pads_S8320x8x64_S8320x8x128_000_000_0640 h_S_) shapeCasts_S8320x8x128_S8320x1024) bitsLt_bf16_f32
def hRows (x : FVec Ideal S8x8208 .f32) : FVec Ideal S64x8320 .f32 :=
  shapeCast S64x8320 (broadcastInDim S8x8x8320 ![0, 1, 2] bcast_S8x1x8320_S8x8x8320_0_1_2
    (broadcastInDim S8x1x8320 ![0, 2] bcast_S8x8320_S8x1x8320_0_2
      (pad S8x8320 ![0, 112] ![0, 0] ![0, 0] x (sitofp .f32 (constantI S_ 32 0#32)) pads_S8x8208_S8x8320_000_11200 h_S_))) shapeCasts_S8x8x8320_S64x8320

end Host

variable (m : (ℓ : Loc nD τ sig) → Buf (Elt Ideal) ℓ) (c : Dev nD)

abbrev arg0 : FVec Ideal S8320x8x128 .f32 := m ((c.tc : Thread nD τ).loc main_arg0)
abbrev arg1 : FVec Ideal S8320x8x64 .f32 := m ((c.tc : Thread nD τ).loc main_arg1)
abbrev arg2 : FVec Ideal S8320x8x128 .f32 := m ((c.tc : Thread nD τ).loc main_arg2)
abbrev arg3 : FVec Ideal S8320x64 .f32 := m ((c.tc : Thread nD τ).loc main_arg3)
abbrev arg4 : FVec Ideal S8320x8x128 .f32 := m ((c.tc : Thread nD τ).loc main_arg4)
abbrev arg5 : FVec Ideal S8208x1024 .f32 := m ((c.tc : Thread nD τ).loc main_arg5)

theorem entry_q : (V m c main_v42 : FVec Ideal S8320x2048 .bf16) = hQ (arg0 m c) (arg1 m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl
theorem entry_kv : (V m c main_v46 : FVec Ideal S8320x2048 .bf16) = hKv (arg2 m c) (arg4 m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl
theorem entry_kr : (V m c main_v49 : FVec Ideal S8320x1024 .bf16) = hKr (arg3 m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl
theorem entry_do : (V m c main_v38 : FVec Ideal S8320x1024 .f32) = hDo (arg5 m c) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl
theorem entry_lse : (V m c main_v52 : FVec Ideal S64x8320 .f32) = hRows (hLse (hScore (arg0 m c) (arg1 m c) (arg2 m c) (arg3 m c))) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl
theorem entry_delta : (V m c main_v55 : FVec Ideal S64x8320 .f32) = hRows (hDelta (arg5 m c) (hOut (arg4 m c) (hWeight (hScore (arg0 m c) (arg1 m c) (arg2 m c) (arg3 m c))))) := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  try after_results_loop
  rfl

end Cert.KernelIdeal.Grad

end
-- ==== Proof.Value.Attention.lean ====
/-
  The attention's gradient over the reals: the quantities both programs compute, of real arguments.

  The scores of hidden pairs are −∞. A query of the padding sees no key; its probabilities and its part of every gradient
  are zero. The reference knows the tokens alone, without the padding in front: the last section carries its sums over.
-/
module

public import Idealize.ShloMosaic.PureOps.Ideal
public import Idealize.ShloMosaic.Lib.IdealHost

@[expose] public section

noncomputable section

namespace Cert.Attention

open Idealize.ShloMosaic
open scoped BigOperators

/-- The heads' scaled queries, keys, values and results' gradients, and the rotary keys all the heads share. -/
structure Args where
  qn : Fin 8 → Fin 8320 → Fin 128 → ℝ
  qp : Fin 8 → Fin 8320 → Fin 64 → ℝ
  kn : Fin 8 → Fin 8320 → Fin 128 → ℝ
  kp : Fin 8320 → Fin 64 → ℝ
  v : Fin 8 → Fin 8320 → Fin 128 → ℝ
  g : Fin 8 → Fin 8320 → Fin 128 → ℝ

/-- Query `q` sees key `k`: the key is no padding and not after the query. -/
abbrev Seen (q k : Fin 8320) : Prop := k.val ≤ q.val ∧ 112 ≤ k.val

/-! ## Real sums inside the extended reals -/

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem ite_coe (p : Prop) [Decidable p] (a b : ℝ) : (if p then (a : EReal) else (b : EReal)) = ((if p then a else b : ℝ) : EReal) := by
  split <;> rfl

theorem fold_max_eq_sup {ι : Type} (s : Finset ι) (f : ι → EReal) : s.fold max ⊥ f = s.sup f := rfl

theorem exp_coe (x : ℝ) : Ideal.exp (x : EReal) = (Real.exp x : EReal) := rfl
theorem exp_bot : Ideal.exp ⊥ = 0 := rfl
theorem log_coe {x : ℝ} (h : 0 < x) : Ideal.log (x : EReal) = (Real.log x : EReal) := by
  show (if x ≤ 0 then ⊥ else (Real.log x : EReal)) = _
  rw [if_neg (not_le.mpr h)]
theorem log_zero : Ideal.log 0 = ⊥ := by
  show (if (0 : ℝ) ≤ 0 then ⊥ else (Real.log 0 : EReal)) = ⊥
  rw [if_pos le_rfl]
theorem div_real {y : ℝ} (h : y ≠ 0) (x : ℝ) : Ideal.div (x : EReal) (y : EReal) = ((x / y : ℝ) : EReal) := by
  rw [Ideal.div_coe h, ← EReal.coe_mul, mul_one_div]

namespace Args

variable (X : Args) (h : Fin 8) (q k : Fin 8320)

/-! ## The forward pass -/

def score : ℝ := ∑ d, X.qn h q d * X.kn h k d + ∑ r, X.qp h q r * X.kp k r
def scoreE : EReal := if Seen q k then (X.score h q k : EReal) else ⊥
def topE : EReal := Finset.univ.fold max ⊥ fun k => X.scoreE h q k
def top : ℝ := (X.topE h q).toReal
def weight : ℝ := if Seen q k then Real.exp (X.score h q k - X.top h q) else 0
def den : ℝ := ∑ k, X.weight h q k
def prob : ℝ := X.weight h q k / X.den h q
/-- The logarithm of a row's sum, as the forward pass saves it: zero in the padding's rows. -/
def lse : ℝ := if q.val < 112 then 0 else X.top h q + Real.log (X.den h q)

/-! ## The backward pass -/

def dp : ℝ := ∑ d, X.g h q d * X.v h k d
def delta : ℝ := ∑ k, X.prob h q k * X.dp h q k
def ds : ℝ := X.prob h q k * (X.dp h q k - X.delta h q)

variable {X h q k}

theorem not_seen_pad (hq : q.val < 112) : ¬ Seen q k := fun hs => by have := hs.1; have := hs.2; omega
theorem seen_self (hq : 112 ≤ q.val) : Seen q q := ⟨le_rfl, hq⟩

theorem scoreE_pad (hq : q.val < 112) : X.scoreE h q k = ⊥ := if_neg (not_seen_pad hq)

theorem topE_pad (hq : q.val < 112) : X.topE h q = ⊥ := by
  rw [topE, fold_max_eq_sup]
  exact le_bot_iff.mp (Finset.sup_le fun k _ => (scoreE_pad hq).le)

theorem topE_real (hq : 112 ≤ q.val) : X.topE h q = (X.top h q : EReal) := by
  have h1 : X.topE h q ≠ ⊥ := by
    refine ne_of_gt (lt_of_lt_of_le (EReal.bot_lt_coe (X.score h q q)) ?_)
    rw [topE, fold_max_eq_sup]
    refine le_trans (le_of_eq ?_) (Finset.le_sup (Finset.mem_univ q))
    rw [scoreE, if_pos (seen_self hq)]
  have h2 : X.topE h q ≠ ⊤ := by
    refine ne_of_lt ?_
    rw [topE, fold_max_eq_sup]
    refine (Finset.sup_lt_iff (by exact bot_lt_top)).mpr fun k _ => ?_
    rw [scoreE]
    split
    · exact EReal.coe_lt_top _
    · exact bot_lt_top
  exact (EReal.coe_toReal h2 h1).symm

theorem weight_eq : Ideal.exp (X.scoreE h q k - X.topE h q) = (X.weight h q k : EReal) := by
  by_cases hs : Seen q k
  · rw [scoreE, if_pos hs, topE_real (le_trans hs.2 hs.1), ← EReal.coe_sub, exp_coe, weight, if_pos hs]
  · rw [scoreE, if_neg hs, weight, if_neg hs, sub_eq_add_neg, EReal.bot_add, exp_bot]; rfl

theorem den_eq : (∑ k, (X.weight h q k : EReal)) = (X.den h q : EReal) := sum_coe _ _

theorem weight_nonneg : 0 ≤ X.weight h q k := by
  rw [weight]; split
  · exact (Real.exp_pos _).le
  · exact le_rfl

theorem den_pos (hq : 112 ≤ q.val) : 0 < X.den h q := by
  refine Finset.sum_pos' (fun k _ => weight_nonneg) ⟨q, Finset.mem_univ q, ?_⟩
  rw [weight, if_pos (seen_self hq)]; exact Real.exp_pos _

theorem den_pad (hq : q.val < 112) : X.den h q = 0 :=
  Finset.sum_eq_zero fun k _ => if_neg (not_seen_pad hq)

theorem prob_hidden (hs : ¬ Seen q k) : X.prob h q k = 0 := by
  rw [prob, weight, if_neg hs, zero_div]
theorem ds_hidden (hs : ¬ Seen q k) : X.ds h q k = 0 := by
  rw [ds, prob_hidden hs, zero_mul]

theorem lse_real (hq : 112 ≤ q.val) : X.topE h q + Ideal.log (X.den h q : EReal) = (X.lse h q : EReal) := by
  rw [topE_real hq, log_coe (den_pos hq), ← EReal.coe_add, lse, if_neg (not_lt.mpr hq)]

/-- The probability of a pair the query sees, from its score and the saved logarithm. -/
theorem prob_seen (hs : Seen q k) : Ideal.exp ((X.score h q k : EReal) - (X.lse h q : EReal)) = (X.prob h q k : EReal) := by
  have hq : 112 ≤ q.val := le_trans hs.2 hs.1
  rw [lse, if_neg (not_lt.mpr hq), ← EReal.coe_sub, exp_coe, prob, weight, if_pos hs, ← sub_sub, Real.exp_sub (_ - _),
    Real.exp_log (den_pos hq)]

/-- The probability of any pair, from its masked score and the saved logarithm. -/
theorem prob_masked : Ideal.exp (X.scoreE h q k - (X.lse h q : EReal)) = (X.prob h q k : EReal) := by
  by_cases hs : Seen q k
  · rw [scoreE, if_pos hs, prob_seen hs]
  · rw [scoreE, if_neg hs, prob_hidden hs, sub_eq_add_neg, EReal.bot_add, exp_bot]; rfl

theorem prob_div (hq : 112 ≤ q.val) : Ideal.div (X.weight h q k : EReal) (X.den h q : EReal) = (X.prob h q k : EReal) :=
  div_real (den_pos hq).ne' _

theorem ds_eq : (X.prob h q k : EReal) * ((X.dp h q k : EReal) - (X.delta h q : EReal)) = (X.ds h q k : EReal) := by
  rw [← EReal.coe_sub, ← EReal.coe_mul, ds]

/-- The score's gradient as the derivative of the quotient gives it. -/
theorem ds_quotient (hq : 112 ≤ q.val) :
    (Ideal.div (X.dp h q k : EReal) (X.den h q : EReal)
      + -(∑ k, (X.dp h q k : EReal) * Ideal.div 1 ((X.den h q : EReal) * (X.den h q : EReal)) * (X.weight h q k : EReal)))
      * (X.weight h q k : EReal) = (X.ds h q k : EReal) := by
  have hd : X.den h q ≠ 0 := (den_pos hq).ne'
  have h1 : Ideal.div 1 ((X.den h q : EReal) * (X.den h q : EReal)) = ((1 / (X.den h q * X.den h q) : ℝ) : EReal) := by
    rw [← EReal.coe_mul]; exact div_real (mul_ne_zero hd hd) 1
  rw [h1]
  simp only [div_real hd, ← EReal.coe_mul]
  rw [sum_coe, ← EReal.coe_neg, ← EReal.coe_add, ← EReal.coe_mul]
  congr 1
  have h2 : ∑ k, X.dp h q k * (1 / (X.den h q * X.den h q)) * X.weight h q k = X.delta h q / X.den h q := by
    rw [delta, Finset.sum_div]
    refine Finset.sum_congr rfl fun k _ => ?_
    rw [prob]; field_simp
  rw [h2, ds, prob]; field_simp; ring

/-- The row's sum of probabilities times their gradients, through the row's output. -/
theorem delta_out : ∑ d, X.g h q d * ∑ k, X.prob h q k * X.v h k d = X.delta h q := by
  simp only [delta, dp, Finset.mul_sum]
  rw [Finset.sum_comm]
  exact Finset.sum_congr rfl fun k _ => Finset.sum_congr rfl fun d _ => by ring

theorem delta_pad (hq : q.val < 112) : X.delta h q = 0 :=
  Finset.sum_eq_zero fun k _ => by rw [prob_hidden (not_seen_pad hq), zero_mul]

/-! ## Sums over the tokens alone -/

end Args

/-- Token `t`'s row, behind the padding. -/
def tok (t : Fin 8208) : Fin 8320 := ⟨112 + t.val, by have := t.isLt; omega⟩

theorem tok_val (t : Fin 8208) : (tok t).val = 112 + t.val := rfl
theorem tok_le (t : Fin 8208) : 112 ≤ (tok t).val := Nat.le_add_right _ _
theorem tok_cases (i : Fin 8320) : i.val < 112 ∨ ∃ t, i = tok t := by
  by_cases hi : i.val < 112
  · exact .inl hi
  · exact .inr ⟨⟨i.val - 112, by have := i.isLt; omega⟩, Fin.ext (by rw [tok_val]; show i.val = 112 + (i.val - 112); omega)⟩

theorem seen_tok {q k : Fin 8208} : Seen (tok q) (tok k) ↔ k.val ≤ q.val := by
  rw [Seen, tok_val, tok_val]; omega

theorem sum_tok (f : Fin 8320 → ℝ) (h0 : ∀ i : Fin 8320, i.val < 112 → f i = 0) : ∑ t, f (tok t) = ∑ i, f i := by
  have h1 : ∑ i, f i = ∑ i : Fin 112, f (Fin.castAdd 8208 i : Fin (112 + 8208)) + ∑ t : Fin 8208, f (Fin.natAdd 112 t : Fin (112 + 8208)) :=
    Fin.sum_univ_add (a := 112) (b := 8208) f
  rw [h1, Finset.sum_eq_zero (s := (Finset.univ : Finset (Fin 112))) fun i _ => h0 _ i.isLt, zero_add]
  rfl

namespace Args

variable {X : Args} {h : Fin 8}

theorem topE_tok (q : Fin 8208) : Finset.univ.fold max ⊥ (fun t => X.scoreE h (tok q) (tok t)) = X.topE h (tok q) := by
  rw [topE, fold_max_eq_sup, fold_max_eq_sup]
  apply le_antisymm
  · exact Finset.sup_le fun t _ => Finset.le_sup (f := fun k => X.scoreE h (tok q) k) (Finset.mem_univ _)
  · refine Finset.sup_le fun i _ => ?_
    rcases tok_cases i with hi | ⟨t, rfl⟩
    · exact (le_of_eq (if_neg fun hs => absurd hs.2 (not_le.mpr hi))).trans bot_le
    · exact Finset.le_sup (f := fun t => X.scoreE h (tok q) (tok t)) (Finset.mem_univ _)

theorem weight_hidden {q k : Fin 8320} (hk : k.val < 112) : X.weight h q k = 0 := if_neg fun hs => absurd hs.2 (not_le.mpr hk)
theorem prob_pad_key {q k : Fin 8320} (hk : k.val < 112) : X.prob h q k = 0 := prob_hidden fun hs => absurd hs.2 (not_le.mpr hk)
theorem ds_pad_key {q k : Fin 8320} (hk : k.val < 112) : X.ds h q k = 0 := ds_hidden fun hs => absurd hs.2 (not_le.mpr hk)
theorem prob_pad {q k : Fin 8320} (hq : q.val < 112) : X.prob h q k = 0 := prob_hidden (not_seen_pad hq)
theorem ds_pad {q k : Fin 8320} (hq : q.val < 112) : X.ds h q k = 0 := ds_hidden (not_seen_pad hq)

theorem den_tok (q : Fin 8208) : ∑ t, X.weight h (tok q) (tok t) = X.den h (tok q) :=
  sum_tok _ fun _ hi => weight_hidden hi

end Args

end Cert.Attention

end
-- ==== Proof.Value.Reals.lean ====
/-
  The arrays at the kernel's entry, entry by entry, where the six arguments are finite: real numbers.
-/
module

public import proofs.«01_k».proof.Proof.Value.Entry
public import proofs.«01_k».proof.Proof.Value.Attention

@[expose] public section

set_option maxRecDepth 16384

noncomputable section

namespace Cert.KernelIdeal.Grad

open Cert.KernelIdeal Cert.KernelIdeal.Gen Cert.Attention
open Idealize.ShloMosaic Idealize.ShloMosaic.TcCoe
open scoped BigOperators

/-- Every entry is a real number. -/
def Real' {s : Shape} (a : s.Idx → EReal) : Prop := ∀ i, a i = ((a i).toReal : EReal)

/-- The queries' scale. -/
def sc : ℝ := (Ideal.ofBits .f32 0x3D93CD3A#32).toReal
theorem sc_eq : Ideal.ofBits .f32 0x3D93CD3A#32 = (sc : EReal) := by
  have : ∃ r : ℝ, Ideal.ofBits .f32 0x3D93CD3A#32 = (r : EReal) := by
    simp [Ideal.ofBits, Ideal.ieee, -EReal.coe_mul]
  obtain ⟨r, h⟩ := this
  rw [sc, h]; rfl
theorem neg_inf : Ideal.ofBits .f32 0xFF800000#32 = ⊥ := by simp [Ideal.ofBits, Ideal.ieee]
theorem zero_word : (FloatOps.sitofp (F := Ideal) .f32 (0#32) : EReal) = ((0 : ℝ) : EReal) := by
  show (((0#32 : BitVec 32).toInt : ℝ) : EReal) = _
  simp

section

variable (a0 : FVec Ideal S8320x8x128 .f32) (a1 : FVec Ideal S8320x8x64 .f32) (a2 : FVec Ideal S8320x8x128 .f32)
  (a3 : FVec Ideal S8320x64 .f32) (a4 : FVec Ideal S8320x8x128 .f32) (a5 : FVec Ideal S8208x1024 .f32)

/-- The lane of head `h`'s entry `d`, where a head has 128 lanes. -/
abbrev lane (h : Fin 8) (d : Fin 128) : Fin 1024 := ⟨h.val * 128 + d.val, by have := h.isLt; have := d.isLt; omega⟩

/-- The attention's real arguments. -/
def reals : Args where
  qn h q d := (a0 (ix3 q h d)).toReal * sc
  qp h q d := (a1 (ix3 q h d)).toReal * sc
  kn h k d := (a2 (ix3 k h d)).toReal
  kp k d := (a3 (ix2 k d)).toReal
  v h k d := (a4 (ix3 k h d)).toReal
  g h q d := if hq : q.val < 112 then 0 else (a5 (ix2 ⟨q.val - 112, by have := q.isLt; omega⟩ (lane h d))).toReal

variable {a0 a1 a2 a3 a4 a5}

local notation "X" => reals a0 a1 a2 a3 a4 a5

theorem hQn_at (f0 : Real' a0) (q : Fin 8320) (h : Fin 8) (d : Fin 128) : hQn a0 (ix3 q h d) = (((X).qn h q d : ℝ) : EReal) := by
  unfold hQn
  pointwise
  rw [f0, sc_eq, ← EReal.coe_mul]; rfl
theorem hQp_at (f1 : Real' a1) (q : Fin 8320) (h : Fin 8) (d : Fin 64) : hQp a1 (ix3 q h d) = (((X).qp h q d : ℝ) : EReal) := by
  unfold hQp
  pointwise
  rw [f1, sc_eq, ← EReal.coe_mul]; rfl
theorem hKp_at (f3 : Real' a3) (k : Fin 8320) (h : Fin 8) (d : Fin 64) : hKp a3 (ix3 k h d) = (((X).kp k d : ℝ) : EReal) := by
  unfold hKp
  pointwise
  rw [f3]; rfl
theorem hSeen_at (q k : Fin 8208) : hSeen (ix2 q k) = if k.val ≤ q.val then 1#1 else 0#1 := by
  unfold hSeen
  pointwise
  have h1 := q.isLt
  have h2 := k.isLt
  have e : ∀ n : ℕ, n < 8208 → (BitVec.ofNat 32 n).toInt = n := fun n hn => by
    rw [BitVec.toInt_eq_toNat_of_lt (by rw [BitVec.toNat_ofNat]; omega), BitVec.toNat_ofNat]; omega
  simp only [IntOp.cmpi, BitVec.sle, e _ h1, e _ h2, Int.ofNat_le]
  by_cases hk : k.val ≤ q.val
  · rw [if_pos hk, decide_eq_true hk]; rfl
  · rw [if_neg hk, decide_eq_false hk]; rfl
theorem hScore_read (h : Fin 8) (q k : Fin 8208) (x : EReal)
    (hx : Scalar.select (hSeen (ix2 q k)) (∑ d, hQn a0 (ix3 (tok q) h d) * a2 (ix3 (tok k) h d)
      + ∑ d, hQp a1 (ix3 (tok q) h d) * hKp a3 (ix3 (tok k) h d)) ⊥ = x) :
    hScore a0 a1 a2 a3 (ix3 h q k) = x := by
  unfold hScore
  pointwise
  rw [neg_inf]
  exact hx
theorem hTop_at (s : FVec Ideal S8x8208x8208 .f32) (h : Fin 8) (q : Fin 8208) (z : Fin 1) (x : EReal)
    (hx : Finset.univ.fold max ⊥ (fun k => s (ix3 h q k)) = x) : hTop s (ix3 h q z) = x := by
  unfold hTop
  pointwise
  rw [neg_inf]
  exact hx
theorem hWeight_at (s : FVec Ideal S8x8208x8208 .f32) (h : Fin 8) (q k : Fin 8208) (x : EReal)
    (hx : Ideal.exp (s (ix3 h q k) - hTop s (ix3 h q 0)) = x) : hWeight s (ix3 h q k) = x := by
  unfold hWeight
  pointwise
  exact hx
theorem hDen_at (s : FVec Ideal S8x8208x8208 .f32) (h : Fin 8) (q : Fin 8208) (z : Fin 1) (x : EReal)
    (hx : ∑ k, s (ix3 h q k) = x) : hDen s (ix3 h q z) = x := by
  unfold hDen
  pointwise
  exact hx
theorem drop_unit (x : FVec Ideal S8x8208x1 .f32) (h : Fin 8) (q : Fin 8208) :
    shapeCast S8x8208 x shapeCasts_S8x8208x1_S8x8208 (ix2 h q) = x (ix3 h q 0) := by
  pointwise
theorem add_log (a b : FVec Ideal S8x8208x1 .f32) (i : S8x8208x1.Idx) : addf a (Host.log b) i = a i + Ideal.log (b i) := rfl
theorem hLse_eq (s : FVec Ideal S8x8208x8208 .f32) (h : Fin 8) (q : Fin 8208) : hLse s (ix2 h q)
    = shapeCast S8x8208 (addf (hTop s) (Host.log (hDen (hWeight s)))) shapeCasts_S8x8208x1_S8x8208 (ix2 h q) := by rw [hLse]
theorem hLse_at (s : FVec Ideal S8x8208x8208 .f32) (h : Fin 8) (q : Fin 8208) :
    hLse s (ix2 h q) = hTop s (ix3 h q 0) + Ideal.log (hDen (hWeight s) (ix3 h q 0)) :=
  (hLse_eq s h q).trans ((drop_unit _ h q).trans (add_log _ _ _))
theorem hOut_at (w : FVec Ideal S8x8208x8208 .f32) (h : Fin 8) (q : Fin 8208) (d : Fin 128) (x : EReal)
    (hx : ∑ k, Ideal.div (w (ix3 h q k)) (hDen w (ix3 h q 0)) * a4 (ix3 (tok k) h d) = x) : hOut a4 w (ix3 h q d) = x := by
  unfold hOut
  pointwise
  exact hx
theorem hDelta_at (o : FVec Ideal S8x8208x128 .f32) (h : Fin 8) (q : Fin 8208) (x : EReal)
    (hx : ∑ d, a5 (ix2 q (lane h d)) * o (ix3 h q d) = x) : hDelta a5 o (ix2 h q) = x := by
  unfold hDelta
  pointwise
  exact hx
theorem hDo_at (f5 : Real' a5) (q : Fin 8320) (h : Fin 8) (d : Fin 128) :
    hDo a5 (ix2 q (lane h d)) = (((X).g h q d : ℝ) : EReal) := by
  have h1 := q.isLt
  have h2 := h.isLt
  have h3 := d.isLt
  unfold hDo
  pointwise
  show _ = ((dite (q.val < 112) _ _ : ℝ) : EReal)
  by_cases hq : q.val < 112
  · rw [dif_neg (by omega), dif_pos hq, zero_word]
  · rw [dif_pos (by omega), dif_neg hq]
    exact f5 _
theorem hQ_at (f0 : Real' a0) (f1 : Real' a1) (q : Fin 8320) (h : Fin 8) (d : Fin 256) :
    hQ a0 a1 (ix2 q ⟨h.val * 256 + d.val, by have := h.isLt; have := d.isLt; omega⟩)
      = ((if h1 : d.val < 128 then (X).qn h q ⟨d.val, h1⟩ else if h2 : d.val < 192 then (X).qp h q ⟨d.val - 128, by omega⟩ else 0 : ℝ) : EReal) := by
  unfold hQ
  pointwise
  by_cases h1 : d.val < 128
  · rw [dif_pos (by omega), dif_pos h1, dif_pos h1, hQn_at (a1 := a1) (a2 := a2) (a3 := a3) (a4 := a4) (a5 := a5) f0]
  · rw [dif_neg h1]
    by_cases h2 : d.val < 192
    · rw [dif_pos h2, dif_neg h1, dif_pos h2, hQp_at (a0 := a0) (a2 := a2) (a3 := a3) (a4 := a4) (a5 := a5) f1]
    · rw [dif_neg h2, dif_neg h2, zero_word]
theorem hK_at (f2 : Real' a2) (k : Fin 8320) (h : Fin 8) (d : Fin 128) :
    hKv a2 a4 (ix2 k ⟨h.val * 128 + d.val, by have := h.isLt; have := d.isLt; omega⟩) = (((X).kn h k d : ℝ) : EReal) := by
  have h2 := h.isLt
  have h3 := d.isLt
  unfold hKv
  pointwise
  rw [dif_pos (by omega), f2]; rfl
theorem hV_at (f4 : Real' a4) (k : Fin 8320) (h : Fin 8) (d : Fin 128) :
    hKv a2 a4 (ix2 k ⟨(8 + h.val) * 128 + d.val, by have := h.isLt; have := d.isLt; omega⟩) = (((X).v h k d : ℝ) : EReal) := by
  have h2 := h.isLt
  have h3 := d.isLt
  unfold hKv
  pointwise
  rw [dif_neg (by omega), f4]
  have e1 : (⟨((8 + h.val) * 128 + d.val - 1024) / 128, by omega⟩ : Fin 8) = h := Fin.ext (by show _ / 128 = _; omega)
  have e2 : (⟨((8 + h.val) * 128 + d.val - 1024) % 128, by omega⟩ : Fin 128) = d := Fin.ext (by show _ % 128 = _; omega)
  rw [e1, e2]; rfl
theorem hKr_at (f3 : Real' a3) (k : Fin 8320) (h : Fin 8) (d : Fin 128) :
    hKr a3 (ix2 k ⟨h.val * 128 + d.val, by have := h.isLt; have := d.isLt; omega⟩) = ((if h1 : d.val < 64 then (X).kp k ⟨d.val, h1⟩ else 0 : ℝ) : EReal) := by
  unfold hKr
  pointwise
  by_cases h1 : d.val < 64
  · rw [dif_pos h1, dif_pos h1, hKp_at (a0 := a0) (a1 := a1) (a2 := a2) (a4 := a4) (a5 := a5) f3]
  · rw [dif_neg h1, dif_neg h1, zero_word]
theorem hRows_at (x : FVec Ideal S8x8208 .f32) (q : Fin 8320) (h : Fin 8) (s : Fin 8) (y : EReal)
    (hy : (if hq : 112 ≤ q.val then x (ix2 h ⟨q.val - 112, by have := q.isLt; omega⟩) else ((0 : ℝ) : EReal)) = y) :
    hRows x (ix2 ⟨h.val * 8 + s.val, by have := h.isLt; have := s.isLt; omega⟩ q) = y := by
  unfold hRows
  pointwise
  rw [← hy]
  by_cases hq : 112 ≤ q.val
  · rw [dif_pos (by omega), dif_pos hq]
  · rw [dif_neg (by omega), dif_neg hq, zero_word]

/-! ## The forward pass's quantities -/

section

variable (f0 : Real' a0) (f1 : Real' a1) (f2 : Real' a2) (f3 : Real' a3) (f4 : Real' a4) (f5 : Real' a5)

include f0 f1 f2 f3 in
theorem hScore_at (h : Fin 8) (q k : Fin 8208) : hScore a0 a1 a2 a3 (ix3 h q k) = (X).scoreE h (tok q) (tok k) := by
  apply hScore_read
  have e1 : ∀ d, hQn a0 (ix3 (tok q) h d) * a2 (ix3 (tok k) h d) = (((X).qn h (tok q) d * (X).kn h (tok k) d : ℝ) : EReal) := fun d => by
    rw [hQn_at (a1 := a1) (a2 := a2) (a3 := a3) (a4 := a4) (a5 := a5) f0, f2, EReal.coe_mul]; rfl
  have e2 : ∀ d, hQp a1 (ix3 (tok q) h d) * hKp a3 (ix3 (tok k) h d) = (((X).qp h (tok q) d * (X).kp (tok k) d : ℝ) : EReal) := fun d => by
    rw [hQp_at (a0 := a0) (a2 := a2) (a3 := a3) (a4 := a4) (a5 := a5) f1, hKp_at (a0 := a0) (a1 := a1) (a2 := a2) (a4 := a4) (a5 := a5) f3, EReal.coe_mul]
  rw [Finset.sum_congr rfl fun d _ => e1 d, Finset.sum_congr rfl fun d _ => e2 d, sum_coe, sum_coe, ← EReal.coe_add, hSeen_at]
  by_cases hk : k.val ≤ q.val
  · rw [if_pos hk, Args.scoreE, if_pos (seen_tok.mpr hk)]; rfl
  · rw [if_neg hk, Args.scoreE, if_neg (fun hs => hk (seen_tok.mp hs))]; rfl

include f0 f1 f2 f3 in
theorem top_at (h : Fin 8) (q : Fin 8208) (z : Fin 1) : hTop (hScore a0 a1 a2 a3) (ix3 h q z) = (X).topE h (tok q) := by
  apply hTop_at
  rw [← Args.topE_tok]
  congr 1
  exact funext fun k => hScore_at (a4 := a4) (a5 := a5) f0 f1 f2 f3 h q k

include f0 f1 f2 f3 in
theorem weight_at (h : Fin 8) (q k : Fin 8208) :
    hWeight (hScore a0 a1 a2 a3) (ix3 h q k) = ((X).weight h (tok q) (tok k) : EReal) := by
  apply hWeight_at
  rw [hScore_at (a4 := a4) (a5 := a5) f0 f1 f2 f3, top_at (a4 := a4) (a5 := a5) f0 f1 f2 f3, Args.weight_eq]

include f0 f1 f2 f3 in
theorem den_at (h : Fin 8) (q : Fin 8208) (z : Fin 1) :
    hDen (hWeight (hScore a0 a1 a2 a3)) (ix3 h q z) = ((X).den h (tok q) : EReal) := by
  apply hDen_at
  rw [Finset.sum_congr rfl fun k _ => weight_at (a4 := a4) (a5 := a5) f0 f1 f2 f3 h q k, sum_coe, Args.den_tok]

include f0 f1 f2 f3 in
theorem lse_at (h s : Fin 8) (q : Fin 8320) :
    hRows (hLse (hScore a0 a1 a2 a3)) (ix2 ⟨h.val * 8 + s.val, by have := h.isLt; have := s.isLt; omega⟩ q) = ((X).lse h q : EReal) := by
  apply hRows_at
  rcases tok_cases q with hq | ⟨t, rfl⟩
  · rw [dif_neg (by omega), Args.lse, if_pos hq]
  · rw [dif_pos (tok_le t)]
    have e : (⟨(tok t).val - 112, by have := (tok t).isLt; omega⟩ : Fin 8208) = t := Fin.ext (by show 112 + t.val - 112 = t.val; omega)
    rw [e, hLse_at, top_at (a4 := a4) (a5 := a5) f0 f1 f2 f3, den_at (a4 := a4) (a5 := a5) f0 f1 f2 f3, Args.lse_real (tok_le t)]

include f0 f1 f2 f3 f4 in
theorem out_at (h : Fin 8) (q : Fin 8208) (d : Fin 128) :
    hOut a4 (hWeight (hScore a0 a1 a2 a3)) (ix3 h q d) = ((∑ k, (X).prob h (tok q) k * (X).v h k d : ℝ) : EReal) := by
  apply hOut_at
  have e : ∀ k, Ideal.div (hWeight (hScore a0 a1 a2 a3) (ix3 h q k)) (hDen (hWeight (hScore a0 a1 a2 a3)) (ix3 h q 0)) * a4 (ix3 (tok k) h d)
      = (((X).prob h (tok q) (tok k) * (X).v h (tok k) d : ℝ) : EReal) := fun k => by
    rw [weight_at (a4 := a4) (a5 := a5) f0 f1 f2 f3, den_at (a4 := a4) (a5 := a5) f0 f1 f2 f3, Args.prob_div (tok_le q), f4, EReal.coe_mul]; rfl
  rw [Finset.sum_congr rfl fun k _ => e k, sum_coe]
  exact congrArg _ (sum_tok (fun k => (X).prob h (tok q) k * (X).v h k d) fun i hi => by rw [Args.prob_pad_key hi, zero_mul])

theorem g_tok (h : Fin 8) (q : Fin 8208) (d : Fin 128) (f5 : Real' a5) : a5 (ix2 q (lane h d)) = (((X).g h (tok q) d : ℝ) : EReal) := by
  have e : (⟨(tok q).val - 112, by have := (tok q).isLt; omega⟩ : Fin 8208) = q := Fin.ext (by show 112 + q.val - 112 = q.val; omega)
  show _ = ((dite ((tok q).val < 112) _ _ : ℝ) : EReal)
  rw [dif_neg (not_lt.mpr (tok_le q)), e]
  exact f5 _

include f0 f1 f2 f3 f4 f5 in
theorem delta_at (h s : Fin 8) (q : Fin 8320) :
    hRows (hDelta a5 (hOut a4 (hWeight (hScore a0 a1 a2 a3)))) (ix2 ⟨h.val * 8 + s.val, by have := h.isLt; have := s.isLt; omega⟩ q)
      = ((X).delta h q : EReal) := by
  apply hRows_at
  rcases tok_cases q with hq | ⟨t, rfl⟩
  · rw [dif_neg (by omega), Args.delta_pad hq]
  · rw [dif_pos (tok_le t)]
    have e : (⟨(tok t).val - 112, by have := (tok t).isLt; omega⟩ : Fin 8208) = t := Fin.ext (by show 112 + t.val - 112 = t.val; omega)
    rw [e]
    apply hDelta_at
    have e' : ∀ d, a5 (ix2 t (lane h d)) * hOut a4 (hWeight (hScore a0 a1 a2 a3)) (ix3 h t d)
        = (((X).g h (tok t) d * ∑ k, (X).prob h (tok t) k * (X).v h k d : ℝ) : EReal) := fun d => by
      rw [out_at (a5 := a5) f0 f1 f2 f3 f4, g_tok (a0 := a0) (a1 := a1) (a2 := a2) (a3 := a3) (a4 := a4) h t d f5, ← EReal.coe_mul]
    rw [Finset.sum_congr rfl fun d _ => e' d, sum_coe, Args.delta_out]

end

end
end Cert.KernelIdeal.Grad

end
-- ==== Proof.Value.Tile.lean ====
/-
  One tile of the attention gradient over the real numbers.

  A tile pairs a block of 640 keys with a block of 640 queries. Where its seven blocks hold the entries of one head's
  arrays, what the body adds to its accumulators and to the queries' gradient are partial sums of the gradient.
-/
module

public import proofs.«01_k».proof.Proof.Ideal.Steps
public import proofs.«01_k».proof.Proof.Value.Attention
public import Idealize.ShloMosaic.Lib.Pointwise

@[expose] public section

set_option maxRecDepth 16384

noncomputable section

namespace Cert.Attention

open scoped BigOperators

/-- Entry `c` of block `b` of the tokens. -/
def pos (b : Fin 13) (c : Fin 640) : Fin 8320 := ⟨b.val * 640 + c.val, by have := b.isLt; have := c.isLt; omega⟩

theorem pos_val (b : Fin 13) (c : Fin 640) : (pos b c).val = b.val * 640 + c.val := rfl

theorem seen_plain {a b : Fin 13} {r c : Fin 640} (h0 : 0 < a.val) (h1 : a.val < b.val) : Seen (pos b c) (pos a r) := by
  have := r.isLt
  refine ⟨?_, ?_⟩
  · rw [pos_val, pos_val]; omega
  · rw [pos_val]; omega
theorem not_seen_above {a b : Fin 13} {r c : Fin 640} (h : b.val < a.val) : ¬ Seen (pos b c) (pos a r) := fun hs => by
  have h1 := hs.1
  have := c.isLt
  rw [pos_val, pos_val] at h1; omega

namespace Args

variable (X : Args) (h : Fin 8) (a b : Fin 13)

/-- A query's and a key's 256 lanes: the plain part, the rotary part, zeros. -/
def qq (q : Fin 8320) (l : Fin 256) : ℝ :=
  if h1 : l.val < 128 then X.qn h q ⟨l.val, h1⟩ else if h2 : l.val < 192 then X.qp h q ⟨l.val - 128, by omega⟩ else 0
def kr (k : Fin 8320) (d : Fin 128) : ℝ := if h1 : d.val < 64 then X.kp k ⟨d.val, h1⟩ else 0
def kk (k : Fin 8320) (l : Fin 256) : ℝ :=
  if h1 : l.val < 128 then X.kn h k ⟨l.val, h1⟩ else X.kr k ⟨l.val - 128, by have := l.isLt; omega⟩

theorem score_lanes (q k : Fin 8320) :
    ∑ x : Fin 128, X.kn h k x * X.qq h q ⟨x.val, by have := x.isLt; omega⟩
      + ∑ x : Fin 128, X.kr k x * X.qq h q ⟨128 + x.val, by have := x.isLt; omega⟩ = X.score h q k := by
  have e1 : ∑ x : Fin 128, X.kn h k x * X.qq h q ⟨x.val, by have := x.isLt; omega⟩ = ∑ d, X.qn h q d * X.kn h k d :=
    Finset.sum_congr rfl fun x _ => by rw [qq, dif_pos x.isLt, mul_comm]
  have e2 : ∑ x : Fin 128, X.kr k x * X.qq h q ⟨128 + x.val, by have := x.isLt; omega⟩ = ∑ r, X.qp h q r * X.kp k r := by
    refine (Fin.sum_univ_add (a := 64) (b := 64) fun x : Fin (64 + 64) =>
      X.kr k x * X.qq h q ⟨128 + x.val, by have := x.isLt; omega⟩).trans ?_
    rw [Finset.sum_eq_zero (s := (Finset.univ : Finset (Fin 64))) (f := fun i => X.kr k (Fin.natAdd 64 i) * _) (fun i _ => by
      rw [kr, dif_neg (by show ¬ 64 + i.val < 64; omega), zero_mul]), add_zero]
    refine Finset.sum_congr rfl fun x _ => ?_
    have := x.isLt
    rw [kr, dif_pos (show (Fin.castAdd 64 x).val < 64 from x.isLt), qq, dif_neg (by show ¬ 128 + x.val < 128; omega),
      dif_pos (by show 128 + x.val < 192; omega), mul_comm]
    congr 2
    exact Fin.ext (by show 128 + x.val - 128 = x.val; omega)
  rw [e1, e2, score]

/-- The tile's part of a value's, of a key's and of a query's gradient. -/
def tileV (r : Fin 640) (d : Fin 128) : ℝ := ∑ c, X.prob h (pos b c) (pos a r) * X.g h (pos b c) d
def tileK (r : Fin 640) (l : Fin 256) : ℝ := ∑ c, X.ds h (pos b c) (pos a r) * X.qq h (pos b c) l
def tileQ (c : Fin 640) (l : Fin 256) : ℝ := ∑ r, X.ds h (pos b c) (pos a r) * X.kk h (pos a r) l

variable {a b}

theorem tileV_above (hab : b.val < a.val) (r : Fin 640) (d : Fin 128) : X.tileV h a b r d = 0 :=
  Finset.sum_eq_zero fun c _ => by rw [prob_hidden (not_seen_above hab), zero_mul]
theorem tileK_above (hab : b.val < a.val) (r : Fin 640) (l : Fin 256) : X.tileK h a b r l = 0 :=
  Finset.sum_eq_zero fun c _ => by rw [ds_hidden (not_seen_above hab), zero_mul]
theorem tileQ_above (hab : b.val < a.val) (c : Fin 640) (l : Fin 256) : X.tileQ h a b c l = 0 :=
  Finset.sum_eq_zero fun r _ => by rw [ds_hidden (not_seen_above hab), zero_mul]

end Args

end Cert.Attention

namespace Cert.KernelIdeal.Grad

open Cert.KernelIdeal Cert.KernelIdeal.Gen Cert.Attention
open Idealize.ShloMosaic Idealize.ShloMosaic.TcCoe
open scoped BigOperators

/-- The seven blocks hold head `h`'s entries for key block `a` and query block `b`. -/
structure Blocks (X : Args) (h : Fin 8) (a b : Fin 13) (x0 : Vec Ideal S640x256 .bf16) (x1 x2 x3 : Vec Ideal S640x128 .bf16)
    (x4 : Vec Ideal S640x128 .f32) (x5 x6 : Vec Ideal S8x640 .f32) : Prop where
  q : ∀ c l, x0 (ix2 c l) = ((X.qq h (pos b c) l : ℝ) : EReal)
  kn : ∀ r d, x1 (ix2 r d) = ((X.kn h (pos a r) d : ℝ) : EReal)
  kr : ∀ r d, x2 (ix2 r d) = ((X.kr (pos a r) d : ℝ) : EReal)
  v : ∀ r d, x3 (ix2 r d) = ((X.v h (pos a r) d : ℝ) : EReal)
  g : ∀ c d, x4 (ix2 c d) = ((X.g h (pos b c) d : ℝ) : EReal)
  lse : ∀ c, row x5 (ix2 0 c) = ((X.lse h (pos b c) : ℝ) : EReal)
  delta : ∀ c, row x6 (ix2 0 c) = ((X.delta h (pos b c) : ℝ) : EReal)

section Tile

variable {X : Args} {h : Fin 8} {a b : Fin 13} {x0 : Vec Ideal S640x256 .bf16} {x1 x2 x3 : Vec Ideal S640x128 .bf16}
  {x4 : Vec Ideal S640x128 .f32} {x5 x6 : Vec Ideal S8x640 .f32}

/-! ## The scores and the probabilities -/

theorem scores (B : Blocks X h a b x0 x1 x2 x3 x4 x5 x6) (r c : Fin 640) :
    (∑ x : Fin 128, x1 (ix2 r x) * x0 (ix2 c ⟨x.val, by have := x.isLt; omega⟩)
      + ∑ x : Fin 128, x2 (ix2 r x) * x0 (ix2 c ⟨128 + x.val, by have := x.isLt; omega⟩) : EReal)
      = (X.score h (pos b c) (pos a r) : EReal) := by
  rw [← Args.score_lanes, EReal.coe_add, ← sum_coe, ← sum_coe]
  congr 1
  · exact Finset.sum_congr rfl fun x _ => by rw [B.kn, B.q, EReal.coe_mul]
  · exact Finset.sum_congr rfl fun x _ => by rw [B.kr, B.q, EReal.coe_mul]

theorem small (n : ℕ) (hn : n < 2 ^ 31) : (BitVec.ofNat 32 n).toInt = n := by
  rw [BitVec.toInt_eq_toNat_of_lt (by rw [BitVec.toNat_ofNat]; omega), BitVec.toNat_ofNat, Nat.mod_eq_of_lt (by omega)]

theorem mask_word (a b : Fin 13) (r c : Fin 640) :
    IntOp.andi (IntOp.cmpi .sle (IntOp.addi (Scalar.muli (BitVec.ofNat 32 a.val) 640#32) (BitVec.ofNat 32 r.val))
        (IntOp.addi (Scalar.muli (BitVec.ofNat 32 b.val) 640#32) (BitVec.ofNat 32 c.val)))
      (IntOp.cmpi .sge (IntOp.addi (Scalar.muli (BitVec.ofNat 32 a.val) 640#32) (BitVec.ofNat 32 r.val)) 112#32)
      = if Seen (pos b c) (pos a r) then 1#1 else 0#1 := by
  have ha := a.isLt
  have hb := b.isLt
  have hr := r.isLt
  have hc := c.isLt
  have e1 : IntOp.addi (Scalar.muli (BitVec.ofNat 32 a.val) 640#32) (BitVec.ofNat 32 r.val) = BitVec.ofNat 32 (pos a r).val := by
    show BitVec.ofNat 32 a.val * BitVec.ofNat 32 640 + BitVec.ofNat 32 r.val = _
    rw [← BitVec.ofNat_mul, ← BitVec.ofNat_add]; rfl
  have e2 : IntOp.addi (Scalar.muli (BitVec.ofNat 32 b.val) 640#32) (BitVec.ofNat 32 c.val) = BitVec.ofNat 32 (pos b c).val := by
    show BitVec.ofNat 32 b.val * BitVec.ofNat 32 640 + BitVec.ofNat 32 c.val = _
    rw [← BitVec.ofNat_mul, ← BitVec.ofNat_add]; rfl
  rw [e1, e2]
  have h1 := (pos a r).isLt
  have h2 := (pos b c).isLt
  show IntOp.andi (BitVec.ofBool (BitVec.sle _ _)) (BitVec.ofBool (BitVec.sle (BitVec.ofNat 32 112) _)) = _
  unfold BitVec.sle
  rw [small _ (by omega), small _ (by omega), small 112 (by omega)]
  unfold Seen
  by_cases p1 : (pos a r).val ≤ (pos b c).val <;> by_cases p2 : 112 ≤ (pos a r).val
  all_goals simp [p1, p2, IntOp.andi]

theorem probM_at (i : grid0.Coords) (hi1 : (i 1).val = a.val) (hi2 : (i 2).val = b.val)
    (B : Blocks X h a b x0 x1 x2 x3 x4 x5 x6) (r c : Fin 640) :
    probM i x0 x1 x2 x5 (ix2 r c) = (X.prob h (pos b c) (pos a r) : EReal) := by
  unfold probM
  rw [hi1, hi2]
  have e := B.lse c
  generalize row x5 = l at e ⊢
  have s := scores B r c
  pointwise [k0_pay14, k0_pay12, k0_pay13]
  rw [mask_word, s, e, ← Args.prob_masked, Args.scoreE]
  by_cases hs : Seen (pos b c) (pos a r)
  · rw [if_pos hs, if_pos hs]; rfl
  · rw [if_neg hs, if_neg hs]; rfl

theorem probP_at (h0 : 0 < a.val) (h1 : a.val < b.val) (B : Blocks X h a b x0 x1 x2 x3 x4 x5 x6) (r c : Fin 640) :
    k0_pay19 x0 x1 x2 (row x5) (ix2 r c) = (X.prob h (pos b c) (pos a r) : EReal) := by
  have e := B.lse c
  generalize row x5 = l at e ⊢
  have s := scores B r c
  pointwise [k0_pay19, k0_pay17, k0_pay18]
  rw [s, e, Args.prob_seen (seen_plain h0 h1)]

/-! ## The tile's sums -/

theorem dp_sum (B : Blocks X h a b x0 x1 x2 x3 x4 x5 x6) (r c : Fin 640) :
    (∑ y : Fin 128, x3 (ix2 r y) * x4 (ix2 c y) : EReal) = (X.dp h (pos b c) (pos a r) : EReal) := by
  rw [Args.dp, ← sum_coe]
  exact Finset.sum_congr rfl fun y _ => by rw [B.v, B.g, EReal.coe_mul, mul_comm]

theorem ds_entry (B : Blocks X h a b x0 x1 x2 x3 x4 x5 x6) (r c : Fin 640) (p : EReal)
    (hp : p = (X.prob h (pos b c) (pos a r) : EReal)) :
    (p * (∑ y : Fin 128, x3 (ix2 r y) * x4 (ix2 c y) - row x6 (ix2 0 c)) : EReal) = (X.ds h (pos b c) (pos a r) : EReal) := by
  rw [hp, dp_sum B, B.delta, Args.ds_eq]

theorem keys_at (B : Blocks X h a b x0 x1 x2 x3 x4 x5 x6) (r : Fin 640) (l : Fin 256) :
    k0_pay13 x1 x2 (ix2 r l) = ((X.kk h (pos a r) l : ℝ) : EReal) := by
  pointwise [k0_pay13]
  rw [Args.kk]
  by_cases h1 : l.val < 128
  · rw [dif_pos h1, dif_pos h1, B.kn]
  · rw [dif_neg h1, dif_neg h1, B.kr]
theorem keys_at' (B : Blocks X h a b x0 x1 x2 x3 x4 x5 x6) (r : Fin 640) (l : Fin 256) :
    k0_pay18 x1 x2 (ix2 r l) = ((X.kk h (pos a r) l : ℝ) : EReal) := keys_at B r l

theorem sumV (P : FVec Ideal S640x640 .f32) (B : Blocks X h a b x0 x1 x2 x3 x4 x5 x6)
    (hP : ∀ r c, P (ix2 r c) = (X.prob h (pos b c) (pos a r) : EReal)) (r : Fin 640) (d : Fin 128) :
    (∑ c : Fin 640, P (ix2 r c) * x4 (ix2 c d) : EReal) = (X.tileV h a b r d : EReal) := by
  rw [Args.tileV, ← sum_coe]
  exact Finset.sum_congr rfl fun c _ => by rw [hP, B.g, EReal.coe_mul]
theorem sumK (P : FVec Ideal S640x640 .f32) (B : Blocks X h a b x0 x1 x2 x3 x4 x5 x6)
    (hP : ∀ r c, P (ix2 r c) = (X.prob h (pos b c) (pos a r) : EReal)) (r : Fin 640) (l : Fin 256) :
    (∑ c : Fin 640, P (ix2 r c) * (∑ y : Fin 128, x3 (ix2 r y) * x4 (ix2 c y) - row x6 (ix2 0 c)) * x0 (ix2 c l) : EReal)
      = (X.tileK h a b r l : EReal) := by
  rw [Args.tileK, ← sum_coe]
  exact Finset.sum_congr rfl fun c _ => by rw [ds_entry B r c _ (hP r c), B.q, EReal.coe_mul]
theorem sumQ (P : FVec Ideal S640x640 .f32) (K : FVec Ideal S640x256 .bf16) (B : Blocks X h a b x0 x1 x2 x3 x4 x5 x6)
    (hP : ∀ r c, P (ix2 r c) = (X.prob h (pos b c) (pos a r) : EReal))
    (hK : ∀ r l, K (ix2 r l) = ((X.kk h (pos a r) l : ℝ) : EReal)) (c : Fin 640) (l : Fin 256) :
    (∑ r : Fin 640, P (ix2 r c) * (∑ y : Fin 128, x3 (ix2 r y) * x4 (ix2 c y) - row x6 (ix2 0 c)) * K (ix2 r l) : EReal)
      = (X.tileQ h a b c l : EReal) := by
  rw [Args.tileQ, ← sum_coe]
  exact Finset.sum_congr rfl fun r _ => by rw [ds_entry B r c _ (hP r c), hK, EReal.coe_mul]

/-! ## The masked tile -/

section Masked

variable (i : grid0.Coords) (hi1 : (i 1).val = a.val) (hi2 : (i 2).val = b.val) (B : Blocks X h a b x0 x1 x2 x3 x4 x5 x6)
include hi1 hi2 B

theorem dvM_at (e : Vec Ideal S640x128 .f32) (r : Fin 640) (d : Fin 128) :
    dvM i x0 x1 x2 x4 x5 e (ix2 r d) = (e (ix2 r d) + (X.tileV h a b r d : EReal) : EReal) := by
  rw [← sumV (probM i x0 x1 x2 x5) B (probM_at i hi1 hi2 B)]
  unfold dvM probM
  pointwise [k0_pay16, k0_pay15]
theorem dkM_at (d : Vec Ideal S640x256 .f32) (r : Fin 640) (l : Fin 256) :
    dkM i x0 x1 x2 x3 x4 x5 x6 d (ix2 r l) = (d (ix2 r l) + (X.tileK h a b r l : EReal) : EReal) := by
  rw [← sumK (probM i x0 x1 x2 x5) B (probM_at i hi1 hi2 B)]
  unfold dkM
  generalize probM i x0 x1 x2 x5 = P
  generalize row x6 = w
  pointwise [k0_pay4, k0_pay3, k0_pay12, k0_pay15]
theorem dqM_at (c : Fin 640) (l : Fin 256) :
    dqM i x0 x1 x2 x3 x4 x5 x6 (ix2 c l) = (X.tileQ h a b c l : EReal) := by
  rw [← sumQ (probM i x0 x1 x2 x5) (k0_pay13 x1 x2) B (probM_at i hi1 hi2 B) (keys_at B)]
  unfold dqM
  generalize probM i x0 x1 x2 x5 = P
  generalize row x6 = w
  pointwise [k0_pay5, k0_pay3, k0_pay15]
theorem dqM'_at (y : Vec Ideal S640x256 .f32) (c : Fin 640) (l : Fin 256) :
    dqM' i x0 x1 x2 x3 x4 x5 x6 y (ix2 c l) = (y (ix2 c l) + (X.tileQ h a b c l : EReal) : EReal) := by
  rw [← sumQ (probM i x0 x1 x2 x5) (k0_pay13 x1 x2) B (probM_at i hi1 hi2 B) (keys_at B)]
  unfold dqM'
  generalize probM i x0 x1 x2 x5 = P
  generalize row x6 = w
  pointwise [k0_pay6, k0_pay5, k0_pay3, k0_pay15]

end Masked

/-! ## The tile without a mask -/

section Plain

variable (h0 : 0 < a.val) (h1 : a.val < b.val) (B : Blocks X h a b x0 x1 x2 x3 x4 x5 x6)
include h0 h1 B

theorem dvP_at (e : Vec Ideal S640x128 .f32) (r : Fin 640) (d : Fin 128) :
    dvP x0 x1 x2 x4 x5 e (ix2 r d) = (e (ix2 r d) + (X.tileV h a b r d : EReal) : EReal) := by
  rw [← sumV (k0_pay19 x0 x1 x2 (row x5)) B (probP_at h0 h1 B)]
  unfold dvP
  pointwise [k0_pay21, k0_pay20]
theorem dkP_at (d : Vec Ideal S640x256 .f32) (r : Fin 640) (l : Fin 256) :
    dkP x0 x1 x2 x3 x4 x5 x6 d (ix2 r l) = (d (ix2 r l) + (X.tileK h a b r l : EReal) : EReal) := by
  rw [← sumK (k0_pay19 x0 x1 x2 (row x5)) B (probP_at h0 h1 B)]
  unfold dkP
  generalize row x6 = w
  pointwise [k0_pay7, k0_pay23, k0_pay22, k0_pay17, k0_pay20]
theorem dqP'_at (y : Vec Ideal S640x256 .f32) (c : Fin 640) (l : Fin 256) :
    dqP' x0 x1 x2 x3 x4 x5 x6 y (ix2 c l) = (y (ix2 c l) + (X.tileQ h a b c l : EReal) : EReal) := by
  rw [← sumQ (k0_pay19 x0 x1 x2 (row x5)) (k0_pay18 x1 x2) B (probP_at h0 h1 B) (keys_at' B)]
  unfold dqP'
  generalize row x6 = w
  pointwise [k0_pay9, k0_pay8, k0_pay22, k0_pay20]

end Plain

end Tile

end Cert.KernelIdeal.Grad

end
-- ==== Proof.Value.Points.lean ====
/-
  The seven blocks of a point, entry by entry: where the point takes a tile they hold the entries of its head for its key
  block and its query block.
-/
module

public import proofs.«01_k».proof.Proof.Value.Reals
public import proofs.«01_k».proof.Proof.Value.Tile
public import Idealize.ShloMosaic.Lib.Pipeline.ValueKit

@[expose] public section

set_option maxRecDepth 16384

noncomputable section

namespace Cert.KernelIdeal.Grad

open Cert.KernelIdeal Cert.KernelIdeal.Gen Cert.Attention
open Idealize.ShloMosaic Idealize.ShloMosaic.TcCoe
open scoped BigOperators

/-! ## Where the blocks sit -/

theorem index_in : ∀ t : Fin cfg0.N,
    win0_0.index t = ![max (t.val % 13) (t.val / 13 % 13), t.val / 169] ∧ win0_1.index t = ![t.val / 13 % 13, t.val / 169]
      ∧ win0_2.index t = ![t.val / 13 % 13, t.val / 169] ∧ win0_3.index t = ![t.val / 13 % 13, 8 + t.val / 169]
      ∧ win0_4.index t = ![max (t.val % 13) (t.val / 13 % 13), t.val / 169]
      ∧ win0_5.index t = ![t.val / 169, max (t.val % 13) (t.val / 13 % 13)]
      ∧ win0_6.index t = ![t.val / 169, max (t.val % 13) (t.val / 13 % 13)] :=
  (by decide +kernel : ∀ t : Fin grid0.N, _)
theorem index_out : ∀ t : Fin cfg0.N,
    win0_7.index t = ![0, t.val / 169] ∧ win0_8.index t = ![t.val / 13 % 13, t.val / 169]
      ∧ win0_9.index t = ![t.val / 13 % 13, t.val / 169] ∧ win0_10.index t = ![t.val / 13 % 13, t.val / 169] :=
  (by decide +kernel : ∀ t : Fin grid0.N, _)
theorem coords_val : ∀ t : Fin cfg0.N, (grid0.coords t 0).val = t.val / 169 ∧ (grid0.coords t 1).val = t.val / 13 % 13
    ∧ (grid0.coords t 2).val = t.val % 13 :=
  (by decide +kernel : ∀ t : Fin grid0.N, _)

theorem point_lt (t : Fin cfg0.N) : t.val < 1352 := t.isLt

/-- The head, the key block and the query block of a point. -/
def hF (t : Fin cfg0.N) : Fin 8 := ⟨t.val / 169, by have := point_lt t; omega⟩
def aF (t : Fin cfg0.N) : Fin 13 := ⟨t.val / 13 % 13, by omega⟩
def bF (t : Fin cfg0.N) : Fin 13 := ⟨t.val % 13, by omega⟩

variable (m : (ℓ : Loc nD τ sig) → Buf (Elt Ideal) ℓ) (c : Dev nD)

section Read

variable (t : Fin cfg0.N) (hab : (aF t).val ≤ (bF t).val)
include hab

theorem read_0 (r : Fin 640) (l : Fin 256) : iblk m c 0 t (ix2 r l)
    = V m c main_v42 (ix2 (pos (bF t) r) ⟨(hF t).val * 256 + l.val, by have := (hF t).isLt; have := l.isLt; omega⟩) := by
  have h1 : max (t.val % 13) (t.val / 13 % 13) = t.val % 13 := max_eq_left hab
  blk_ext [iblk, index_in t, h1, pos, aF, bF, hF]
theorem read_1 (r : Fin 640) (d : Fin 128) : iblk m c 1 t (ix2 r d)
    = V m c main_v46 (ix2 (pos (aF t) r) ⟨(hF t).val * 128 + d.val, by have := (hF t).isLt; have := d.isLt; omega⟩) := by
  blk_ext [iblk, index_in t, pos, aF, bF, hF]
theorem read_2 (r : Fin 640) (d : Fin 128) : iblk m c 2 t (ix2 r d)
    = V m c main_v49 (ix2 (pos (aF t) r) ⟨(hF t).val * 128 + d.val, by have := (hF t).isLt; have := d.isLt; omega⟩) := by
  blk_ext [iblk, index_in t, pos, aF, bF, hF]
theorem read_3 (r : Fin 640) (d : Fin 128) : iblk m c 3 t (ix2 r d)
    = V m c main_v46 (ix2 (pos (aF t) r) ⟨(8 + (hF t).val) * 128 + d.val, by have := (hF t).isLt; have := d.isLt; omega⟩) := by
  blk_ext [iblk, index_in t, pos, aF, bF, hF]
theorem read_4 (r : Fin 640) (d : Fin 128) : iblk m c 4 t (ix2 r d)
    = V m c main_v38 (ix2 (pos (bF t) r) (lane (hF t) d)) := by
  have h1 : max (t.val % 13) (t.val / 13 % 13) = t.val % 13 := max_eq_left hab
  blk_ext [iblk, index_in t, h1, pos, aF, bF, hF, lane]
theorem read_5 (r : Fin 640) : iblk m c 5 t (ix2 0 r)
    = V m c main_v52 (ix2 ⟨(hF t).val * 8 + (0 : Fin 8).val, by have := (hF t).isLt; show _ + 0 < _; omega⟩ (pos (bF t) r)) := by
  have h1 : max (t.val % 13) (t.val / 13 % 13) = t.val % 13 := max_eq_left hab
  blk_ext [iblk, index_in t, h1, pos, aF, bF, hF]
theorem read_6 (r : Fin 640) : iblk m c 6 t (ix2 0 r)
    = V m c main_v55 (ix2 ⟨(hF t).val * 8 + (0 : Fin 8).val, by have := (hF t).isLt; show _ + 0 < _; omega⟩ (pos (bF t) r)) := by
  have h1 : max (t.val % 13) (t.val / 13 % 13) = t.val % 13 := max_eq_left hab
  blk_ext [iblk, index_in t, h1, pos, aF, bF, hF]

end Read

theorem row_at (x : Vec Ideal S8x640 .f32) (r : Fin 640) : row x (ix2 0 r) = x (ix2 0 r) := by
  unfold row
  rw [VecWindow.window_eq_ld]
  pointwise

/-- The six arguments' real numbers. -/
abbrev args : Args := reals (arg0 m c) (arg1 m c) (arg2 m c) (arg3 m c) (arg4 m c) (arg5 m c)

/-- Every entry of the six arguments is a real number. -/
def Finite : Prop := Real' (arg0 m c) ∧ Real' (arg1 m c) ∧ Real' (arg2 m c) ∧ Real' (arg3 m c) ∧ Real' (arg4 m c) ∧ Real' (arg5 m c)

theorem blocks (f : Finite m c) (t : Fin cfg0.N) (hab : (aF t).val ≤ (bF t).val) :
    Blocks (args m c) (hF t) (aF t) (bF t) (iblk m c 0 t) (iblk m c 1 t) (iblk m c 2 t) (iblk m c 3 t) (iblk m c 4 t)
      (iblk m c 5 t) (iblk m c 6 t) := by
  obtain ⟨f0, f1, f2, f3, f4, f5⟩ := f
  refine ⟨fun r l => ?_, fun r d => ?_, fun r d => ?_, fun r d => ?_, fun r d => ?_, fun r => ?_, fun r => ?_⟩
  · rw [read_0 m c t hab, entry_q]
    exact hQ_at f0 f1 _ _ _
  · rw [read_1 m c t hab, entry_kv]
    exact hK_at f2 _ _ _
  · rw [read_2 m c t hab, entry_kr]
    exact hKr_at f3 _ _ _
  · rw [read_3 m c t hab, entry_kv]
    exact hV_at f4 _ _ _
  · rw [read_4 m c t hab, entry_do]
    exact hDo_at f5 _ _ _
  · rw [row_at, read_5 m c t hab, entry_lse]
    exact lse_at (a4 := arg4 m c) (a5 := arg5 m c) f0 f1 f2 f3 _ _ _
  · rw [row_at, read_6 m c t hab, entry_delta]
    exact delta_at f0 f1 f2 f3 f4 f5 _ _ _

end Cert.KernelIdeal.Grad

end
-- ==== Proof.Value.Accumulate.lean ====
/-
  What the attention gradient's grid leaves in its four result arrays, entry by entry, where the arguments are finite: the
  partial sums of the tiles, added up over the points.
-/
module

public import proofs.«01_k».proof.Proof.Value.Points

@[expose] public section

set_option maxRecDepth 16384

noncomputable section

namespace Cert.Attention

open scoped BigOperators

/-! ## Partial sums over the thirteen blocks -/

/-- The sum of the first `n` of thirteen terms. -/
def upTo (n : ℕ) (f : Fin 13 → ℝ) : ℝ := ∑ b, if b.val < n then f b else 0

theorem upTo_zero (f : Fin 13 → ℝ) : upTo 0 f = 0 := Finset.sum_eq_zero fun b _ => if_neg (Nat.not_lt_zero _)
theorem upTo_succ (b : Fin 13) (f : Fin 13 → ℝ) : upTo (b.val + 1) f = upTo b.val f + f b := by
  have e : f b = ∑ x : Fin 13, if x = b then f x else 0 := by rw [Finset.sum_ite_eq' Finset.univ b]; simp
  rw [upTo, upTo, e, ← Finset.sum_add_distrib]
  refine Finset.sum_congr rfl fun x _ => ?_
  by_cases h1 : x.val < b.val
  · rw [if_pos (by omega), if_pos h1, if_neg (fun hx => by rw [hx] at h1; omega), add_zero]
  · by_cases h2 : x = b
    · rw [h2, if_pos (by omega), if_neg (by omega), if_pos rfl, zero_add]
    · rw [if_neg (fun h3 => h2 (Fin.ext (by omega))), if_neg h1, if_neg h2, add_zero]
theorem upTo_all (f : Fin 13 → ℝ) : upTo 13 f = ∑ b, f b := Finset.sum_congr rfl fun b _ => if_pos b.isLt

theorem sum_pos (f : Fin 8320 → ℝ) : ∑ b : Fin 13, ∑ c : Fin 640, f (pos b c) = ∑ q, f q :=
  (Idealize.ShloMosaic.Fin.sum_univ_tiles 13 640 rfl f).symm

namespace Args

variable (X : Args) (h : Fin 8)

/-- The gradients of a query's and of a key's 256 lanes, and of a value. -/
def dq (q : Fin 8320) (l : Fin 256) : ℝ := ∑ k, X.ds h q k * X.kk h k l
def dk (k : Fin 8320) (l : Fin 256) : ℝ := ∑ q, X.ds h q k * X.qq h q l
def dv (k : Fin 8320) (d : Fin 128) : ℝ := ∑ q, X.prob h q k * X.g h q d

theorem dq_tiles (b : Fin 13) (r : Fin 640) (l : Fin 256) : ∑ a, X.tileQ h a b r l = X.dq h (pos b r) l :=
  sum_pos fun k => X.ds h (pos b r) k * X.kk h k l
theorem dk_tiles (a : Fin 13) (r : Fin 640) (l : Fin 256) : ∑ b, X.tileK h a b r l = X.dk h (pos a r) l :=
  sum_pos fun q => X.ds h q (pos a r) * X.qq h q l
theorem dv_tiles (a : Fin 13) (r : Fin 640) (d : Fin 128) : ∑ b, X.tileV h a b r d = X.dv h (pos a r) d :=
  sum_pos fun q => X.prob h q (pos a r) * X.g h q d

end Args

end Cert.Attention

namespace Cert.KernelIdeal.Grad

open Cert.KernelIdeal Cert.KernelIdeal.Gen Cert.Attention
open Idealize.ShloMosaic Idealize.ShloMosaic.TcCoe
open Idealize.ShloMosaic.Pipeline (Dat RDat Cfg Window)
open scoped BigOperators

/-! ## The four results as arrays -/

/-- The head and the lane of an entry of an array with 256, with 128 lanes per head. -/
abbrev head256 (x : Fin 2048) : Fin 8 := ⟨x.val / 256, by have := x.isLt; omega⟩
abbrev lane256 (x : Fin 2048) : Fin 256 := ⟨x.val % 256, by omega⟩
abbrev head128 (x : Fin 1024) : Fin 8 := ⟨x.val / 128, by have := x.isLt; omega⟩
abbrev lane128 (x : Fin 1024) : Fin 128 := ⟨x.val % 128, by omega⟩

def dqOf (X : Args) : FVec Ideal S8320x2048 .f32 := fun i => ((X.dq (head256 (i 1)) (i 0) (lane256 (i 1)) : ℝ) : EReal)
def dknOf (X : Args) : FVec Ideal S8320x1024 .bf16 := fun i =>
  ((X.dk (head128 (i 1)) (i 0) ⟨(lane128 (i 1)).val, by have := (lane128 (i 1)).isLt; omega⟩ : ℝ) : EReal)
def dkrOf (X : Args) : FVec Ideal S8320x1024 .f32 := fun i =>
  ((X.dk (head128 (i 1)) (i 0) ⟨128 + (lane128 (i 1)).val, by have := (lane128 (i 1)).isLt; omega⟩ : ℝ) : EReal)
def dvOf (X : Args) : FVec Ideal S8320x1024 .bf16 := fun i => ((X.dv (head128 (i 1)) (i 0) (lane128 (i 1)) : ℝ) : EReal)

/-! ## One point's step -/

theorem clearK (r : Fin 640) (l : Fin 256) : (k0_pay1 (F := Ideal) (ix2 r l) : EReal) = 0 := by
  pointwise [k0_pay1]
theorem clearV (r : Fin 640) (d : Fin 128) : (k0_pay2 (F := Ideal) (ix2 r d) : EReal) = 0 := by
  pointwise [k0_pay2]

theorem off_emb (i : grid0.Coords) (b : Fin 13) (hi : (i 2).val = b.val) (r : Fin 640) (l : Fin 256) :
    (Rect.unit (s := S8320x256) (off i) ![640, 256] (off_inb i)).emb (ix2 r l) = ix2 (pos b r) l := by
  funext a
  apply Fin.ext
  rw [Rect.emb_apply]
  fin_cases a
  · show 640 * (i 2).val + 1 * r.val = b.val * 640 + r.val
    rw [hi]; omega
  · show 0 + 1 * l.val = l.val
    omega

theorem rows_at (i : grid0.Coords) (b : Fin 13) (hi : (i 2).val = b.val) (y : Vec Ideal S8320x256 .f32) (r : Fin 640) (l : Fin 256) :
    rows i y (ix2 r l) = y (ix2 (pos b r) l) := congrArg y (off_emb i b hi r l)
theorem putRows_same (i : grid0.Coords) (b : Fin 13) (hi : (i 2).val = b.val) (y : Vec Ideal S8320x256 .f32) (w : Vec Ideal S640x256 .f32)
    (r : Fin 640) (l : Fin 256) : putRows i y w (ix2 (pos b r) l) = w (ix2 r l) :=
  (congrArg (putRows i y w) (off_emb i b hi r l)).symm.trans
    (congrFun (VecWindow.window_put_same y (off i) ![640, 256] (off_inb i) w) (ix2 r l))
theorem putRows_other (i : grid0.Coords) (b : Fin 13) (hi : (i 2).val ≠ b.val) (y : Vec Ideal S8320x256 .f32) (w : Vec Ideal S640x256 .f32)
    (r : Fin 640) (l : Fin 256) : putRows i y w (ix2 (pos b r) l) = y (ix2 (pos b r) l) := by
  unfold putRows VecWindow.put
  refine dif_neg fun h => hi ?_
  have h0 : 640 * (i 2).val ≤ (pos b r).val ∧ (pos b r).val < 640 * (i 2).val + 640 := h 0
  rw [pos_val] at h0
  have := r.isLt
  omega

variable (m : (ℓ : Loc nD τ sig) → Buf (Elt Ideal) ℓ) (c : Dev nD) (f : Finite m c)

section Step

variable (t : Fin cfg0.N)
include f

theorem dvStep_at (e : Vec Ideal S640x128 .f32) (r : Fin 640) (d : Fin 128) :
    dvStep (grid0.coords t) (iblk m c 0 t) (iblk m c 1 t) (iblk m c 2 t) (iblk m c 4 t) (iblk m c 5 t) e (ix2 r d)
      = ((if (bF t).val = 0 then 0 else e (ix2 r d)) + ((args m c).tileV (hF t) (aF t) (bF t) r d : EReal) : EReal) := by
  obtain ⟨i0, i1, i2⟩ := coords_val t
  have he : ((if Reset (grid0.coords t) then k0_pay2 (F := Ideal) else e : FVec Ideal S640x128 .f32) (ix2 r d) : EReal) = if (bF t).val = 0 then 0 else e (ix2 r d) := by
    by_cases hb : (bF t).val = 0
    · rw [if_pos hb, if_pos ((reset_iff t).mpr hb), clearV]
    · rw [if_neg hb, if_neg (fun h => hb ((reset_iff t).mp h))]
  rw [← he]
  unfold dvStep
  by_cases h1 : k0_cond2 (grid0.coords t) = 1#1
  · have hab : (aF t).val ≤ (bF t).val := by
      have h := (masked_iff t).mp h1
      show t.val / 13 % 13 ≤ t.val % 13
      rcases h with h | h
      · rw [show t.val / 13 % 13 = 0 from h]; exact Nat.zero_le _
      · exact le_of_eq h
    rw [if_pos h1]
    exact dvM_at (grid0.coords t) i1 i2 (blocks m c f t hab) _ r d
  · rw [if_neg h1]
    by_cases h2 : k0_cond5 (grid0.coords t) = 1#1
    · have h := (plain_iff t).mp h2
      rw [if_pos h2]
      exact dvP_at (a := aF t) (b := bF t) h.1 h.2 (blocks m c f t (le_of_lt h.2)) _ r d
    · have hab : (bF t).val < (aF t).val := by
        have ha : ¬ (t.val / 13 % 13 = 0 ∨ t.val / 13 % 13 = t.val % 13) := fun h => h1 ((masked_iff t).mpr h)
        have hb : ¬ (0 < t.val / 13 % 13 ∧ t.val / 13 % 13 < t.val % 13) := fun h => h2 ((plain_iff t).mpr h)
        show t.val % 13 < t.val / 13 % 13
        omega
      rw [if_neg h2, Args.tileV_above _ _ hab, EReal.coe_zero, add_zero]

theorem dkStep_at (e : Vec Ideal S640x256 .f32) (r : Fin 640) (l : Fin 256) :
    dkStep (grid0.coords t) (iblk m c 0 t) (iblk m c 1 t) (iblk m c 2 t) (iblk m c 3 t) (iblk m c 4 t) (iblk m c 5 t) (iblk m c 6 t) e (ix2 r l)
      = ((if (bF t).val = 0 then 0 else e (ix2 r l)) + ((args m c).tileK (hF t) (aF t) (bF t) r l : EReal) : EReal) := by
  obtain ⟨i0, i1, i2⟩ := coords_val t
  have he : ((if Reset (grid0.coords t) then k0_pay1 (F := Ideal) else e : FVec Ideal S640x256 .f32) (ix2 r l) : EReal) = if (bF t).val = 0 then 0 else e (ix2 r l) := by
    by_cases hb : (bF t).val = 0
    · rw [if_pos hb, if_pos ((reset_iff t).mpr hb), clearK]
    · rw [if_neg hb, if_neg (fun h => hb ((reset_iff t).mp h))]
  rw [← he]
  unfold dkStep
  by_cases h1 : k0_cond2 (grid0.coords t) = 1#1
  · have hab : (aF t).val ≤ (bF t).val := by
      have h := (masked_iff t).mp h1
      show t.val / 13 % 13 ≤ t.val % 13
      rcases h with h | h
      · rw [show t.val / 13 % 13 = 0 from h]; exact Nat.zero_le _
      · exact le_of_eq h
    rw [if_pos h1]
    exact dkM_at (grid0.coords t) i1 i2 (blocks m c f t hab) _ r l
  · rw [if_neg h1]
    by_cases h2 : k0_cond5 (grid0.coords t) = 1#1
    · have h := (plain_iff t).mp h2
      rw [if_pos h2]
      exact dkP_at (a := aF t) (b := bF t) h.1 h.2 (blocks m c f t (le_of_lt h.2)) _ r l
    · have hab : (bF t).val < (aF t).val := by
        have ha : ¬ (t.val / 13 % 13 = 0 ∨ t.val / 13 % 13 = t.val % 13) := fun h => h1 ((masked_iff t).mpr h)
        have hb : ¬ (0 < t.val / 13 % 13 ∧ t.val / 13 % 13 < t.val % 13) := fun h => h2 ((plain_iff t).mpr h)
        show t.val % 13 < t.val / 13 % 13
        omega
      rw [if_neg h2, Args.tileK_above _ _ hab, EReal.coe_zero, add_zero]

/-- The queries' gradient after a point, at the point's own query block and elsewhere. -/
theorem dqStep_same (y : Vec Ideal S8320x256 .f32) (r : Fin 640) (l : Fin 256) :
    dqStep (grid0.coords t) (iblk m c 0 t) (iblk m c 1 t) (iblk m c 2 t) (iblk m c 3 t) (iblk m c 4 t) (iblk m c 5 t) (iblk m c 6 t) y
        (ix2 (pos (bF t) r) l)
      = ((if (aF t).val = 0 then 0 else y (ix2 (pos (bF t) r) l)) + ((args m c).tileQ (hF t) (aF t) (bF t) r l : EReal) : EReal) := by
  obtain ⟨i0, i1, i2⟩ := coords_val t
  unfold dqStep
  by_cases h1 : k0_cond2 (grid0.coords t) = 1#1
  · have hab : (aF t).val ≤ (bF t).val := by
      have h := (masked_iff t).mp h1
      show t.val / 13 % 13 ≤ t.val % 13
      rcases h with h | h
      · rw [show t.val / 13 % 13 = 0 from h]; exact Nat.zero_le _
      · exact le_of_eq h
    rw [if_pos h1]
    by_cases h3 : k0_cond3 (grid0.coords t) = 1#1
    · have h0 : (aF t).val = 0 := (first_iff t).mp h3
      rw [if_pos h3, if_pos h0, zero_add, putRows_same _ (bF t) i2]
      exact dqM_at (grid0.coords t) i1 i2 (blocks m c f t hab) r l
    · have h0 : (aF t).val ≠ 0 := fun h => h3 ((first_iff t).mpr h)
      rw [if_neg h3, if_neg h0, putRows_same _ (bF t) i2, ← rows_at _ (bF t) i2 y]
      exact dqM'_at (grid0.coords t) i1 i2 (blocks m c f t hab) _ r l
  · have h0 : (aF t).val ≠ 0 := fun h => h1 ((masked_iff t).mpr (.inl h))
    rw [if_neg h1, if_neg h0]
    by_cases h2 : k0_cond5 (grid0.coords t) = 1#1
    · have h := (plain_iff t).mp h2
      rw [if_pos h2, putRows_same _ (bF t) i2, ← rows_at _ (bF t) i2 y]
      exact dqP'_at (a := aF t) (b := bF t) h.1 h.2 (blocks m c f t (le_of_lt h.2)) _ r l
    · have hab : (bF t).val < (aF t).val := by
        have ha : ¬ (t.val / 13 % 13 = 0 ∨ t.val / 13 % 13 = t.val % 13) := fun h => h1 ((masked_iff t).mpr h)
        have hb : ¬ (0 < t.val / 13 % 13 ∧ t.val / 13 % 13 < t.val % 13) := fun h => h2 ((plain_iff t).mpr h)
        show t.val % 13 < t.val / 13 % 13
        omega
      rw [if_neg h2, Args.tileQ_above _ _ hab, EReal.coe_zero, add_zero]

omit f in
theorem dqStep_other (y : Vec Ideal S8320x256 .f32) (b : Fin 13) (hb : b ≠ bF t) (r : Fin 640) (l : Fin 256) :
    dqStep (grid0.coords t) (iblk m c 0 t) (iblk m c 1 t) (iblk m c 2 t) (iblk m c 3 t) (iblk m c 4 t) (iblk m c 5 t) (iblk m c 6 t) y
        (ix2 (pos b r) l) = y (ix2 (pos b r) l) := by
  have hi : (grid0.coords t 2).val ≠ b.val := fun h => hb (Fin.ext (h.symm.trans (coords_val t).2.2))
  unfold dqStep
  split
  · split
    · exact putRows_other _ b hi _ _ r l
    · exact putRows_other _ b hi _ _ r l
  · split
    · exact putRows_other _ b hi _ _ r l
    · rfl

end Step

/-! ## The accumulators after a point -/

/-- The point before, in the same run of query blocks and in the same head. -/
theorem prev (n : ℕ) (hn : n + 1 < cfg0.N) (h0 : (n + 1) % 13 ≠ 0) :
    hF (⟨n + 1, hn⟩ : Fin cfg0.N) = hF ⟨n, Nat.lt_of_succ_lt hn⟩ ∧ aF (⟨n + 1, hn⟩ : Fin cfg0.N) = aF ⟨n, Nat.lt_of_succ_lt hn⟩
      ∧ (bF (⟨n + 1, hn⟩ : Fin cfg0.N)).val = (bF ⟨n, Nat.lt_of_succ_lt hn⟩).val + 1 := by
  refine ⟨Fin.ext ?_, Fin.ext ?_, ?_⟩
  · show (n + 1) / 169 = n / 169; omega
  · show (n + 1) / 13 % 13 = n / 13 % 13; omega
  · show (n + 1) % 13 = n % 13 + 1; omega

include f

theorem accV_at (e : Vec Ideal S640x128 .f32) (r : Fin 640) (d : Fin 128) : ∀ (n : ℕ) (hn : n < cfg0.N),
    accV m c e (n + 1) (ix2 r d)
      = ((upTo ((bF ⟨n, hn⟩).val + 1) fun b => (args m c).tileV (hF ⟨n, hn⟩) (aF ⟨n, hn⟩) b r d : ℝ) : EReal) := by
  intro n
  induction n with
  | zero =>
    intro hn
    have hb : (bF (⟨0, hn⟩ : Fin cfg0.N)).val = 0 := rfl
    rw [accV_succ m c e ⟨0, hn⟩, dvStep_at m c f, upTo_succ, if_pos hb, zero_add, hb, upTo_zero, zero_add]
  | succ n ih =>
    intro hn
    rw [accV_succ m c e ⟨n + 1, hn⟩, dvStep_at m c f, upTo_succ]
    by_cases h0 : (n + 1) % 13 = 0
    · have hb : (bF (⟨n + 1, hn⟩ : Fin cfg0.N)).val = 0 := h0
      rw [if_pos hb, zero_add, hb, upTo_zero, zero_add]
    · obtain ⟨e1, e2, e3⟩ := prev n hn h0
      have hb : (bF (⟨n + 1, hn⟩ : Fin cfg0.N)).val ≠ 0 := h0
      rw [if_neg hb, EReal.coe_add, e3, e1, e2]
      exact congrArg (· + _) (ih (Nat.lt_of_succ_lt hn))

theorem accK_at (e : Vec Ideal S640x256 .f32) (r : Fin 640) (l : Fin 256) : ∀ (n : ℕ) (hn : n < cfg0.N),
    accK m c e (n + 1) (ix2 r l)
      = ((upTo ((bF ⟨n, hn⟩).val + 1) fun b => (args m c).tileK (hF ⟨n, hn⟩) (aF ⟨n, hn⟩) b r l : ℝ) : EReal) := by
  intro n
  induction n with
  | zero =>
    intro hn
    have hb : (bF (⟨0, hn⟩ : Fin cfg0.N)).val = 0 := rfl
    rw [accK_succ m c e ⟨0, hn⟩, dkStep_at m c f, upTo_succ, if_pos hb, zero_add, hb, upTo_zero, zero_add]
  | succ n ih =>
    intro hn
    rw [accK_succ m c e ⟨n + 1, hn⟩, dkStep_at m c f, upTo_succ]
    by_cases h0 : (n + 1) % 13 = 0
    · have hb : (bF (⟨n + 1, hn⟩ : Fin cfg0.N)).val = 0 := h0
      rw [if_pos hb, zero_add, hb, upTo_zero, zero_add]
    · obtain ⟨e1, e2, e3⟩ := prev n hn h0
      have hb : (bF (⟨n + 1, hn⟩ : Fin cfg0.N)).val ≠ 0 := h0
      rw [if_neg hb, EReal.coe_add, e3, e1, e2]
      exact congrArg (· + _) (ih (Nat.lt_of_succ_lt hn))

/-! ## The queries' gradient after a point -/

/-- How many key blocks have added to query block `b`'s rows after point `t` of its head. -/
def count (t : Fin cfg0.N) (b : Fin 13) : ℕ := (aF t).val + if b.val ≤ (bF t).val then 1 else 0

omit f in
theorem count_same (t : Fin cfg0.N) : count t (bF t) = (aF t).val + 1 := by rw [count, if_pos le_rfl]
omit f in
theorem count_prev (n : ℕ) (hn : n + 1 < cfg0.N) (h0 : (n + 1) % 169 ≠ 0) (b : Fin 13) :
    count ⟨n + 1, hn⟩ b = count ⟨n, Nat.lt_of_succ_lt hn⟩ b + if b = bF ⟨n + 1, hn⟩ then 1 else 0 := by
  have hb := b.isLt
  have e : (b = bF ⟨n + 1, hn⟩) = (b.val = (n + 1) % 13) := propext ⟨fun h => congrArg Fin.val h, fun h => Fin.ext h⟩
  simp only [e]
  rw [count, count]
  show (n + 1) / 13 % 13 + (if b.val ≤ (n + 1) % 13 then 1 else 0) = n / 13 % 13 + (if b.val ≤ n % 13 then 1 else 0) + _
  have h1 : (n + 1) / 13 % 13 = n / 13 % 13 ∧ (n + 1) % 13 = n % 13 + 1 ∨ (n + 1) / 13 % 13 = n / 13 % 13 + 1 ∧ (n + 1) % 13 = 0 ∧ n % 13 = 12 := by
    omega
  split_ifs <;> omega
omit f in
theorem head_prev (n : ℕ) (hn : n + 1 < cfg0.N) (h0 : (n + 1) % 169 ≠ 0) :
    hF (⟨n + 1, hn⟩ : Fin cfg0.N) = hF ⟨n, Nat.lt_of_succ_lt hn⟩ := Fin.ext (by show (n + 1) / 169 = n / 169; omega)

theorem dq_at (b : Fin 13) (r : Fin 640) (l : Fin 256) : ∀ (n : ℕ) (hn : n < cfg0.N) (Y : Vec Ideal S8320x256 .f32),
    (rdat m c).Leaves 7 ⟨n, hn⟩ Y → 0 < count ⟨n, hn⟩ b →
      Y (ix2 (pos b r) l) = ((upTo (count ⟨n, hn⟩ b) fun a => (args m c).tileQ (hF ⟨n, hn⟩) a b r l : ℝ) : EReal) := by
  intro n
  induction n with
  | zero =>
    intro hn Y hY hc
    obtain ⟨Z, hZ, hs⟩ := hY
    have hs : Y = dqStep (grid0.coords ⟨0, hn⟩) (iblk m c 0 ⟨0, hn⟩) (iblk m c 1 ⟨0, hn⟩) (iblk m c 2 ⟨0, hn⟩) (iblk m c 3 ⟨0, hn⟩)
      (iblk m c 4 ⟨0, hn⟩) (iblk m c 5 ⟨0, hn⟩) (iblk m c 6 ⟨0, hn⟩) Z := hs
    have ha : (aF (⟨0, hn⟩ : Fin cfg0.N)).val = 0 := show 0 / 13 % 13 = 0 by norm_num
    have hb : b = bF ⟨0, hn⟩ := by
      by_contra hb
      have hb' : ¬ b.val ≤ (bF (⟨0, hn⟩ : Fin cfg0.N)).val := fun h => hb (Fin.ext (Nat.le_zero.mp h))
      rw [count, if_neg hb', ha] at hc
      exact absurd hc (lt_irrefl _)
    rw [hs, hb, dqStep_same m c f, count_same, upTo_succ, if_pos ha, zero_add, ha, upTo_zero, zero_add]
  | succ n ih =>
    intro hn Y hY hc
    obtain ⟨Z, hZ, hs⟩ := hY
    have hs : Y = dqStep (grid0.coords ⟨n + 1, hn⟩) (iblk m c 0 ⟨n + 1, hn⟩) (iblk m c 1 ⟨n + 1, hn⟩) (iblk m c 2 ⟨n + 1, hn⟩) (iblk m c 3 ⟨n + 1, hn⟩)
      (iblk m c 4 ⟨n + 1, hn⟩) (iblk m c 5 ⟨n + 1, hn⟩) (iblk m c 6 ⟨n + 1, hn⟩) Z := hs
    have hprev : (n + 1) % 169 ≠ 0 → (rdat m c).Leaves 7 ⟨n, Nat.lt_of_succ_lt hn⟩ Z := fun h0 => by
      rcases ((rdat m c).finds_of_pos (w := 7) (t := ⟨n + 1, hn⟩) rfl (Nat.succ_ne_zero n) Z).mp hZ with h | h
      · exact absurd ((flush0_7 _).mp h) (by show ¬ n % 169 = 168; omega)
      · exact h
    by_cases hb : b = bF ⟨n + 1, hn⟩
    · rw [hs, hb, dqStep_same m c f, count_same, upTo_succ, EReal.coe_add]
      congr 1
      by_cases ha : (aF (⟨n + 1, hn⟩ : Fin cfg0.N)).val = 0
      · rw [if_pos ha, ha, upTo_zero]; rfl
      · have h0 : (n + 1) % 169 ≠ 0 := fun h => ha (by show (n + 1) / 13 % 13 = 0; omega)
        have hcn := count_prev n hn h0 b
        rw [if_pos hb, hb, count_same] at hcn
        have hcn' := Nat.succ.inj hcn
        rw [if_neg ha, hcn', head_prev n hn h0]
        exact hb ▸ ih (Nat.lt_of_succ_lt hn) Z (hprev h0) (by rw [hb, ← hcn']; exact Nat.pos_of_ne_zero ha)
    · have h0 : (n + 1) % 169 ≠ 0 := fun h => by
        have h1 : (aF (⟨n + 1, hn⟩ : Fin cfg0.N)).val = 0 := by show (n + 1) / 13 % 13 = 0; omega
        have h2 : (bF (⟨n + 1, hn⟩ : Fin cfg0.N)).val = 0 := by show (n + 1) % 13 = 0; omega
        rw [count, h1, if_neg (fun hx => hb (Fin.ext (by omega)))] at hc
        exact absurd hc (lt_irrefl _)
      have hcn := count_prev n hn h0 b
      rw [if_neg hb, add_zero] at hcn
      rw [hs, dqStep_other m c _ _ b hb, hcn, head_prev n hn h0]
      exact ih (Nat.lt_of_succ_lt hn) Z (hprev h0) (by rw [← hcn]; exact hc)

/-! ## The four result arrays -/

omit f in
theorem pos_eq (q : Fin 8320) : q = pos ⟨q.val / 640, by have := q.isLt; omega⟩ ⟨q.val % 640, by omega⟩ :=
  Fin.ext (by rw [pos_val]; show q.val = q.val / 640 * 640 + q.val % 640; omega)

variable (after : (w : Fin cfg0.W) → Fin cfg0.N → (cfg0.win w).block.Idx → Elt Ideal (cfg0.win w).elt)

theorem final_dq (hL : ∀ u : Fin cfg0.N, (cfg0.win 7).flush u = true → (rdat m c).Leaves 7 u (after 7 u)) :
    ((rdat m c).withAfter after).arrAt 7 cfg0.N = dqOf (args m c) := by
  refine ((rdat m c).withAfter after).arrAt_eq_of_covers 7 _ (by decide +kernel) fun t hf y => ?_
  blk_simp
  have key : ∀ (q : Fin 8320) (l : Fin 256), (after 7 t (ix2 q l) : EReal) = dqOf (args m c) (ix2 q ⟨(hF t).val * 256 + l.val, by have := (hF t).isLt; have := l.isLt; omega⟩) := fun q l => by
    have hl := l.isLt
    have ht : t.val % 169 = 168 := (flush0_7 t).mp hf
    have e : ∀ b, count t b = 13 := fun b => by
      have := b.isLt
      rw [count, show (aF t).val = 12 from by show t.val / 13 % 13 = 12; omega, show (bF t).val = 12 from by show t.val % 13 = 12; omega, if_pos (by omega)]
    have e1 : head256 ⟨(hF t).val * 256 + l.val, by have := (hF t).isLt; omega⟩ = hF t := Fin.ext (by show (_ * 256 + _) / 256 = _; omega)
    have e2 : lane256 ⟨(hF t).val * 256 + l.val, by have := (hF t).isLt; omega⟩ = l := Fin.ext (by show (_ * 256 + _) % 256 = _; omega)
    show (after 7 t (ix2 q l) : EReal) = (((args m c).dq (head256 ⟨(hF t).val * 256 + l.val, _⟩) q (lane256 ⟨(hF t).val * 256 + l.val, _⟩) : ℝ) : EReal)
    rw [e1, e2, pos_eq q]
    refine (dq_at m c f _ _ l t.val t.isLt _ (hL t hf) (by rw [show (⟨t.val, t.isLt⟩ : Fin cfg0.N) = t from rfl, e]; decide)).trans ?_
    rw [show (⟨t.val, t.isLt⟩ : Fin cfg0.N) = t from rfl, e, upTo_all, Args.dq_tiles]
  idx_vars y
  refine (key _ _).trans (congrArg (dqOf (args m c)) ?_)
  blk_ext [index_out t, hF]

omit f in
theorem last_point (t : Fin cfg0.N) (ht : t.val % 13 = 12) : (bF t).val + 1 = 13 := by
  show t.val % 13 + 1 = 13; omega

section Keys

variable (t : Fin cfg0.N) (ht : t.val % 13 = 12) (r : Fin 640) (d : Fin 128)
include ht

theorem knOut_at (Y : Vec Ideal S640x128 .bf16) (e : Vec Ideal S640x256 .f32) :
    knOut (grid0.coords t) (accK m c e (t.val + 1)) Y (ix2 r d)
      = (((args m c).dk (hF t) (pos (aF t) r) ⟨d.val, by have := d.isLt; omega⟩ : ℝ) : EReal) := by
  unfold knOut
  rw [if_pos ((last_iff t).mpr ht)]
  refine Eq.trans ?_ ((accK_at m c f e r ⟨d.val, by have := d.isLt; omega⟩ t.val t.isLt).trans ?_)
  · generalize accK m c e (t.val + 1) = x
    unfold left
    rw [VecWindow.window_eq_ld]
    pointwise [k0_pay10]
  · rw [show (⟨t.val, t.isLt⟩ : Fin cfg0.N) = t from rfl, last_point t ht, upTo_all, Args.dk_tiles]
theorem krOut_at (Y : Vec Ideal S640x128 .f32) (e : Vec Ideal S640x256 .f32) :
    krOut (grid0.coords t) (accK m c e (t.val + 1)) Y (ix2 r d)
      = (((args m c).dk (hF t) (pos (aF t) r) ⟨128 + d.val, by have := d.isLt; omega⟩ : ℝ) : EReal) := by
  unfold krOut
  rw [if_pos ((last_iff t).mpr ht)]
  refine Eq.trans ?_ ((accK_at m c f e r ⟨128 + d.val, by have := d.isLt; omega⟩ t.val t.isLt).trans ?_)
  · generalize accK m c e (t.val + 1) = x
    unfold right
    rw [VecWindow.window_eq_ld]
    pointwise
  · rw [show (⟨t.val, t.isLt⟩ : Fin cfg0.N) = t from rfl, last_point t ht, upTo_all, Args.dk_tiles]
theorem vOut_at (Y : Vec Ideal S640x128 .bf16) (e : Vec Ideal S640x128 .f32) :
    vOut (grid0.coords t) (accV m c e (t.val + 1)) Y (ix2 r d) = (((args m c).dv (hF t) (pos (aF t) r) d : ℝ) : EReal) := by
  unfold vOut
  rw [if_pos ((last_iff t).mpr ht)]
  refine Eq.trans ?_ ((accV_at m c f e r d t.val t.isLt).trans ?_)
  · generalize accV m c e (t.val + 1) = x
    pointwise [k0_pay11]
  · rw [show (⟨t.val, t.isLt⟩ : Fin cfg0.N) = t from rfl, last_point t ht, upTo_all, Args.dv_tiles]

end Keys

omit f in
theorem head_lane (h : Fin 8) (d : Fin 128) (hx : h.val * 128 + d.val < 1024) :
    head128 ⟨h.val * 128 + d.val, hx⟩ = h ∧ lane128 ⟨h.val * 128 + d.val, hx⟩ = d := by
  have := d.isLt
  exact ⟨Fin.ext (by show (_ * 128 + _) / 128 = _; omega), Fin.ext (by show (_ * 128 + _) % 128 = _; omega)⟩

theorem final_dkn (hL : ∀ u : Fin cfg0.N, (cfg0.win 8).flush u = true → (rdat m c).Leaves 8 u (after 8 u)) :
    ((rdat m c).withAfter after).arrAt 8 cfg0.N = dknOf (args m c) := by
  refine ((rdat m c).withAfter after).arrAt_eq_of_covers 8 _ (by decide +kernel) fun t hf y => ?_
  blk_simp
  have key : ∀ (r : Fin 640) (d : Fin 128), (after 8 t (ix2 r d) : EReal) = dknOf (args m c) (ix2 (pos (aF t) r) (lane (hF t) d)) := fun r d => by
    obtain ⟨Y, hY, e, he⟩ := hL t hf
    have he : after 8 t = knOut (grid0.coords t) (accK m c e (t.val + 1)) Y := he
    rw [he, knOut_at m c f t ((flush0_8 t).mp hf)]
    show _ = (((args m c).dk (head128 (lane (hF t) d)) (pos (aF t) r) ⟨(lane128 (lane (hF t) d)).val, _⟩ : ℝ) : EReal)
    have e1 := head_lane (hF t) d (lane (hF t) d).isLt
    have e2 : ((hF t).val * 128 + d.val) % 128 = d.val := by have := d.isLt; omega
    simp only [lane, e1.1, e2]
  idx_vars y
  refine (key _ _).trans (congrArg (dknOf (args m c)) ?_)
  blk_ext [index_out t, hF, aF, pos, lane]
theorem final_dkr (hL : ∀ u : Fin cfg0.N, (cfg0.win 9).flush u = true → (rdat m c).Leaves 9 u (after 9 u)) :
    ((rdat m c).withAfter after).arrAt 9 cfg0.N = dkrOf (args m c) := by
  refine ((rdat m c).withAfter after).arrAt_eq_of_covers 9 _ (by decide +kernel) fun t hf y => ?_
  blk_simp
  have key : ∀ (r : Fin 640) (d : Fin 128), (after 9 t (ix2 r d) : EReal) = dkrOf (args m c) (ix2 (pos (aF t) r) (lane (hF t) d)) := fun r d => by
    obtain ⟨Y, hY, e, he⟩ := hL t hf
    have he : after 9 t = krOut (grid0.coords t) (accK m c e (t.val + 1)) Y := he
    rw [he, krOut_at m c f t ((flush0_9 t).mp hf)]
    show _ = (((args m c).dk (head128 (lane (hF t) d)) (pos (aF t) r) ⟨128 + (lane128 (lane (hF t) d)).val, _⟩ : ℝ) : EReal)
    have e1 := head_lane (hF t) d (lane (hF t) d).isLt
    have e2 : ((hF t).val * 128 + d.val) % 128 = d.val := by have := d.isLt; omega
    simp only [lane, e1.1, e2]
  idx_vars y
  refine (key _ _).trans (congrArg (dkrOf (args m c)) ?_)
  blk_ext [index_out t, hF, aF, pos, lane]
theorem final_dv (hL : ∀ u : Fin cfg0.N, (cfg0.win 10).flush u = true → (rdat m c).Leaves 10 u (after 10 u)) :
    ((rdat m c).withAfter after).arrAt 10 cfg0.N = dvOf (args m c) := by
  refine ((rdat m c).withAfter after).arrAt_eq_of_covers 10 _ (by decide +kernel) fun t hf y => ?_
  blk_simp
  have key : ∀ (r : Fin 640) (d : Fin 128), (after 10 t (ix2 r d) : EReal) = dvOf (args m c) (ix2 (pos (aF t) r) (lane (hF t) d)) := fun r d => by
    obtain ⟨Y, hY, e, he⟩ := hL t hf
    have he : after 10 t = vOut (grid0.coords t) (accV m c e (t.val + 1)) Y := he
    rw [he, vOut_at m c f t ((flush0_10 t).mp hf)]
    show _ = (((args m c).dv (head128 (lane (hF t) d)) (pos (aF t) r) (lane128 (lane (hF t) d)) : ℝ) : EReal)
    have e1 := head_lane (hF t) d (lane (hF t) d).isLt
    simp only [lane, e1.1, e1.2]
  idx_vars y
  refine (key _ _).trans (congrArg (dvOf (args m c)) ?_)
  blk_ext [index_out t, hF, aF, pos, lane]

end Cert.KernelIdeal.Grad

end
-- ==== Proof.Value.Reference.lean ====
/-
  The reference's lines, composed, as functions of its six arguments, and its four results as these arrays.
-/
module

public import proofs.«01_k».proof.Proof.Value.Accumulate
public import proofs.«01_k».proof.Proof.Gen.ReferenceIdeal.Run

@[expose] public section

set_option maxRecDepth 16384

noncomputable section

namespace Cert.ReferenceIdeal.Grad

open Cert.ReferenceIdeal Cert.ReferenceIdeal.Gen Cert.Attention
open Cert.KernelIdeal.Grad (Real' reals lane hScore hQn hQp hKp hSeen hDen sc neg_inf zero_word dqOf dknOf dkrOf dvOf)
open Idealize.ShloMosaic Idealize.ShloMosaic.TcCoe Idealize.SL.Sem
open scoped BigOperators

/-! ## The reference's lines -/

section Lines

variable (a0 : FVec Ideal S8320x8x128 .f32) (a1 : FVec Ideal S8320x8x64 .f32) (a2 : FVec Ideal S8320x8x128 .f32)
  (a3 : FVec Ideal S8320x64 .f32) (a4 : FVec Ideal S8320x8x128 .f32) (a5 : FVec Ideal S8208x1024 .f32)

/-- The scaled queries, the heads' copies of the rotary key, the mask and the masked scores. -/
def rQn : FVec Ideal S8320x8x128 .f32 := mulf a0 (broadcastInDim S8320x8x128 ![] bcast_S_S8320x8x128 (constant S_ .f32 0x3D93CD3A#32))
def rQp : FVec Ideal S8320x8x64 .f32 := mulf a1 (broadcastInDim S8320x8x64 ![] bcast_S_S8320x8x64 (constant S_ .f32 0x3D93CD3A#32))
def rKp : FVec Ideal S8320x8x64 .f32 :=
  broadcastInDim S8320x8x64 ![0, 1, 2] bcast_S8320x1x64_S8320x8x64_0_1_2 (broadcastInDim S8320x1x64 ![0, 2] bcast_S8320x64_S8320x1x64_0_2 a3)
def rSeen : IVec S8208x8208 1 :=
  cmpi .sle (broadcastInDim S8208x8208 ![0, 1] bcast_S1x8208_S8208x8208_0_1 (broadcastInDim S1x8208 ![1] bcast_S8208_S1x8208_1 (iotaInDim S8208 32 0)))
    (broadcastInDim S8208x8208 ![0, 1] bcast_S8208x1_S8208x8208_0_1 (broadcastInDim S8208x1 ![0] bcast_S8208_S8208x1_0 (iotaInDim S8208 32 0)))
def rMask : IVec S8x8208x8208 1 := broadcastInDim S8x8208x8208 ![1, 2] bcast_S8208x8208_S8x8208x8208_1_2 rSeen
def rScore : FVec Ideal S8x8208x8208 .f32 :=
  select rMask
    (addf (Host.dotGeneral dot_S8208x8x128_S8208x8x128_S8x8208x8208_2_2_0_0_1_1 none
        (extractStridedSlice S8208x8x128 ![112, 0, 0] (rQn a0) slices_S8320x8x128_S8208x8x128_112_0_0)
        (extractStridedSlice S8208x8x128 ![112, 0, 0] a2 slices_S8320x8x128_S8208x8x128_112_0_0))
      (Host.dotGeneral dot_S8208x8x64_S8208x8x64_S8x8208x8208_2_2_0_0_1_1 none
        (extractStridedSlice S8208x8x64 ![112, 0, 0] (rQp a1) slices_S8320x8x64_S8208x8x64_112_0_0)
        (extractStridedSlice S8208x8x64 ![112, 0, 0] (rKp a3) slices_S8320x8x64_S8208x8x64_112_0_0)))
    (broadcastInDim S8x8208x8208 ![] bcast_S_S8x8208x8208 (id (constant S_ .f32 0xFF800000#32)))
/-- Over the masked scores: each row's largest; the weights below it. Over the weights: their sums and the probabilities. -/
def rMax (s : FVec Ideal S8x8208x8208 .f32) : FVec Ideal S8x8208 .f32 :=
  Host.reduce FloatOps.maximumf s (constant S_ .f32 0xFF800000#32) reducesTo_S8x8208x8208_S8x8208_d2 h_S_
def rTop (x : FVec Ideal S8x8208 .f32) : FVec Ideal S8x8208x1 .f32 :=
  broadcastInDim S8x8208x1 ![0, 1] bcast_S8x8208_S8x8208x1_0_1
    (maximumf (broadcastInDim S8x8208 ![] bcast_S_S8x8208 (constant S_ .f32 0xFF800000#32)) x)
/-- A row's value along the row. -/
def rAlong (x : FVec Ideal S8x8208x1 .f32) : FVec Ideal S8x8208x8208 .f32 :=
  broadcastInDim S8x8208x8208 ![0, 1, 2] bcast_S8x8208x1_S8x8208x8208_0_1_2 x
def rWeight (s : FVec Ideal S8x8208x8208 .f32) : FVec Ideal S8x8208x8208 .f32 :=
  Host.exp (subf s (rAlong (rTop (rMax s))))
def rDen (w : FVec Ideal S8x8208x8208 .f32) : FVec Ideal S8x8208x1 .f32 :=
  broadcastInDim S8x8208x1 ![0, 1] bcast_S8x8208_S8x8208x1_0_1 (Host.reduceAdd w (constant S_ .f32 0x00000000#32) reducesTo_S8x8208x8208_S8x8208_d2 h_S_)
def rProb (w : FVec Ideal S8x8208x8208 .f32) : FVec Ideal S8x8208x8208 .f32 := Host.divf w (rAlong (rDen w))
/-- The results' gradients by head, and the probabilities' gradients. -/
def rG : FVec Ideal S8x128x8208 .f32 :=
  transpose S8x128x8208 [1, 2, 0] (shapeCast S8208x8x128 a5 shapeCasts_S8208x1024_S8208x8x128) transposes_S8208x8x128_S8x128x8208_1_2_0
def rDp : FVec Ideal S8x8208x8208 .f32 :=
  Host.dotGeneral dot_S8x128x8208_S8208x8x128_S8x8208x8208_1_2_2_0_0_1 none (rG a5)
    (extractStridedSlice S8208x8x128 ![112, 0, 0] a4 slices_S8320x8x128_S8208x8x128_112_0_0)
/-- The sum the quotient's derivative subtracts, from the weights and the probabilities' gradients. -/
def rInv (w : FVec Ideal S8x8208x8208 .f32) : FVec Ideal S8x8208x1 .f32 :=
  Host.divf (broadcastInDim S8x8208x1 ![] bcast_S_S8x8208x1 (constant S_ .f32 0x3F800000#32)) (mulf (rDen w) (rDen w))
def rTerm (w dp : FVec Ideal S8x8208x8208 .f32) : FVec Ideal S8x8208x8208 .f32 := mulf (mulf dp (rAlong (rInv w))) w
def rRow (t : FVec Ideal S8x8208x8208 .f32) : FVec Ideal S8x8208 .f32 :=
  Host.reduceAdd t (constant S_ .f32 0x00000000#32) reducesTo_S8x8208x8208_S8x8208_d2 h_S_
def rNeg (x : FVec Ideal S8x8208 .f32) : FVec Ideal S8x8208x1 .f32 := Host.negf (shapeCast S8x8208x1 x shapeCasts_S8x8208_S8x8208x1)
def rLess (x : FVec Ideal S8x8208 .f32) : FVec Ideal S8x8208 .f32 :=
  Host.reduceAdd (rNeg x) (constant S_ .f32 0x00000000#32) reducesTo_S8x8208x1_S8x8208_d2 h_S_
/-- The scores' gradients. -/
def rDs (w dp : FVec Ideal S8x8208x8208 .f32) : FVec Ideal S8x8208x8208 .f32 :=
  select rMask
    (mulf (addf (Host.divf dp (rAlong (rDen w)))
      (broadcastInDim S8x8208x8208 ![0, 1] bcast_S8x8208_S8x8208x8208_0_1 (rLess (rRow (rTerm w dp))))) w)
    (broadcastInDim S8x8208x8208 ![] bcast_S_S8x8208x8208 (constant S_ .f32 0x00000000#32))
/-- The tokens' rows behind the padding's, which are zero; the heads' rows of a token together. -/
def rPad128 (x : FVec Ideal S8208x8x128 .f32) : FVec Ideal S8320x8x128 .f32 :=
  pad S8320x8x128 ![112, 0, 0] ![0, 0, 0] ![0, 0, 0] x (constant S_ .f32 0x00000000#32) pads_S8208x8x128_S8320x8x128_11200_000_000 h_S_
def rPad64 (x : FVec Ideal S8208x8x64 .f32) : FVec Ideal S8320x8x64 .f32 :=
  pad S8320x8x64 ![112, 0, 0] ![0, 0, 0] ![0, 0, 0] x (constant S_ .f32 0x00000000#32) pads_S8208x8x64_S8320x8x64_11200_000_000 h_S_
def rHeads128 (x : FVec Ideal S8x8208x128 .f32) : FVec Ideal S8208x8x128 .f32 :=
  transpose S8208x8x128 [1, 0, 2] x transposes_S8x8208x128_S8208x8x128_1_0_2
def rHeads64 (x : FVec Ideal S8x8208x64 .f32) : FVec Ideal S8208x8x64 .f32 :=
  transpose S8208x8x64 [1, 0, 2] x transposes_S8x8208x64_S8208x8x64_1_0_2
/-- The sums over the keys and over the queries: from the scores' gradients, for the values from the probabilities. -/
def rOverK128 (ds : FVec Ideal S8x8208x8208 .f32) (b : FVec Ideal S8320x8x128 .f32) : FVec Ideal S8x8208x128 .f32 :=
  Host.dotGeneral dot_S8x8208x8208_S8208x8x128_S8x8208x128_2_0_1_2_0_1 none ds
    (extractStridedSlice S8208x8x128 ![112, 0, 0] b slices_S8320x8x128_S8208x8x128_112_0_0)
def rOverK64 (ds : FVec Ideal S8x8208x8208 .f32) (b : FVec Ideal S8320x8x64 .f32) : FVec Ideal S8x8208x64 .f32 :=
  Host.dotGeneral dot_S8x8208x8208_S8208x8x64_S8x8208x64_2_0_1_2_0_1 none ds
    (extractStridedSlice S8208x8x64 ![112, 0, 0] b slices_S8320x8x64_S8208x8x64_112_0_0)
def rOverQ128 (ds : FVec Ideal S8x8208x8208 .f32) (b : FVec Ideal S8320x8x128 .f32) : FVec Ideal S8x8208x128 .f32 :=
  Host.dotGeneral dot_S8x8208x8208_S8208x8x128_S8x8208x128_1_0_2_2_0_1 none ds
    (extractStridedSlice S8208x8x128 ![112, 0, 0] b slices_S8320x8x128_S8208x8x128_112_0_0)
def rOverQ64 (ds : FVec Ideal S8x8208x8208 .f32) (b : FVec Ideal S8320x8x64 .f32) : FVec Ideal S8x8208x64 .f32 :=
  Host.dotGeneral dot_S8x8208x8208_S8208x8x64_S8x8208x64_1_0_2_2_0_1 none ds
    (extractStridedSlice S8208x8x64 ![112, 0, 0] b slices_S8320x8x64_S8208x8x64_112_0_0)
def rGP (p : FVec Ideal S8x8208x8208 .f32) : FVec Ideal S8x128x8208 .f32 :=
  Host.dotGeneral dot_S8x128x8208_S8x8208x8208_S8x128x8208_2_1_1_2_0_0 none (rG a5) p
def rKeys (x : FVec Ideal S8x128x8208 .f32) : FVec Ideal S8208x8x128 .f32 :=
  transpose S8208x8x128 [2, 0, 1] x transposes_S8x128x8208_S8208x8x128_2_0_1
/-- The results as the reference lays them out: the heads' lanes side by side. -/
def rOutQ (x : FVec Ideal S8320x8x128 .f32) (y : FVec Ideal S8320x8x64 .f32) : FVec Ideal S8320x2048 .f32 :=
  shapeCast S8320x2048 (pad S8320x8x256 ![0, 0, 0] ![0, 0, 64] ![0, 0, 0]
    (concatenate S8320x8x192 2 [⟨S8320x8x128, x⟩, ⟨S8320x8x64, y⟩] concatenates_S8320x8x128_S8320x8x64_S8320x8x192_d2)
    (sitofp .f32 (constantI S_ 32 0#32)) pads_S8320x8x192_S8320x8x256_000_000_0640 h_S_) shapeCasts_S8320x8x256_S8320x2048
def rOutR (y : FVec Ideal S8320x8x64 .f32) : FVec Ideal S8320x1024 .f32 :=
  shapeCast S8320x1024 (pad S8320x8x128 ![0, 0, 0] ![0, 0, 64] ![0, 0, 0] y
    (sitofp .f32 (constantI S_ 32 0#32)) pads_S8320x8x64_S8320x8x128_000_000_0640 h_S_) shapeCasts_S8320x8x128_S8320x1024
def rOut (x : FVec Ideal S8320x8x128 .f32) : FVec Ideal S8320x1024 .bf16 :=
  truncf .bf16 (shapeCast S8320x1024 x shapeCasts_S8320x8x128_S8320x1024) bitsLt_bf16_f32

/-- The weights and the scores' gradients of the six arguments. -/
def rW : FVec Ideal S8x8208x8208 .f32 := rWeight (rScore a0 a1 a2 a3)
def rD : FVec Ideal S8x8208x8208 .f32 := rDs (rW a0 a1 a2 a3) (rDp a4 a5)

end Lines

section Results

variable (m : (ℓ : Loc nD τ sig) → Buf (Elt Ideal) ℓ) (c : Dev nD)

abbrev arg0 : FVec Ideal S8320x8x128 .f32 := m ((c.tc : Thread nD τ).loc main_arg0)
abbrev arg1 : FVec Ideal S8320x8x64 .f32 := m ((c.tc : Thread nD τ).loc main_arg1)
abbrev arg2 : FVec Ideal S8320x8x128 .f32 := m ((c.tc : Thread nD τ).loc main_arg2)
abbrev arg3 : FVec Ideal S8320x64 .f32 := m ((c.tc : Thread nD τ).loc main_arg3)
abbrev arg4 : FVec Ideal S8320x8x128 .f32 := m ((c.tc : Thread nD τ).loc main_arg4)
abbrev arg5 : FVec Ideal S8208x1024 .f32 := m ((c.tc : Thread nD τ).loc main_arg5)

abbrev dsOf : FVec Ideal S8x8208x8208 .f32 := rD (arg0 m c) (arg1 m c) (arg2 m c) (arg3 m c) (arg4 m c) (arg5 m c)

theorem out3_eq : (Value.res_out3 m c : FVec Ideal S8320x1024 .bf16)
    = rOut (rPad128 (rKeys (rGP (arg5 m c) (rProb (rW (arg0 m c) (arg1 m c) (arg2 m c) (arg3 m c)))))) := rfl
theorem out2_eq : (Value.res_out2 m c : FVec Ideal S8320x1024 .f32)
    = rOutR (rPad64 (rHeads64 (rOverQ64 (dsOf m c) (rQp (arg1 m c))))) := rfl
theorem out1_eq : (Value.res_out1 m c : FVec Ideal S8320x1024 .bf16)
    = rOut (rPad128 (rHeads128 (rOverQ128 (dsOf m c) (rQn (arg0 m c))))) := rfl
theorem out0_eq : (Value.res_out0 m c : FVec Ideal S8320x2048 .f32)
    = rOutQ (rPad128 (rHeads128 (rOverK128 (dsOf m c) (arg2 m c)))) (rPad64 (rHeads64 (rOverK64 (dsOf m c) (rKp (arg3 m c))))) := rfl

end Results

end Cert.ReferenceIdeal.Grad

end
-- ==== Proof.Value.Gradients.lean ====
/-
  The reference's four results, entry by entry, where the six arguments are finite: the attention's gradients.
-/
module

public import proofs.«01_k».proof.Proof.Value.Reference

@[expose] public section

set_option maxRecDepth 16384

noncomputable section

namespace Cert.ReferenceIdeal.Grad

open Cert.ReferenceIdeal Cert.ReferenceIdeal.Gen Cert.Attention
open Cert.KernelIdeal.Grad (Real' reals lane hScore hQn hQp hKp hSeen hSeen_at hScore_at hQn_at hQp_at hKp_at g_tok
  sc neg_inf zero_word dqOf dknOf dkrOf dvOf head256 lane256 head128 lane128)
open Idealize.ShloMosaic Idealize.ShloMosaic.TcCoe
open scoped BigOperators

variable {a0 : FVec Ideal S8320x8x128 .f32} {a1 : FVec Ideal S8320x8x64 .f32} {a2 : FVec Ideal S8320x8x128 .f32}
  {a3 : FVec Ideal S8320x64 .f32} {a4 : FVec Ideal S8320x8x128 .f32} {a5 : FVec Ideal S8208x1024 .f32}

local notation "X" => reals a0 a1 a2 a3 a4 a5

/-! ## The lines' entries -/

theorem rScore_eq : rScore a0 a1 a2 a3 = hScore a0 a1 a2 a3 := rfl
theorem rQn_eq : rQn a0 = hQn a0 := rfl
theorem rQp_eq : rQp a1 = hQp a1 := rfl
theorem rKp_eq : rKp a3 = hKp a3 := rfl
theorem rSeen_eq : rSeen = hSeen := rfl

theorem rMask_at (h : Fin 8) (q k : Fin 8208) : rMask (ix3 h q k) = if k.val ≤ q.val then 1#1 else 0#1 := by
  rw [← hSeen_at, ← rSeen_eq]
  unfold rMask
  pointwise
theorem rAlong_at (x : FVec Ideal S8x8208x1 .f32) (h : Fin 8) (q k : Fin 8208) : rAlong x (ix3 h q k) = x (ix3 h q 0) := by
  unfold rAlong
  pointwise
theorem rMax_at (s : FVec Ideal S8x8208x8208 .f32) (h : Fin 8) (q : Fin 8208) (x : EReal)
    (hx : Finset.univ.fold max ⊥ (fun k => s (ix3 h q k)) = x) : rMax s (ix2 h q) = x := by
  unfold rMax
  pointwise
  rw [neg_inf]
  exact hx
theorem rTop_at (x : FVec Ideal S8x8208 .f32) (h : Fin 8) (q : Fin 8208) (z : Fin 1) : rTop x (ix3 h q z) = x (ix2 h q) := by
  have e : rTop x (ix3 h q z) = max (Ideal.ofBits .f32 0xFF800000#32) (x (ix2 h q)) := by
    unfold rTop
    pointwise
  rw [e, neg_inf, max_eq_right bot_le]
theorem rWeight_eq (s : FVec Ideal S8x8208x8208 .f32) (i : S8x8208x8208.Idx) :
    rWeight s i = Ideal.exp (s i - rAlong (rTop (rMax s)) i) := rfl
theorem rWeight_at (s : FVec Ideal S8x8208x8208 .f32) (h : Fin 8) (q k : Fin 8208) :
    rWeight s (ix3 h q k) = Ideal.exp (s (ix3 h q k) - rMax s (ix2 h q)) := by
  rw [rWeight_eq, rAlong_at, rTop_at]
theorem rDen_at (w : FVec Ideal S8x8208x8208 .f32) (h : Fin 8) (q : Fin 8208) (z : Fin 1) (x : EReal)
    (hx : ∑ k, w (ix3 h q k) = x) : rDen w (ix3 h q z) = x := by
  unfold rDen
  pointwise
  exact hx
theorem rProb_at (w : FVec Ideal S8x8208x8208 .f32) (h : Fin 8) (q k : Fin 8208) (x : EReal)
    (hx : Ideal.div (w (ix3 h q k)) (rDen w (ix3 h q 0)) = x) : rProb w (ix3 h q k) = x := by
  unfold rProb rAlong
  pointwise
  exact hx
theorem rG_at (h : Fin 8) (d : Fin 128) (q : Fin 8208) (x : EReal) (hx : a5 (ix2 q (lane h d)) = x) : rG a5 (ix3 h d q) = x := by
  unfold rG
  pointwise
  exact hx
theorem rDp_at (h : Fin 8) (q k : Fin 8208) (x : EReal)
    (hx : ∑ d, rG a5 (ix3 h d q) * a4 (ix3 (tok k) h d) = x) : rDp a4 a5 (ix3 h q k) = x := by
  unfold rDp
  pointwise
  exact hx
theorem rInv_at (w : FVec Ideal S8x8208x8208 .f32) (h : Fin 8) (q : Fin 8208) (z : Fin 1) (x : EReal)
    (hx : Ideal.div 1 (rDen w (ix3 h q z) * rDen w (ix3 h q z)) = x) : rInv w (ix3 h q z) = x := by
  unfold rInv
  pointwise
  exact hx
theorem rTerm_at (w dp : FVec Ideal S8x8208x8208 .f32) (h : Fin 8) (q k : Fin 8208) (x : EReal)
    (hx : dp (ix3 h q k) * rInv w (ix3 h q 0) * w (ix3 h q k) = x) : rTerm w dp (ix3 h q k) = x := by
  unfold rTerm rAlong
  pointwise
  exact hx
theorem rRow_at (t : FVec Ideal S8x8208x8208 .f32) (h : Fin 8) (q : Fin 8208) (x : EReal)
    (hx : ∑ k, t (ix3 h q k) = x) : rRow t (ix2 h q) = x := by
  unfold rRow
  pointwise
  exact hx
theorem rNeg_at (x : FVec Ideal S8x8208 .f32) (h : Fin 8) (q : Fin 8208) (z : Fin 1) : rNeg x (ix3 h q z) = -x (ix2 h q) := by
  unfold rNeg
  pointwise
theorem rLess_at (x : FVec Ideal S8x8208 .f32) (h : Fin 8) (q : Fin 8208) : rLess x (ix2 h q) = -x (ix2 h q) := by
  have e : rLess x (ix2 h q) = ∑ z, rNeg x (ix3 h q z) := by
    unfold rLess
    pointwise
  rw [e, Fin.sum_univ_one, rNeg_at]
theorem rDs_at (w dp : FVec Ideal S8x8208x8208 .f32) (h : Fin 8) (q k : Fin 8208) (x : EReal)
    (hx : Scalar.select (rMask (ix3 h q k))
      ((Ideal.div (dp (ix3 h q k)) (rDen w (ix3 h q 0)) + rLess (rRow (rTerm w dp)) (ix2 h q)) * w (ix3 h q k)) 0 = x) :
    rDs w dp (ix3 h q k) = x := by
  unfold rDs rAlong
  pointwise
  exact hx

theorem rPad128_at (x : FVec Ideal S8208x8x128 .f32) (q : Fin 8320) (h : Fin 8) (d : Fin 128) (y : EReal)
    (hy : (if hq : 112 ≤ q.val then x (ix3 ⟨q.val - 112, by have := q.isLt; omega⟩ h d) else 0) = y) : rPad128 x (ix3 q h d) = y := by
  unfold rPad128
  pointwise
  rw [← hy]
  by_cases hq : 112 ≤ q.val
  · rw [dif_pos (by omega), dif_pos hq]
  · rw [dif_neg (by omega), dif_neg hq]
theorem rPad64_at (x : FVec Ideal S8208x8x64 .f32) (q : Fin 8320) (h : Fin 8) (d : Fin 64) (y : EReal)
    (hy : (if hq : 112 ≤ q.val then x (ix3 ⟨q.val - 112, by have := q.isLt; omega⟩ h d) else 0) = y) : rPad64 x (ix3 q h d) = y := by
  unfold rPad64
  pointwise
  rw [← hy]
  by_cases hq : 112 ≤ q.val
  · rw [dif_pos (by omega), dif_pos hq]
  · rw [dif_neg (by omega), dif_neg hq]
theorem rHeads128_at (x : FVec Ideal S8x8208x128 .f32) (q : Fin 8208) (h : Fin 8) (d : Fin 128) :
    rHeads128 x (ix3 q h d) = x (ix3 h q d) := by
  unfold rHeads128
  pointwise
theorem rHeads64_at (x : FVec Ideal S8x8208x64 .f32) (q : Fin 8208) (h : Fin 8) (d : Fin 64) :
    rHeads64 x (ix3 q h d) = x (ix3 h q d) := by
  unfold rHeads64
  pointwise
theorem rKeys_at (x : FVec Ideal S8x128x8208 .f32) (k : Fin 8208) (h : Fin 8) (d : Fin 128) :
    rKeys x (ix3 k h d) = x (ix3 h d k) := by
  unfold rKeys
  pointwise
theorem rOverK128_at (ds : FVec Ideal S8x8208x8208 .f32) (b : FVec Ideal S8320x8x128 .f32) (h : Fin 8) (q : Fin 8208) (d : Fin 128) (y : EReal)
    (hy : ∑ k, ds (ix3 h q k) * b (ix3 (tok k) h d) = y) : rOverK128 ds b (ix3 h q d) = y := by
  unfold rOverK128
  pointwise
  exact hy
theorem rOverK64_at (ds : FVec Ideal S8x8208x8208 .f32) (b : FVec Ideal S8320x8x64 .f32) (h : Fin 8) (q : Fin 8208) (d : Fin 64) (y : EReal)
    (hy : ∑ k, ds (ix3 h q k) * b (ix3 (tok k) h d) = y) : rOverK64 ds b (ix3 h q d) = y := by
  unfold rOverK64
  pointwise
  exact hy
theorem rOverQ128_at (ds : FVec Ideal S8x8208x8208 .f32) (b : FVec Ideal S8320x8x128 .f32) (h : Fin 8) (k : Fin 8208) (d : Fin 128) (y : EReal)
    (hy : ∑ q, ds (ix3 h q k) * b (ix3 (tok q) h d) = y) : rOverQ128 ds b (ix3 h k d) = y := by
  unfold rOverQ128
  pointwise
  exact hy
theorem rOverQ64_at (ds : FVec Ideal S8x8208x8208 .f32) (b : FVec Ideal S8320x8x64 .f32) (h : Fin 8) (k : Fin 8208) (d : Fin 64) (y : EReal)
    (hy : ∑ q, ds (ix3 h q k) * b (ix3 (tok q) h d) = y) : rOverQ64 ds b (ix3 h k d) = y := by
  unfold rOverQ64
  pointwise
  exact hy
theorem rGP_at (p : FVec Ideal S8x8208x8208 .f32) (h : Fin 8) (d : Fin 128) (k : Fin 8208) (y : EReal)
    (hy : ∑ q, rG a5 (ix3 h d q) * p (ix3 h q k) = y) : rGP a5 p (ix3 h d k) = y := by
  unfold rGP
  pointwise
  exact hy
theorem rOutQ_at (x : FVec Ideal S8320x8x128 .f32) (y : FVec Ideal S8320x8x64 .f32) (q : Fin 8320) (h : Fin 8) (d : Fin 256) :
    rOutQ x y (ix2 q ⟨h.val * 256 + d.val, by have := h.isLt; have := d.isLt; omega⟩)
      = if h1 : d.val < 128 then x (ix3 q h ⟨d.val, h1⟩) else if h2 : d.val < 192 then y (ix3 q h ⟨d.val - 128, by omega⟩) else 0 := by
  unfold rOutQ
  pointwise
  by_cases h1 : d.val < 128
  · rw [dif_pos (by omega), dif_pos h1, dif_pos h1]
  · rw [dif_neg h1]
    by_cases h2 : d.val < 192
    · rw [dif_pos h2, dif_neg h1, dif_pos h2]
    · rw [dif_neg h2, dif_neg h2, zero_word]; rfl
theorem rOutR_at (y : FVec Ideal S8320x8x64 .f32) (q : Fin 8320) (h : Fin 8) (d : Fin 128) :
    rOutR y (ix2 q ⟨h.val * 128 + d.val, by have := h.isLt; have := d.isLt; omega⟩) = if h1 : d.val < 64 then y (ix3 q h ⟨d.val, h1⟩) else 0 := by
  unfold rOutR
  pointwise
  by_cases h1 : d.val < 64
  · rw [dif_pos h1, dif_pos h1]
  · rw [dif_neg h1, dif_neg h1, zero_word]; rfl
theorem rOut_at (x : FVec Ideal S8320x8x128 .f32) (q : Fin 8320) (h : Fin 8) (d : Fin 128) :
    rOut x (ix2 q ⟨h.val * 128 + d.val, by have := h.isLt; have := d.isLt; omega⟩) = x (ix3 q h d) := by
  unfold rOut
  pointwise

/-! ## The results' layout -/

theorem head256_at (h : Fin 8) (d : Fin 256) {p : h.val * 256 + d.val < 2048} : head256 ⟨h.val * 256 + d.val, p⟩ = h :=
  Fin.ext (by have := d.isLt; show (h.val * 256 + d.val) / 256 = h.val; omega)
theorem lane256_at (h : Fin 8) (d : Fin 256) {p : h.val * 256 + d.val < 2048} : lane256 ⟨h.val * 256 + d.val, p⟩ = d :=
  Fin.ext (by have := d.isLt; show (h.val * 256 + d.val) % 256 = d.val; omega)
theorem head128_at (h : Fin 8) (d : Fin 128) {p : h.val * 128 + d.val < 1024} : head128 ⟨h.val * 128 + d.val, p⟩ = h :=
  Fin.ext (by have := d.isLt; show (h.val * 128 + d.val) / 128 = h.val; omega)
theorem lane128_at (h : Fin 8) (d : Fin 128) {p : h.val * 128 + d.val < 1024} : lane128 ⟨h.val * 128 + d.val, p⟩ = d :=
  Fin.ext (by have := d.isLt; show (h.val * 128 + d.val) % 128 = d.val; omega)

theorem dqOf_at (Y : Args) (q : Fin 8320) (h : Fin 8) (d : Fin 256) {p : h.val * 256 + d.val < 2048} :
    dqOf Y (ix2 q ⟨h.val * 256 + d.val, p⟩) = (Y.dq h q d : EReal) := by
  show ((Y.dq (head256 ⟨h.val * 256 + d.val, p⟩) q (lane256 ⟨h.val * 256 + d.val, p⟩) : ℝ) : EReal) = _
  rw [head256_at, lane256_at]
theorem dvOf_at (Y : Args) (k : Fin 8320) (h : Fin 8) (d : Fin 128) {p : h.val * 128 + d.val < 1024} :
    dvOf Y (ix2 k ⟨h.val * 128 + d.val, p⟩) = (Y.dv h k d : EReal) := by
  show ((Y.dv (head128 ⟨h.val * 128 + d.val, p⟩) k (lane128 ⟨h.val * 128 + d.val, p⟩) : ℝ) : EReal) = _
  rw [head128_at, lane128_at]
theorem dknOf_at (Y : Args) (k : Fin 8320) (h : Fin 8) (d : Fin 128) {p : h.val * 128 + d.val < 1024} :
    dknOf Y (ix2 k ⟨h.val * 128 + d.val, p⟩) = (Y.dk h k ⟨d.val, by have := d.isLt; omega⟩ : EReal) := by
  have e : (⟨(lane128 ⟨h.val * 128 + d.val, p⟩).val, by have := (lane128 ⟨h.val * 128 + d.val, p⟩).isLt; omega⟩ : Fin 256) = ⟨d.val, by have := d.isLt; omega⟩ :=
    Fin.ext (congrArg (fun x : Fin 128 => x.val) (lane128_at h d (p := p)))
  show ((Y.dk (head128 ⟨h.val * 128 + d.val, p⟩) k ⟨(lane128 ⟨h.val * 128 + d.val, p⟩).val, _⟩ : ℝ) : EReal) = _
  rw [e, head128_at]
theorem dkrOf_at (Y : Args) (k : Fin 8320) (h : Fin 8) (d : Fin 128) {p : h.val * 128 + d.val < 1024} :
    dkrOf Y (ix2 k ⟨h.val * 128 + d.val, p⟩) = (Y.dk h k ⟨128 + d.val, by have := d.isLt; omega⟩ : EReal) := by
  have e : (⟨128 + (lane128 ⟨h.val * 128 + d.val, p⟩).val, by have := (lane128 ⟨h.val * 128 + d.val, p⟩).isLt; omega⟩ : Fin 256) = ⟨128 + d.val, by have := d.isLt; omega⟩ :=
    Fin.ext (congrArg (fun x : Fin 128 => 128 + x.val) (lane128_at h d (p := p)))
  show ((Y.dk (head128 ⟨h.val * 128 + d.val, p⟩) k ⟨128 + (lane128 ⟨h.val * 128 + d.val, p⟩).val, _⟩ : ℝ) : EReal) = _
  rw [e, head128_at]

theorem ext256 {a b : S8320x2048.Idx → EReal}
    (he : ∀ (q : Fin 8320) (h : Fin 8) (d : Fin 256), a (ix2 q ⟨h.val * 256 + d.val, by have := h.isLt; have := d.isLt; omega⟩)
      = b (ix2 q ⟨h.val * 256 + d.val, by have := h.isLt; have := d.isLt; omega⟩)) : a = b := by
  funext i
  have e : i = ix2 (i 0) ⟨(head256 (i 1)).val * 256 + (lane256 (i 1)).val, by have := (head256 (i 1)).isLt; have := (lane256 (i 1)).isLt; omega⟩ := by
    funext x
    apply Fin.ext
    fin_cases x
    · rfl
    · show (i 1).val = (i 1).val / 256 * 256 + (i 1).val % 256
      omega
  rw [e]
  exact he _ _ _
theorem ext128 {a b : S8320x1024.Idx → EReal}
    (he : ∀ (q : Fin 8320) (h : Fin 8) (d : Fin 128), a (ix2 q ⟨h.val * 128 + d.val, by have := h.isLt; have := d.isLt; omega⟩)
      = b (ix2 q ⟨h.val * 128 + d.val, by have := h.isLt; have := d.isLt; omega⟩)) : a = b := by
  funext i
  have e : i = ix2 (i 0) ⟨(head128 (i 1)).val * 128 + (lane128 (i 1)).val, by have := (head128 (i 1)).isLt; have := (lane128 (i 1)).isLt; omega⟩ := by
    funext x
    apply Fin.ext
    fin_cases x
    · rfl
    · show (i 1).val = (i 1).val / 128 * 128 + (i 1).val % 128
      omega
  rw [e]
  exact he _ _ _

/-! ## The results -/

section

variable (f0 : Real' a0) (f1 : Real' a1) (f2 : Real' a2) (f3 : Real' a3) (f4 : Real' a4) (f5 : Real' a5)

include f0 f1 f2 f3 in
theorem weight_at (h : Fin 8) (q k : Fin 8208) : rW a0 a1 a2 a3 (ix3 h q k) = ((X).weight h (tok q) (tok k) : EReal) := by
  have e : rMax (rScore a0 a1 a2 a3) (ix2 h q) = (X).topE h (tok q) := by
    apply rMax_at
    rw [← Args.topE_tok]
    congr 1
    exact funext fun k => hScore_at (a4 := a4) (a5 := a5) f0 f1 f2 f3 h q k
  rw [rW, rWeight_at, e, rScore_eq, hScore_at (a4 := a4) (a5 := a5) f0 f1 f2 f3, Args.weight_eq]

include f0 f1 f2 f3 in
theorem den_at (h : Fin 8) (q : Fin 8208) (z : Fin 1) : rDen (rW a0 a1 a2 a3) (ix3 h q z) = ((X).den h (tok q) : EReal) := by
  apply rDen_at
  rw [Finset.sum_congr rfl fun k _ => weight_at (a4 := a4) (a5 := a5) f0 f1 f2 f3 h q k, sum_coe, Args.den_tok]

include f0 f1 f2 f3 in
theorem prob_at (h : Fin 8) (q k : Fin 8208) : rProb (rW a0 a1 a2 a3) (ix3 h q k) = ((X).prob h (tok q) (tok k) : EReal) := by
  apply rProb_at
  rw [weight_at (a4 := a4) (a5 := a5) f0 f1 f2 f3, den_at (a4 := a4) (a5 := a5) f0 f1 f2 f3, Args.prob_div (tok_le q)]

include f5 in
theorem gT_at (h : Fin 8) (d : Fin 128) (q : Fin 8208) : rG a5 (ix3 h d q) = (((X).g h (tok q) d : ℝ) : EReal) := by
  apply rG_at
  exact g_tok (a0 := a0) (a1 := a1) (a2 := a2) (a3 := a3) (a4 := a4) h q d f5

include f4 f5 in
theorem dp_at (h : Fin 8) (q k : Fin 8208) : rDp a4 a5 (ix3 h q k) = ((X).dp h (tok q) (tok k) : EReal) := by
  apply rDp_at
  have e : ∀ d, rG a5 (ix3 h d q) * a4 (ix3 (tok k) h d) = (((X).g h (tok q) d * (X).v h (tok k) d : ℝ) : EReal) := fun d => by
    rw [gT_at (a0 := a0) (a1 := a1) (a2 := a2) (a3 := a3) (a4 := a4) f5, f4, EReal.coe_mul]; rfl
  rw [Finset.sum_congr rfl fun d _ => e d, sum_coe]; rfl

/-- The sum the quotient's derivative subtracts, over the tokens and over the rows. -/
theorem less_tok (h : Fin 8) (q : Fin 8208) :
    ∑ k, ((X).dp h (tok q) (tok k) : EReal) * Ideal.div 1 (((X).den h (tok q) : EReal) * ((X).den h (tok q) : EReal)) * ((X).weight h (tok q) (tok k) : EReal)
      = ∑ k, ((X).dp h (tok q) k : EReal) * Ideal.div 1 (((X).den h (tok q) : EReal) * ((X).den h (tok q) : EReal)) * ((X).weight h (tok q) k : EReal) := by
  have hd : (X).den h (tok q) ≠ 0 := (Args.den_pos (tok_le q)).ne'
  have h1 : Ideal.div 1 (((X).den h (tok q) : EReal) * ((X).den h (tok q) : EReal))
      = ((1 / ((X).den h (tok q) * (X).den h (tok q)) : ℝ) : EReal) := by
    rw [← EReal.coe_mul]; exact div_real (mul_ne_zero hd hd) 1
  rw [h1]
  simp only [← EReal.coe_mul]
  rw [sum_coe, sum_coe]
  exact congrArg _ (sum_tok (fun k => (X).dp h (tok q) k * (1 / ((X).den h (tok q) * (X).den h (tok q))) * (X).weight h (tok q) k)
    fun i hi => by rw [Args.weight_hidden hi, mul_zero])

include f0 f1 f2 f3 f4 f5 in
theorem less_at (h : Fin 8) (q : Fin 8208) :
    rLess (rRow (rTerm (rW a0 a1 a2 a3) (rDp a4 a5))) (ix2 h q)
      = -(∑ k, ((X).dp h (tok q) k : EReal) * Ideal.div 1 (((X).den h (tok q) : EReal) * ((X).den h (tok q) : EReal)) * ((X).weight h (tok q) k : EReal)) := by
  rw [rLess_at, ← less_tok]
  congr 1
  apply rRow_at
  refine Finset.sum_congr rfl fun k _ => ?_
  apply rTerm_at
  rw [dp_at (a0 := a0) (a1 := a1) (a2 := a2) (a3 := a3) f4 f5, weight_at (a4 := a4) (a5 := a5) f0 f1 f2 f3]
  congr 2
  apply rInv_at
  rw [den_at (a4 := a4) (a5 := a5) f0 f1 f2 f3]

include f0 f1 f2 f3 f4 f5 in
theorem ds_at (h : Fin 8) (q k : Fin 8208) : rD a0 a1 a2 a3 a4 a5 (ix3 h q k) = ((X).ds h (tok q) (tok k) : EReal) := by
  rw [rD]
  apply rDs_at
  rw [rMask_at]
  by_cases hk : k.val ≤ q.val
  · rw [if_pos hk, less_at f0 f1 f2 f3 f4 f5, dp_at (a0 := a0) (a1 := a1) (a2 := a2) (a3 := a3) f4 f5,
      weight_at (a4 := a4) (a5 := a5) f0 f1 f2 f3, den_at (a4 := a4) (a5 := a5) f0 f1 f2 f3]
    exact Args.ds_quotient (tok_le q)
  · rw [if_neg hk, Args.ds_hidden (fun hs => hk (seen_tok.mp hs))]; rfl

include f0 f1 f2 f3 f4 f5 in
theorem overK128 (b : FVec Ideal S8320x8x128 .f32) (B : Fin 8320 → ℝ) (h : Fin 8) (d : Fin 128)
    (hb : ∀ i, b (ix3 (tok i) h d) = (B (tok i) : EReal)) (q : Fin 8320) :
    rPad128 (rHeads128 (rOverK128 (rD a0 a1 a2 a3 a4 a5) b)) (ix3 q h d) = ((∑ k, (X).ds h q k * B k : ℝ) : EReal) := by
  apply rPad128_at
  rcases tok_cases q with hi | ⟨t, rfl⟩
  · rw [dif_neg (by omega), Finset.sum_eq_zero fun k _ => by rw [Args.ds_pad hi, zero_mul]]; rfl
  · rw [dif_pos (tok_le t)]
    have e : (⟨(tok t).val - 112, by have := (tok t).isLt; omega⟩ : Fin 8208) = t := Fin.ext (by show 112 + t.val - 112 = t.val; omega)
    rw [e, rHeads128_at]
    apply rOverK128_at
    have e' : ∀ k : Fin 8208, rD a0 a1 a2 a3 a4 a5 (ix3 h t k) * b (ix3 (tok k) h d) = (((X).ds h (tok t) (tok k) * B (tok k) : ℝ) : EReal) := fun k => by
      rw [ds_at f0 f1 f2 f3 f4 f5, hb, EReal.coe_mul]
    rw [Finset.sum_congr rfl fun k _ => e' k, sum_coe]
    exact congrArg _ (sum_tok (fun k => (X).ds h (tok t) k * B k) fun i hi => by rw [Args.ds_pad_key hi, zero_mul])
include f0 f1 f2 f3 f4 f5 in
theorem overK64 (b : FVec Ideal S8320x8x64 .f32) (B : Fin 8320 → ℝ) (h : Fin 8) (d : Fin 64)
    (hb : ∀ i, b (ix3 (tok i) h d) = (B (tok i) : EReal)) (q : Fin 8320) :
    rPad64 (rHeads64 (rOverK64 (rD a0 a1 a2 a3 a4 a5) b)) (ix3 q h d) = ((∑ k, (X).ds h q k * B k : ℝ) : EReal) := by
  apply rPad64_at
  rcases tok_cases q with hi | ⟨t, rfl⟩
  · rw [dif_neg (by omega), Finset.sum_eq_zero fun k _ => by rw [Args.ds_pad hi, zero_mul]]; rfl
  · rw [dif_pos (tok_le t)]
    have e : (⟨(tok t).val - 112, by have := (tok t).isLt; omega⟩ : Fin 8208) = t := Fin.ext (by show 112 + t.val - 112 = t.val; omega)
    rw [e, rHeads64_at]
    apply rOverK64_at
    have e' : ∀ k : Fin 8208, rD a0 a1 a2 a3 a4 a5 (ix3 h t k) * b (ix3 (tok k) h d) = (((X).ds h (tok t) (tok k) * B (tok k) : ℝ) : EReal) := fun k => by
      rw [ds_at f0 f1 f2 f3 f4 f5, hb, EReal.coe_mul]
    rw [Finset.sum_congr rfl fun k _ => e' k, sum_coe]
    exact congrArg _ (sum_tok (fun k => (X).ds h (tok t) k * B k) fun i hi => by rw [Args.ds_pad_key hi, zero_mul])
include f0 f1 f2 f3 f4 f5 in
theorem overQ128 (b : FVec Ideal S8320x8x128 .f32) (B : Fin 8320 → ℝ) (h : Fin 8) (d : Fin 128)
    (hb : ∀ i, b (ix3 (tok i) h d) = (B (tok i) : EReal)) (k : Fin 8320) :
    rPad128 (rHeads128 (rOverQ128 (rD a0 a1 a2 a3 a4 a5) b)) (ix3 k h d) = ((∑ q, (X).ds h q k * B q : ℝ) : EReal) := by
  apply rPad128_at
  rcases tok_cases k with hi | ⟨t, rfl⟩
  · rw [dif_neg (by omega), Finset.sum_eq_zero fun q _ => by rw [Args.ds_pad_key hi, zero_mul]]; rfl
  · rw [dif_pos (tok_le t)]
    have e : (⟨(tok t).val - 112, by have := (tok t).isLt; omega⟩ : Fin 8208) = t := Fin.ext (by show 112 + t.val - 112 = t.val; omega)
    rw [e, rHeads128_at]
    apply rOverQ128_at
    have e' : ∀ q : Fin 8208, rD a0 a1 a2 a3 a4 a5 (ix3 h q t) * b (ix3 (tok q) h d) = (((X).ds h (tok q) (tok t) * B (tok q) : ℝ) : EReal) := fun q => by
      rw [ds_at f0 f1 f2 f3 f4 f5, hb, EReal.coe_mul]
    rw [Finset.sum_congr rfl fun q _ => e' q, sum_coe]
    exact congrArg _ (sum_tok (fun q => (X).ds h q (tok t) * B q) fun i hi => by rw [Args.ds_pad hi, zero_mul])
include f0 f1 f2 f3 f4 f5 in
theorem overQ64 (b : FVec Ideal S8320x8x64 .f32) (B : Fin 8320 → ℝ) (h : Fin 8) (d : Fin 64)
    (hb : ∀ i, b (ix3 (tok i) h d) = (B (tok i) : EReal)) (k : Fin 8320) :
    rPad64 (rHeads64 (rOverQ64 (rD a0 a1 a2 a3 a4 a5) b)) (ix3 k h d) = ((∑ q, (X).ds h q k * B q : ℝ) : EReal) := by
  apply rPad64_at
  rcases tok_cases k with hi | ⟨t, rfl⟩
  · rw [dif_neg (by omega), Finset.sum_eq_zero fun q _ => by rw [Args.ds_pad_key hi, zero_mul]]; rfl
  · rw [dif_pos (tok_le t)]
    have e : (⟨(tok t).val - 112, by have := (tok t).isLt; omega⟩ : Fin 8208) = t := Fin.ext (by show 112 + t.val - 112 = t.val; omega)
    rw [e, rHeads64_at]
    apply rOverQ64_at
    have e' : ∀ q : Fin 8208, rD a0 a1 a2 a3 a4 a5 (ix3 h q t) * b (ix3 (tok q) h d) = (((X).ds h (tok q) (tok t) * B (tok q) : ℝ) : EReal) := fun q => by
      rw [ds_at f0 f1 f2 f3 f4 f5, hb, EReal.coe_mul]
    rw [Finset.sum_congr rfl fun q _ => e' q, sum_coe]
    exact congrArg _ (sum_tok (fun q => (X).ds h q (tok t) * B q) fun i hi => by rw [Args.ds_pad hi, zero_mul])
include f0 f1 f2 f3 f5 in
theorem overV (h : Fin 8) (d : Fin 128) (k : Fin 8320) :
    rPad128 (rKeys (rGP a5 (rProb (rW a0 a1 a2 a3)))) (ix3 k h d) = ((X).dv h k d : EReal) := by
  apply rPad128_at
  rcases tok_cases k with hi | ⟨t, rfl⟩
  · rw [dif_neg (by omega), Args.dv, Finset.sum_eq_zero fun q _ => by rw [Args.prob_pad_key hi, zero_mul]]; rfl
  · rw [dif_pos (tok_le t)]
    have e : (⟨(tok t).val - 112, by have := (tok t).isLt; omega⟩ : Fin 8208) = t := Fin.ext (by show 112 + t.val - 112 = t.val; omega)
    rw [e, rKeys_at]
    apply rGP_at
    have e' : ∀ q : Fin 8208, rG a5 (ix3 h d q) * rProb (rW a0 a1 a2 a3) (ix3 h q t)
        = (((X).prob h (tok q) (tok t) * (X).g h (tok q) d : ℝ) : EReal) := fun q => by
      rw [gT_at (a0 := a0) (a1 := a1) (a2 := a2) (a3 := a3) (a4 := a4) f5, prob_at (a4 := a4) (a5 := a5) f0 f1 f2 f3, EReal.coe_mul, mul_comm]
    rw [Finset.sum_congr rfl fun q _ => e' q, sum_coe]
    exact congrArg _ (sum_tok (fun q => (X).prob h q (tok t) * (X).g h q d) fun i hi => by rw [Args.prob_pad hi, zero_mul])

include f0 f1 f2 f3 f5 in
theorem outV : rOut (rPad128 (rKeys (rGP a5 (rProb (rW a0 a1 a2 a3))))) = dvOf X := by
  refine ext128 fun k h d => ?_
  rw [rOut_at]
  exact (overV f0 f1 f2 f3 f5 h d k).trans (dvOf_at X k h d).symm

include f0 f1 f2 f3 f4 f5 in
theorem outKn : rOut (rPad128 (rHeads128 (rOverQ128 (rD a0 a1 a2 a3 a4 a5) (rQn a0)))) = dknOf X := by
  refine ext128 fun k h d => ?_
  rw [rOut_at]
  refine (overQ128 f0 f1 f2 f3 f4 f5 (rQn a0) (fun q => (X).qn h q d) h d (fun i => ?_) k).trans ?_
  · rw [rQn_eq, hQn_at (a1 := a1) (a2 := a2) (a3 := a3) (a4 := a4) (a5 := a5) f0]
  · refine Eq.trans ?_ (dknOf_at X k h d).symm
    rw [Args.dk]
    refine congrArg _ (Finset.sum_congr rfl fun q _ => ?_)
    rw [Args.qq, dif_pos d.isLt]

include f0 f1 f2 f3 f4 f5 in
theorem outKr : rOutR (rPad64 (rHeads64 (rOverQ64 (rD a0 a1 a2 a3 a4 a5) (rQp a1)))) = dkrOf X := by
  refine ext128 fun k h d => ?_
  rw [rOutR_at]
  refine Eq.trans ?_ (dkrOf_at X k h d).symm
  rw [Args.dk]
  by_cases hd : d.val < 64
  · rw [dif_pos hd]
    refine (overQ64 f0 f1 f2 f3 f4 f5 (rQp a1) (fun q => (X).qp h q ⟨d.val, hd⟩) h ⟨d.val, hd⟩ (fun i => ?_) k).trans ?_
    · rw [rQp_eq, hQp_at (a0 := a0) (a2 := a2) (a3 := a3) (a4 := a4) (a5 := a5) f1]
    · refine congrArg _ (Finset.sum_congr rfl fun q _ => ?_)
      rw [Args.qq, dif_neg (by show ¬ 128 + d.val < 128; omega), dif_pos (by show 128 + d.val < 192; omega)]
      congr 2
      exact Fin.ext (by show d.val = 128 + d.val - 128; omega)
  · rw [dif_neg hd, Finset.sum_eq_zero fun q _ => by
      rw [Args.qq, dif_neg (by show ¬ 128 + d.val < 128; omega), dif_neg (by show ¬ 128 + d.val < 192; omega), mul_zero]]
    rfl

include f0 f1 f2 f3 f4 f5 in
theorem outQ : rOutQ (rPad128 (rHeads128 (rOverK128 (rD a0 a1 a2 a3 a4 a5) a2))) (rPad64 (rHeads64 (rOverK64 (rD a0 a1 a2 a3 a4 a5) (rKp a3)))) = dqOf X := by
  refine ext256 fun q h d => ?_
  rw [rOutQ_at]
  refine Eq.trans ?_ (dqOf_at X q h d).symm
  rw [Args.dq]
  by_cases h1 : d.val < 128
  · rw [dif_pos h1]
    refine (overK128 f0 f1 f2 f3 f4 f5 a2 (fun k => (X).kn h k ⟨d.val, h1⟩) h ⟨d.val, h1⟩ (fun i => ?_) q).trans ?_
    · exact f2 _
    · refine congrArg _ (Finset.sum_congr rfl fun k _ => ?_)
      rw [Args.kk, dif_pos h1]
  · rw [dif_neg h1]
    by_cases h2 : d.val < 192
    · rw [dif_pos h2]
      refine (overK64 f0 f1 f2 f3 f4 f5 (rKp a3) (fun k => (X).kp k ⟨d.val - 128, by omega⟩) h ⟨d.val - 128, by omega⟩ (fun i => ?_) q).trans ?_
      · rw [rKp_eq, hKp_at (a0 := a0) (a1 := a1) (a2 := a2) (a4 := a4) (a5 := a5) f3]
      · refine congrArg _ (Finset.sum_congr rfl fun k _ => ?_)
        rw [Args.kk, dif_neg h1, Args.kr, dif_pos (by show d.val - 128 < 64; omega)]
    · rw [dif_neg h2, Finset.sum_eq_zero fun k _ => by
        rw [Args.kk, dif_neg h1, Args.kr, dif_neg (by show ¬ d.val - 128 < 64; omega), mul_zero]]
      rfl

end

end Cert.ReferenceIdeal.Grad

end
-- ==== Proof.Value.Equal.lean ====
/-
  The two programs' results are equal over the extended reals: the precondition makes the arguments real, and both leave the
  attention's gradients.
-/
module

public import proofs.«01_k».proof.Defs
public import proofs.«01_k».proof.Proof.Gen.Pre_finite
public import proofs.«01_k».proof.Proof.Value.Gradients
public import Idealize.ShloMosaic.Lib.ReduceAll

@[expose] public section

set_option maxRecDepth 16384

noncomputable section

namespace Cert.Equal

open Cert.KernelIdeal.Grad (Real' reals dqOf dknOf dkrOf dvOf args Finite)
open Idealize.ShloMosaic Idealize.ShloMosaic.TcCoe Idealize.SL.Sem

/-! ## The precondition -/

theorem real_of_lt {x : EReal} (h : max x (-x) < ⊤) : x = (x.toReal : EReal) := by
  refine (EReal.coe_toReal ?_ ?_).symm
  · rintro rfl; simp at h
  · rintro rfl; simp at h

theorem inf_bits : Ideal.ofBits .f32 0x7F800000#32 = ⊤ := by simp [Ideal.ofBits, Ideal.ieee]

theorem lt_of_cmp {x y : EReal} (h : Ideal.cmp .olt x y = 1#1) : x < y := by
  by_contra hn
  have : Ideal.cmp .olt x y = 0#1 := by
    simp only [Ideal.cmp, decide_eq_false hn]; rfl
  rw [this] at h
  exact absurd h (by decide)

open Cert.Pre_finite in
theorem finite_of_pre {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) : Finite m c := by
  have e := congrFun (h c) default
  dsimp only [fn, fn_part1] at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  have key : ∀ {s : Shape} (x : FVec Ideal s .f32) (b : S_.BroadcastsInDim s ![]) {axes : List (Fin s.rank)} (r : s.ReducesTo axes S_)
      (u : 0 < S_.numel), Host.reduce IntOp.andi (cmpf .olt (Host.absf x) (broadcastInDim s ![] b (constant S_ .f32 0x7F800000#32)))
        (constantI S_ 1 1#1) r u default = 1#1 → Real' x := fun x b _ r u hr i => by
    have h1 := lt_of_cmp (Host.reduce_andi_all _ _ _ _ _ hr i)
    refine real_of_lt (lt_of_lt_of_eq h1 inf_bits)
  exact ⟨key _ _ _ _ h0, key _ _ _ _ h1, key _ _ _ _ h2, key _ _ _ _ h3, key _ _ _ _ h4, key _ _ _ _ h5⟩

/-! ## The kernel -/

section Kernel

open Cert.KernelIdeal Cert.KernelIdeal.Gen Cert.KernelIdeal.Grad

theorem kernel_run (m : (ℓ : Loc nD τ sig) → Buf (Elt Ideal) ℓ) (ρ : Dev nD → PrngReg) (f : ∀ c, Finite m c) :
    θ_run (defs (F := Ideal)) (onTc (τ := τ) (main (F := Ideal))) ⟨m, fun _ => 0, ρ⟩ (fun r => ∀ c : Dev nD,
      r.2.mem ((c.tc : Thread nD τ).loc main_v56_0) = dqOf (args m c)
      ∧ r.2.mem ((c.tc : Thread nD τ).loc main_v56_1) = dknOf (args m c)
      ∧ r.2.mem ((c.tc : Thread nD τ).loc main_v56_2) = dkrOf (args m c)
      ∧ r.2.mem ((c.tc : Thread nD τ).loc main_v56_3) = dvOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  obtain ⟨after, hL, hw⟩ := Pipeline.RDat.FramePost.exists_exact h.1 c
  refine ⟨(hw 7).trans (final_dq m c (f c) after (hL 7)), (hw 8).trans (final_dkn m c (f c) after (hL 8)),
    (hw 9).trans (final_dkr m c (f c) after (hL 9)), (hw 10).trans (final_dv m c (f c) after (hL 10)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩

end Kernel

/-! ## The claim -/

section Reference

open Cert.ReferenceIdeal Cert.ReferenceIdeal.Gen Cert.ReferenceIdeal.Grad

/-- Of real arguments that agree with `b0` … `b5`, the reference's results. -/
theorem reference_results (m : (ℓ : Loc nD τ sig) → Buf (Elt Ideal) ℓ) (c : Dev nD)
    {b0 : FVec Ideal S8320x8x128 .f32} {b1 : FVec Ideal S8320x8x64 .f32} {b2 : FVec Ideal S8320x8x128 .f32}
    {b3 : FVec Ideal S8320x64 .f32} {b4 : FVec Ideal S8320x8x128 .f32} {b5 : FVec Ideal S8208x1024 .f32}
    (f0 : Real' b0) (f1 : Real' b1) (f2 : Real' b2) (f3 : Real' b3) (f4 : Real' b4) (f5 : Real' b5)
    (e0 : arg0 m c = b0) (e1 : arg1 m c = b1) (e2 : arg2 m c = b2) (e3 : arg3 m c = b3) (e4 : arg4 m c = b4) (e5 : arg5 m c = b5) :
    (Value.res_out0 m c : FVec Ideal S8320x2048 .f32) = dqOf (reals b0 b1 b2 b3 b4 b5)
    ∧ (Value.res_out1 m c : FVec Ideal S8320x1024 .bf16) = dknOf (reals b0 b1 b2 b3 b4 b5)
    ∧ (Value.res_out2 m c : FVec Ideal S8320x1024 .f32) = dkrOf (reals b0 b1 b2 b3 b4 b5)
    ∧ (Value.res_out3 m c : FVec Ideal S8320x1024 .bf16) = dvOf (reals b0 b1 b2 b3 b4 b5) := by
  subst e0 e1 e2 e3 e4 e5
  exact ⟨(out0_eq m c).trans (outQ f0 f1 f2 f3 f4 f5), (out1_eq m c).trans (outKn f0 f1 f2 f3 f4 f5),
    (out2_eq m c).trans (outKr f0 f1 f2 f3 f4 f5), (out3_eq m c).trans (outV f0 f1 f2 f3 f5)⟩

end Reference

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have f : ∀ c, Finite m c := fun c => finite_of_pre hpre c
  refine ⟨fun c => dqOf (args m c), fun c => dknOf (args m c), fun c => dkrOf (args m c), fun c => dvOf (args m c), kernel_run m g f, ?_⟩
  refine (θ_run Cert.ReferenceIdeal.defs _ _).mono (fun r h c => ?_) (Cert.ReferenceIdeal.Value.run m' g')
  obtain ⟨h0, h1, h2, h3, hargs⟩ := h c
  obtain ⟨e0, e1, e2, e3, e4, e5⟩ := hagree c
  obtain ⟨f0, f1, f2, f3, f4, f5⟩ := f c
  obtain ⟨r0, r1, r2, r3⟩ := reference_results m' c f0 f1 f2 f3 f4 f5 e0 e1 e2 e3 e4 e5
  exact ⟨h0.trans r0, h1.trans r1, h2.trans r2, h3.trans r3, hargs⟩

end Cert.Equal

end
-- ==== Proof.Product.Offsets.lean ====
/-
  The offsets of a block that is read or written whole.
-/
module

public import Idealize.ShloMosaic.Lib.Pipeline.ValueKit
public import Idealize.ShloMosaic.Lib.Pointwise

@[expose] public section

namespace Cert.Product

theorem hz : (![0, 0] : Fin 2 → Nat) = fun _ => 0 := funext fun a => by fin_cases a <;> rfl

end Cert.Product
-- ==== Proof.Product.Sums.lean ====
/-
  A sum over an axis taken block by block: the block sums added up in order are the sum over the whole axis.
-/
module

public import Mathlib.Data.EReal.Operations
public import Mathlib.Algebra.BigOperators.Fin

@[expose] public section

noncomputable section

namespace Cert.Product

open scoped BigOperators

/-- A function of an axis' positions continued by zero past its end. -/
def ext {n : ℕ} (f : Fin n → EReal) (k : ℕ) : EReal := if h : k < n then f ⟨k, h⟩ else 0

theorem ext_of_lt {n : ℕ} (f : Fin n → EReal) {k : ℕ} (h : k < n) : ext f k = f ⟨k, h⟩ := dif_pos h

/-- The sum over the `s`th block of `w` positions. -/
def blockSum {n : ℕ} (w : ℕ) (f : Fin n → EReal) (s : ℕ) : EReal := ∑ k : Fin w, ext f (s * w + k.val)

theorem sum_range_blocks (w : ℕ) (g : ℕ → EReal) : ∀ J : ℕ,
    ∑ s ∈ Finset.range J, ∑ k : Fin w, g (s * w + k.val) = ∑ k ∈ Finset.range (J * w), g k
  | 0 => by simp
  | J + 1 => by
    rw [Finset.sum_range_succ, sum_range_blocks w g J, Nat.succ_mul, Finset.sum_range_add]
    congr 1
    exact Fin.sum_univ_eq_sum_range (fun k => g (J * w + k)) w

/-- The block sums added up are the sum over the axis. -/
theorem sum_blockSum {n : ℕ} (w J : ℕ) (f : Fin n → EReal) (hn : n = J * w) :
    ∑ s ∈ Finset.range J, blockSum w f s = ∑ k : Fin n, f k := by
  refine (sum_range_blocks w (ext f) J).trans ?_
  rw [show Finset.range (J * w) = Finset.range n from congrArg _ hn.symm, ← Fin.sum_univ_eq_sum_range]
  exact Finset.sum_congr rfl fun k _ => ext_of_lt f k.isLt

end Cert.Product

end
-- ==== Proof.Product.InputGrad.lean ====
/-
  The gradient of a product in its left argument, accumulated over three blocks of the contracted axis and added to an
  array on the way out: the kernel's result array is that sum, entry by entry.
-/
module

public import proofs.«01_k».proof.Proof.Product.Offsets
public import proofs.«01_k».proof.Proof.Product.Sums
public import proofs.«01_k».proof.Defs
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Grad

open Cert.Kernel2Ideal Cert.Kernel2Ideal.Gen Cert.Kernel2Ideal.Value Cert.Product
open Idealize.ShloMosaic Idealize.ShloMosaic.TcCoe Idealize.SL.Sem
open scoped BigOperators

/-! ## What a point leaves -/

section Case

variable {F : FTy → Type} [FloatOps F]
variable (c : Dev nD) (i : grid0.Coords) (arg3 : Memref sig .tc .vmem S832x2816 .bf16) (harg3 : arg3.IsWhole)
  (arg4 : Memref sig .tc .vmem S1024x2816 .bf16) (harg4 : arg4.IsWhole) (arg5 : Memref sig .tc .vmem S832x1024 .f32) (harg5 : arg5.IsWhole)
  (arg6 : Memref sig .tc .vmem S832x1024 .f32) (harg6 : arg6.IsWhole) (arg7 : Memref sig .tc .vmem S832x1024 .f32) (harg7 : arg7.IsWhole)
  (x0 : Vec F S832x2816 .bf16) (x1 : Vec F S1024x2816 .bf16) (x2 : Vec F S832x1024 .f32) (xs : Vec F S832x1024 .f32)

theorem first (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  rw [View.canon_unit_zero hz]
  simp only [View.readAt_eq_ld, harg3.read_unread, harg4.read_unread, View.ld_unit_zero (S := S832x2816) hz, View.ld_unit_zero (S := S1024x2816) hz]

theorem next (hc0 : ¬cond0_0 i) (hc1 : cond0_1 i) (hc2 : ¬cond0_2 i) :
    sout0_B_0 c i arg3 harg3 arg4 harg4 arg5 harg5 arg6 harg6 arg7 harg7 hc0 hc1 hc2 x0 x1 x2 xs = k0_pay3 x0 x1 xs := by
  unfold sout0_B_0
  rw [View.read_writes_eq_canon _ _ _ (scover0_B_0 c i arg3 harg3 arg4 harg4 arg5 harg5 arg6 harg6 arg7 harg7 hc0 hc1 hc2 x0 x1 x2 xs)]
  unfold kernelRun0_B
  dsimp only
  rw [View.canon_unit_zero hz]
  simp only [View.readAt_eq_ld, harg3.read_unread, harg4.read_unread, harg7.read_unread, View.ld_unit_zero (S := S832x2816) hz,
    View.ld_unit_zero (S := S1024x2816) hz, View.ld_unit_zero (S := S832x1024) hz]

theorem last (hc0 : ¬cond0_0 i) (hc1 : ¬cond0_1 i) (hc2 : cond0_2 i) :
    out0_C_3 c i arg3 harg3 arg4 harg4 arg5 harg5 arg6 harg6 arg7 harg7 hc0 hc1 hc2 x0 x1 x2 xs = k0_pay4 x0 x1 xs x2 := by
  unfold out0_C_3
  rw [View.read_writes_eq_canon _ _ _ (cover0_C_3 c i arg3 harg3 arg4 harg4 arg5 harg5 arg6 harg6 arg7 harg7 hc0 hc1 hc2 x0 x1 x2 xs)]
  unfold kernelRun0_C
  dsimp only
  rw [View.canon_unit_zero hz]
  simp only [View.readAt_eq_ld, harg3.read_unread, harg4.read_unread, harg5.read_unread, harg7.read_unread, View.ld_unit_zero (S := S832x2816) hz,
    View.ld_unit_zero (S := S1024x2816) hz, View.ld_unit_zero (S := S832x1024) hz]

end Case

/-! ## The payloads at an entry -/

section Entry

variable (x0 : Vec Ideal S832x2816 .bf16) (x1 : Vec Ideal S1024x2816 .bf16) (x2 xs : Vec Ideal S832x1024 .f32)
  (r : Fin 832) (q : Fin 1024)

theorem pay1_at : k0_pay1 x0 x1 (ix2 r q) = ∑ k : Fin 2816, x0 (ix2 r k) * x1 (ix2 q k) := by
  pointwise [k0_pay1]
theorem pay2_at : k0_pay2 x0 x1 (ix2 r q) = ∑ k : Fin 2816, x0 (ix2 r k) * x1 (ix2 q k) := by
  rw [← pay1_at]
  pointwise [k0_pay2]
theorem pay3_at : k0_pay3 x0 x1 xs (ix2 r q) = xs (ix2 r q) + ∑ k : Fin 2816, x0 (ix2 r k) * x1 (ix2 q k) := by
  rw [← pay1_at]
  pointwise [k0_pay3]
theorem pay4_at : k0_pay4 x0 x1 xs x2 (ix2 r q) = xs (ix2 r q) + (∑ k : Fin 2816, x0 (ix2 r k) * x1 (ix2 q k)) + x2 (ix2 r q) := by
  rw [← pay1_at]
  pointwise [k0_pay4]

end Entry

/-! ## The blocks -/

theorem index_in : ∀ t : Fin cfg0.N, win0_0.index t = ![t.val / 3, t.val % 3] ∧ win0_1.index t = ![0, t.val % 3]
    ∧ win0_2.index t = ![t.val / 3, 0] :=
  (by decide +kernel : ∀ t : Fin grid0.N, _)

variable (m : (ℓ : Loc nD τ sig) → Buf (Elt Ideal) ℓ) (c : Dev nD)

/-- The weight, the cotangent and the array added. -/
def weight : FVec Ideal S1024x8448 .f32 := m ((c.tc : Thread nD τ).loc main_arg0)
def cot : FVec Ideal S8320x8448 .f32 := m ((c.tc : Thread nD τ).loc main_arg1)
def extra : FVec Ideal S8320x1024 .f32 := m ((c.tc : Thread nD τ).loc main_arg2)

theorem entry_cot : (V m c main_v0 : FVec Ideal S8320x8448 .bf16) = truncf .bf16 (cot m c) := by
  show StableHlo.after hostOps0 _ _ = _
  after_results
  rfl
theorem entry_weight : (V m c main_v1 : FVec Ideal S1024x8448 .bf16) = truncf .bf16 (weight m c) := by
  show StableHlo.after hostOps0 _ _ = _
  after_results
  rfl

theorem point_lt (t : Fin cfg0.N) : t.val < 30 := lt_of_lt_of_eq t.isLt N_0

/-- The array's row of row `r` of a point's block. -/
def rowOf (t : Fin cfg0.N) (r : Fin 832) : Fin 8320 := ⟨t.val / 3 * 832 + r.val, by have := point_lt t; have := r.isLt; omega⟩
def colOf (t : Fin cfg0.N) (k : Fin 2816) : Fin 8448 := ⟨t.val % 3 * 2816 + k.val, by have := k.isLt; omega⟩

/-- The two blocks a point multiplies. -/
def cotBlock (t : Fin cfg0.N) : Vec Ideal S832x2816 .bf16 := iblk m c 0 t
def weightBlock (t : Fin cfg0.N) : Vec Ideal S1024x2816 .bf16 := iblk m c 1 t

theorem read_0 (t : Fin cfg0.N) (r : Fin 832) (k : Fin 2816) :
    cotBlock m c t (ix2 r k) = cot m c (ix2 (rowOf t r) (colOf t k)) := by
  have h : (iblk m c 0 t : Vec Ideal S832x2816 .bf16) (ix2 r k) = (V m c main_v0 : FVec Ideal S8320x8448 .bf16) (ix2 (rowOf t r) (colOf t k)) := by
    blk_ext [iblk, index_in t, rowOf, colOf]
  refine h.trans ?_
  rw [entry_cot]; rfl
theorem read_1 (t : Fin cfg0.N) (q : Fin 1024) (k : Fin 2816) :
    weightBlock m c t (ix2 q k) = weight m c (ix2 q (colOf t k)) := by
  have h : (iblk m c 1 t : Vec Ideal S1024x2816 .bf16) (ix2 q k) = (V m c main_v1 : FVec Ideal S1024x8448 .bf16) (ix2 q (colOf t k)) := by
    blk_ext [iblk, index_in t, colOf]
  refine h.trans ?_
  rw [entry_weight]; rfl
theorem read_2 (t : Fin cfg0.N) (r : Fin 832) (q : Fin 1024) :
    (iblk m c 2 t : Vec Ideal S832x1024 .f32) (ix2 r q) = extra m c (ix2 (rowOf t r) q) := by
  have h : (iblk m c 2 t : Vec Ideal S832x1024 .f32) (ix2 r q) = (V m c main_arg2 : FVec Ideal S8320x1024 .f32) (ix2 (rowOf t r) q) := by
    blk_ext [iblk, index_in t, rowOf]
  rw [h, V_main_arg2]; rfl

/-- The terms of one entry of the product. -/
def terms (R : Fin 8320) (q : Fin 1024) (k : Fin 8448) : EReal := cot m c (ix2 R k) * weight m c (ix2 q k)

/-- What a point's product adds to an entry: its block's sum. -/
theorem block_at (t : Fin cfg0.N) (r : Fin 832) (q : Fin 1024) :
    ∑ k : Fin 2816, cotBlock m c t (ix2 r k) * weightBlock m c t (ix2 q k)
      = blockSum 2816 (terms m c (rowOf t r) q) (t.val % 3) := by
  refine Finset.sum_congr rfl fun k _ => ?_
  exact (congrArg₂ (fun x y : EReal => x * y) (read_0 m c t r k) (read_1 m c t q k)).trans (ext_of_lt (terms m c (rowOf t r) q) (colOf t k).isLt).symm

/-! ## The accumulation -/

/-- What the last point of a run leaves for an entry: the entry of the product, plus the array added. -/
theorem out_at (b : ℕ) (hb : b < 10) (r : Fin 832) (q : Fin 1024) (h : 3 * b + 2 < cfg0.N) :
    (outsAt0 m c (3 * b + 2) h).1 (ix2 r q)
      = (∑ k : Fin 8448, terms m c (rowOf ⟨3 * b + 2, h⟩ r) q k) + extra m c (ix2 (rowOf ⟨3 * b + 2, h⟩ r) q) := by
  have h1 : 3 * b + 1 < cfg0.N := by omega
  have h0 : 3 * b < cfg0.N := by omega
  have e0 : rowOf ⟨3 * b, h0⟩ r = rowOf ⟨3 * b + 2, h⟩ r := Fin.ext (by show 3 * b / 3 * 832 + _ = (3 * b + 2) / 3 * 832 + _; omega)
  have e1 : rowOf ⟨3 * b + 1, h1⟩ r = rowOf ⟨3 * b + 2, h⟩ r := Fin.ext (by show (3 * b + 1) / 3 * 832 + _ = (3 * b + 2) / 3 * 832 + _; omega)
  have s0 : (outsAt0 m c (3 * b) h0).2 (ix2 r q) = blockSum 2816 (terms m c (rowOf ⟨3 * b + 2, h⟩ r) q) 0 := by
    rw [outsAt0_A m c ⟨3 * b, h0⟩ (by show 3 * b % 3 = 0; omega) (by show ¬3 * b % 3 = 1; omega) (by show ¬3 * b % 3 = 2; omega)]
    dsimp only
    rw [first]
    refine (pay2_at _ _ r q).trans ((block_at m c ⟨3 * b, h0⟩ r q).trans ?_)
    rw [e0, show (⟨3 * b, h0⟩ : Fin cfg0.N).val % 3 = 0 from Nat.mul_mod_right 3 b]
  have s1 : (outsAt0 m c (3 * b + 1) h1).2 (ix2 r q) = blockSum 2816 (terms m c (rowOf ⟨3 * b + 2, h⟩ r) q) 0
      + blockSum 2816 (terms m c (rowOf ⟨3 * b + 2, h⟩ r) q) 1 := by
    rw [outsAt0_B m c ⟨3 * b + 1, h1⟩ (by show ¬(3 * b + 1) % 3 = 0; omega) (by show (3 * b + 1) % 3 = 1; omega) (by show ¬(3 * b + 1) % 3 = 2; omega)]
    dsimp only
    rw [next]
    refine (pay3_at _ _ _ r q).trans (congrArg₂ (· + ·) s0 ((block_at m c ⟨3 * b + 1, h1⟩ r q).trans ?_))
    rw [e1, show (⟨3 * b + 1, h1⟩ : Fin cfg0.N).val % 3 = 1 from Nat.mul_add_mod 3 b 1]
  rw [outsAt0_C m c ⟨3 * b + 2, h⟩ (by show ¬(3 * b + 2) % 3 = 0; omega) (by show ¬(3 * b + 2) % 3 = 1; omega) (by show (3 * b + 2) % 3 = 2; omega)]
  dsimp only
  rw [last]
  refine (pay4_at _ _ _ _ r q).trans (congrArg₂ (· + ·) ((congrArg₂ (· + ·) s1 (block_at m c ⟨3 * b + 2, h⟩ r q)).trans ?_) (read_2 m c ⟨3 * b + 2, h⟩ r q))
  rw [show (⟨3 * b + 2, h⟩ : Fin cfg0.N).val % 3 = 2 from Nat.mul_add_mod 3 b 2,
    ← sum_blockSum 2816 3 (terms m c (rowOf ⟨3 * b + 2, h⟩ r) q) (by norm_num),
    Finset.sum_range_succ, Finset.sum_range_succ, Finset.sum_range_one]

/-- The kernel's result array. -/
theorem result_at (R : Fin 8320) (q : Fin 1024) :
    (G3 m c : FVec Ideal S8320x1024 .f32) (ix2 R q) = (∑ k : Fin 8448, cot m c (ix2 R k) * weight m c (ix2 q k)) + extra m c (ix2 R q) := by
  have hR := R.isLt
  have hq := q.isLt
  have hp : pt3Of (ix2 R q) = 3 * (R.val / 832) + 2 := by
    show 3 * (1 * (R.val / 832 - 0) + 1 * (q.val / 1024 - 0)) + 2 = _
    omega
  have hb : 3 * (R.val / 832) + 2 < cfg0.N := lt_of_lt_of_eq (by omega) N_0.symm
  have hl : loc3Of (ix2 R q) = ix2 (⟨R.val % 832, by omega⟩ : Fin 832) q := by
    funext a; apply Fin.ext
    match a with
    | ⟨0, _⟩ => rfl
    | ⟨1, _⟩ => show q.val % 1024 = q.val; omega
  have hr : rowOf ⟨3 * (R.val / 832) + 2, hb⟩ ⟨R.val % 832, by omega⟩ = R := Fin.ext (by
    show (3 * (R.val / 832) + 2) / 3 * 832 + R.val % 832 = R.val
    omega)
  have ho := out_at m c (R.val / 832) (by omega) ⟨R.val % 832, by omega⟩ q hb
  rw [hr] at ho
  rw [outsAt0_sweep, fold0_congr m c _ _ (pt3Of (ix2 R q)) (by rw [hp]; omega) hp.symm, ← hl] at ho
  refine Eq.trans ?_ ho
  unfold G3
  rw [dif_pos (by rw [hp]; exact hb)]

end Cert.Kernel2Ideal.Grad

/-! ## The claim -/

namespace Cert.InputGrad

open Idealize.ShloMosaic Idealize.ShloMosaic.TcCoe Idealize.SL.Sem
open scoped BigOperators

section Reference

open Cert.Reference2Ideal Cert.Reference2Ideal.Gen

theorem reference_at (x : FVec Ideal S8320x8448 .f32) (w : FVec Ideal S1024x8448 .f32) (a : FVec Ideal S8320x1024 .f32) (R : Fin 8320) (q : Fin 1024) :
    (addf (Host.dotGeneral dot_S8320x8448_S1024x8448_S8320x1024_1_1_0_0_n_n none x w : FVec Ideal S8320x1024 .f32) a) (ix2 R q)
      = (∑ k : Fin 8448, x (ix2 R k) * w (ix2 q k)) + a (ix2 R q) := by
  pointwise

end Reference

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G3 m c, Cert.Kernel2Ideal.Value.run m g, ?_⟩
  refine (θ_run Cert.Reference2Ideal.defs _ _).mono (fun r h c => ?_) (Cert.Reference2Ideal.Value.run m' g')
  obtain ⟨h0, hargs⟩ := h c
  obtain ⟨e0, e1, e2⟩ := hagree c
  refine ⟨h0.trans ?_, hargs⟩
  rw [e0, e1, e2]
  funext i
  rw [← ix2_eta i]
  exact (reference_at _ _ _ _ _).trans (Cert.Kernel2Ideal.Grad.result_at m c _ _).symm

end Cert.InputGrad

end
-- ==== Proof.Product.Carried.lean ====
/-
  A sum carried from point to point of a grid: the first point of a run sets it, the next ones add to it.
-/
module

public import proofs.«01_k».proof.Proof.Product.Sums

@[expose] public section

noncomputable section

namespace Cert.Product

open scoped BigOperators

/-- What is carried after point `s` of a run from point `p` is the sum of what the points so far added. -/
theorem carried {N : ℕ} (a : (n : ℕ) → n < N → EReal) (g : ℕ → EReal) (p J : ℕ) (hfirst : ∀ h : p + 0 < N, a (p + 0) h = g 0)
    (hnext : ∀ s, s + 1 < J → ∀ (h : p + (s + 1) < N) (h' : p + s < N), a (p + (s + 1)) h = a (p + s) h' + g (s + 1)) :
    ∀ (s : ℕ) (_ : s < J) (h : p + s < N), a (p + s) h = ∑ j ∈ Finset.range (s + 1), g j
  | 0, _, h => by rw [hfirst h, Finset.sum_range_one]
  | s + 1, hs, h => by
    rw [hnext s hs h (by omega), carried a g p J hfirst hnext s (by omega) (by omega), Finset.sum_range_succ _ (s + 1)]

/-- What is stored after the last point of a run, the carried sum and that point's block sum, is the sum over the axis. -/
theorem swept {N n : ℕ} (w J : ℕ) (f : Fin n → EReal) (hn : n = (J + 2) * w) (a : (k : ℕ) → k < N → EReal) (o : EReal) (p : ℕ)
    (h : p + (J + 1) < N) (hfirst : ∀ h : p + 0 < N, a (p + 0) h = blockSum w f 0)
    (hnext : ∀ s, s + 1 < J + 1 → ∀ (h : p + (s + 1) < N) (h' : p + s < N), a (p + (s + 1)) h = a (p + s) h' + blockSum w f (s + 1))
    (hlast : ∀ h' : p + J < N, o = a (p + J) h' + blockSum w f (J + 1)) : o = ∑ k : Fin n, f k := by
  rw [hlast (by omega), carried a (blockSum w f) p (J + 1) hfirst hnext J (by omega) (by omega), ← sum_blockSum w (J + 2) f hn]
  exact (Finset.sum_range_succ (fun j => blockSum w f j) (J + 1)).symm

/-- A point's product of two blocks is the block sum of the terms, if each of its terms is one of theirs. -/
theorem sum_eq_blockSum {n w : ℕ} {x y : Fin w → EReal} {f : Fin n → EReal} {s : ℕ} (at_ : Fin w → Fin n)
    (hat : ∀ k, (at_ k).val = s * w + k.val) (h : ∀ k, x k * y k = f (at_ k)) : ∑ k, x k * y k = blockSum w f s :=
  Finset.sum_congr rfl fun k _ => (h k).trans (by rw [← hat, ext_of_lt f (at_ k).isLt])

/-- A sum of products, factor by factor. -/
theorem sum_mul_congr {n : ℕ} {x x' y y' : Fin n → EReal} (hx : ∀ k, x k = x' k) (hy : ∀ k, y k = y' k) : ∑ k, x k * y k = ∑ k, x' k * y' k := by
  rw [funext hx, funext hy]

end Cert.Product

end
-- ==== Proof.Product.WeightGrad.lean ====
/-
  The gradient of a product in its right argument, accumulated over five blocks of the contracted axis: the kernel's
  result array is that product, entry by entry.
-/
module

public import proofs.«01_k».proof.Proof.Product.Offsets
public import proofs.«01_k».proof.Proof.Product.Carried
public import proofs.«01_k».proof.Defs
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Grad

open Cert.Kernel3Ideal Cert.Kernel3Ideal.Gen Cert.Kernel3Ideal.Value Cert.Product
open Idealize.ShloMosaic Idealize.ShloMosaic.TcCoe Idealize.SL.Sem
open scoped BigOperators

/-! ## What a point leaves -/

section Case

variable {F : FTy → Type} [FloatOps F]
variable (c : Dev nD) (i : grid0.Coords) (arg3 : Memref sig .tc .vmem S1664x1024 .bf16) (harg3 : arg3.IsWhole)
  (arg4 : Memref sig .tc .vmem S1664x1408 .bf16) (harg4 : arg4.IsWhole) (arg5 : Memref sig .tc .vmem S1024x1408 .bf16) (harg5 : arg5.IsWhole)
  (arg6 : Memref sig .tc .vmem S1024x1408 .f32) (harg6 : arg6.IsWhole)
  (x0 : Vec F S1664x1024 .bf16) (x1 : Vec F S1664x1408 .bf16) (xs : Vec F S1024x1408 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  simp only [View.readAt_eq_ld, harg3.read_unread, harg4.read_unread, View.ld_unit_zero (S := S1664x1024) hz, View.ld_unit_zero (S := S1664x1408) hz]

theorem next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz]
  simp only [View.readAt_eq_ld, harg3.read_unread, harg4.read_unread, harg6.read_unread, View.ld_unit_zero (S := S1664x1024) hz,
    View.ld_unit_zero (S := S1664x1408) hz, View.ld_unit_zero (S := S1024x1408) hz]

theorem last (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz]
  simp only [View.readAt_eq_ld, harg3.read_unread, harg4.read_unread, harg6.read_unread, View.ld_unit_zero (S := S1664x1024) hz,
    View.ld_unit_zero (S := S1664x1408) hz, View.ld_unit_zero (S := S1024x1408) hz]

end Case

/-! ## The payloads at an entry -/

section Entry

variable (x0 : Vec Ideal S1664x1024 .bf16) (x1 : Vec Ideal S1664x1408 .bf16) (xs : Vec Ideal S1024x1408 .f32)
  (r : Fin 1024) (q : Fin 1408)

theorem pay1_at : k0_pay1 x0 x1 (ix2 r q) = ∑ k : Fin 1664, x0 (ix2 k r) * x1 (ix2 k q) := by
  pointwise [k0_pay1]
theorem pay2_at : k0_pay2 x0 x1 (ix2 r q) = ∑ k : Fin 1664, x0 (ix2 k r) * x1 (ix2 k q) := by
  rw [← pay1_at]
  pointwise [k0_pay2]
theorem pay3_at : k0_pay3 x0 x1 xs (ix2 r q) = xs (ix2 r q) + ∑ k : Fin 1664, x0 (ix2 k r) * x1 (ix2 k q) := by
  rw [← pay1_at]
  pointwise [k0_pay3]
theorem pay4_at : k0_pay4 x0 x1 xs (ix2 r q) = xs (ix2 r q) + ∑ k : Fin 1664, x0 (ix2 k r) * x1 (ix2 k q) := by
  rw [← pay1_at]
  pointwise [k0_pay4]

end Entry

/-! ## The blocks -/

theorem index_in : ∀ t : Fin cfg0.N, win0_0.index t = ![t.val % 5, 0] ∧ win0_1.index t = ![t.val % 5, t.val / 5] :=
  (by decide +kernel : ∀ t : Fin grid0.N, _)

variable (m : (ℓ : Loc nD τ sig) → Buf (Elt Ideal) ℓ) (c : Dev nD)

/-- The left argument and the cotangent. -/
def left : FVec Ideal S8320x1024 .f32 := m ((c.tc : Thread nD τ).loc main_arg0)
def cot : FVec Ideal S8320x8448 .f32 := m ((c.tc : Thread nD τ).loc main_arg1)

theorem entry_left : (V m c main_v0 : FVec Ideal S8320x1024 .bf16) = truncf .bf16 (left m c) := by
  show StableHlo.after hostOps0 _ _ = _
  after_results
  rfl
theorem entry_cot : (V m c main_v1 : FVec Ideal S8320x8448 .bf16) = truncf .bf16 (cot m c) := by
  show StableHlo.after hostOps0 _ _ = _
  after_results
  rfl

theorem point_lt (t : Fin cfg0.N) : t.val < 30 := lt_of_lt_of_eq t.isLt N_0

/-- The array's row and column of row `k` and column `q` of a point's blocks. -/
def rowOf (t : Fin cfg0.N) (k : Fin 1664) : Fin 8320 := ⟨t.val % 5 * 1664 + k.val, by have := k.isLt; omega⟩
def colOf (t : Fin cfg0.N) (q : Fin 1408) : Fin 8448 := ⟨t.val / 5 * 1408 + q.val, by have := point_lt t; have := q.isLt; omega⟩

/-- The two blocks a point multiplies. -/
def leftBlock (t : Fin cfg0.N) : Vec Ideal S1664x1024 .bf16 := iblk m c 0 t
def cotBlock (t : Fin cfg0.N) : Vec Ideal S1664x1408 .bf16 := iblk m c 1 t

theorem read_0 (t : Fin cfg0.N) (k : Fin 1664) (r : Fin 1024) : leftBlock m c t (ix2 k r) = left m c (ix2 (rowOf t k) r) := by
  have h : (iblk m c 0 t : Vec Ideal S1664x1024 .bf16) (ix2 k r) = (V m c main_v0 : FVec Ideal S8320x1024 .bf16) (ix2 (rowOf t k) r) := by
    blk_ext [iblk, index_in t, rowOf]
  refine h.trans ?_
  rw [entry_left]; rfl
theorem read_1 (t : Fin cfg0.N) (k : Fin 1664) (q : Fin 1408) : cotBlock m c t (ix2 k q) = cot m c (ix2 (rowOf t k) (colOf t q)) := by
  have h : (iblk m c 1 t : Vec Ideal S1664x1408 .bf16) (ix2 k q) = (V m c main_v1 : FVec Ideal S8320x8448 .bf16) (ix2 (rowOf t k) (colOf t q)) := by
    blk_ext [iblk, index_in t, rowOf, colOf]
  refine h.trans ?_
  rw [entry_cot]; rfl

/-- The terms of one entry of the product. -/
def terms (r : Fin 1024) (Q : Fin 8448) (k : Fin 8320) : EReal := left m c (ix2 k r) * cot m c (ix2 k Q)

/-- What a point's product adds to an entry: its block's sum. -/
theorem block_at (t : Fin cfg0.N) (r : Fin 1024) (q : Fin 1408) :
    ∑ k : Fin 1664, leftBlock m c t (ix2 k r) * cotBlock m c t (ix2 k q) = blockSum 1664 (terms m c r (colOf t q)) (t.val % 5) := by
  refine Finset.sum_congr rfl fun k _ => ?_
  exact (congrArg₂ (fun x y : EReal => x * y) (read_0 m c t k r) (read_1 m c t k q)).trans (ext_of_lt (terms m c r (colOf t q)) (rowOf t k).isLt).symm

/-! ## The accumulation -/

/-- Where the carried sum stands after point `s` of run `b`, the last point apart. -/
theorem carried_at (b : ℕ) (hb : b < 6) (r : Fin 1024) (q : Fin 1408) (Q : Fin 8448) (hQ : Q.val = b * 1408 + q.val) :
    ∀ (s : ℕ) (hs : s < 4) (h : 5 * b + s < cfg0.N),
      (outsAt0 m c (5 * b + s) h).2 (ix2 r q) = ∑ j ∈ Finset.range (s + 1), blockSum 1664 (terms m c r Q) j := by
  refine carried (fun n h => (outsAt0 m c n h).2 (ix2 r q)) (blockSum 1664 (terms m c r Q)) (5 * b) 4 (fun h => ?_) (fun s hs h h' => ?_)
  · have e : colOf ⟨5 * b + 0, h⟩ q = Q := Fin.ext (by show (5 * b + 0) / 5 * 1408 + _ = _; omega)
    rw [outsAt0_A m c ⟨5 * b + 0, h⟩ (by show (5 * b + 0) % 5 = 0; omega) (by show ¬(1 ≤ (5 * b + 0) % 5 ∧ _); omega) (by show ¬(5 * b + 0) % 5 = 4; omega)]
    dsimp only
    rw [first]
    refine (pay2_at _ _ r q).trans ((block_at m c ⟨5 * b + 0, h⟩ r q).trans ?_)
    rw [e, show (⟨5 * b + 0, h⟩ : Fin cfg0.N).val % 5 = 0 from Nat.mul_mod_right 5 b]
  · have e : colOf ⟨5 * b + (s + 1), h⟩ q = Q := Fin.ext (by show (5 * b + (s + 1)) / 5 * 1408 + _ = _; omega)
    have em : (5 * b + (s + 1)) % 5 = s + 1 := by omega
    rw [outsAt0_B m c ⟨5 * b + (s + 1), h⟩ (by show ¬(5 * b + (s + 1)) % 5 = 0; omega) (by show 1 ≤ (5 * b + (s + 1)) % 5 ∧ (5 * b + (s + 1)) % 5 ≤ 3; omega)
      (by show ¬(5 * b + (s + 1)) % 5 = 4; omega)]
    dsimp only
    rw [next]
    refine (pay3_at _ _ _ r q).trans (congrArg₂ (fun x y : EReal => x + y) rfl ((block_at m c ⟨5 * b + (s + 1), h⟩ r q).trans ?_))
    rw [e, show (⟨5 * b + (s + 1), h⟩ : Fin cfg0.N).val % 5 = s + 1 from em]

/-- What the last point of a run leaves for an entry: the entry of the product. -/
theorem out_at (b : ℕ) (hb : b < 6) (r : Fin 1024) (q : Fin 1408) (Q : Fin 8448) (hQ : Q.val = b * 1408 + q.val) (h : 5 * b + 4 < cfg0.N) :
    (outsAt0 m c (5 * b + 4) h).1 (ix2 r q) = ∑ k : Fin 8320, terms m c r Q k := by
  have e : colOf ⟨5 * b + 4, h⟩ q = Q := Fin.ext (by show (5 * b + 4) / 5 * 1408 + _ = _; omega)
  rw [outsAt0_C m c ⟨5 * b + 4, h⟩ (by show ¬(5 * b + 4) % 5 = 0; omega) (by show ¬(1 ≤ (5 * b + 4) % 5 ∧ (5 * b + 4) % 5 ≤ 3); omega) (by show (5 * b + 4) % 5 = 4; omega)]
  dsimp only
  rw [last]
  refine (pay4_at _ _ _ r q).trans ((congrArg₂ (fun x y : EReal => x + y)
    (carried_at m c b hb r q Q hQ 3 (by omega) (by omega)) (block_at m c ⟨5 * b + 4, h⟩ r q)).trans ?_)
  rw [e, show (⟨5 * b + 4, h⟩ : Fin cfg0.N).val % 5 = 4 from Nat.mul_add_mod 5 b 4, ← sum_blockSum 1664 5 (terms m c r Q) (by norm_num)]
  exact (Finset.sum_range_succ (fun j => blockSum 1664 (terms m c r Q) j) 4).symm

/-- The kernel's result array. -/
theorem result_at (r : Fin 1024) (Q : Fin 8448) :
    (G2 m c : FVec Ideal S1024x8448 .bf16) (ix2 r Q) = ∑ k : Fin 8320, left m c (ix2 k r) * cot m c (ix2 k Q) := by
  have hr := r.isLt
  have hQ := Q.isLt
  have hp : pt2Of (ix2 r Q) = 5 * (Q.val / 1408) + 4 := by
    show 5 * (6 * (r.val / 1024 - 0) + 1 * (Q.val / 1408 - 0)) + 4 = _
    omega
  have hb : 5 * (Q.val / 1408) + 4 < cfg0.N := lt_of_lt_of_eq (by omega) N_0.symm
  have hl : loc2Of (ix2 r Q) = ix2 r (⟨Q.val % 1408, by omega⟩ : Fin 1408) := by
    funext a; apply Fin.ext
    match a with
    | ⟨0, _⟩ => show r.val % 1024 = r.val; omega
    | ⟨1, _⟩ => rfl
  have ho := out_at m c (Q.val / 1408) (by omega) r ⟨Q.val % 1408, by omega⟩ Q (by show Q.val = Q.val / 1408 * 1408 + Q.val % 1408; omega) hb
  rw [outsAt0_sweep, fold0_congr m c _ _ (pt2Of (ix2 r Q)) (by rw [hp]; omega) hp.symm, ← hl] at ho
  refine Eq.trans ?_ ho
  unfold G2
  rw [dif_pos (by rw [hp]; exact hb)]

end Cert.Kernel3Ideal.Grad

/-! ## The claim -/

namespace Cert.WeightGrad

open Idealize.ShloMosaic Idealize.ShloMosaic.TcCoe Idealize.SL.Sem
open scoped BigOperators

section Reference

open Cert.Reference3Ideal Cert.Reference3Ideal.Gen

variable (m : (ℓ : Loc nD τ sig) → Buf (Elt Ideal) ℓ) (c : Dev nD)

theorem reference_at (x : FVec Ideal S8320x1024 .f32) (w : FVec Ideal S8320x8448 .f32) (r : Fin 1024) (Q : Fin 8448) :
    (truncf .bf16 (transpose S1024x8448 [1, 0] (Host.dotGeneral dot_S8320x8448_S8320x1024_S8448x1024_0_0_1_1_n_n none w x : FVec Ideal S8448x1024 .f32)
        transposes_S8448x1024_S1024x8448_1_0) bitsLt_bf16_f32 : FVec Ideal S1024x8448 .bf16) (ix2 r Q)
      = ∑ k : Fin 8320, x (ix2 k r) * w (ix2 k Q) := by
  have h : (truncf .bf16 (transpose S1024x8448 [1, 0] (Host.dotGeneral dot_S8320x8448_S8320x1024_S8448x1024_0_0_1_1_n_n none w x : FVec Ideal S8448x1024 .f32)
        transposes_S8448x1024_S1024x8448_1_0) bitsLt_bf16_f32 : FVec Ideal S1024x8448 .bf16) (ix2 r Q)
      = ∑ k : Fin 8320, w (ix2 k Q) * x (ix2 k r) := by
    pointwise
  exact h.trans (Finset.sum_congr rfl fun k _ => mul_comm _ _)

end Reference

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.G2 m c, Cert.Kernel3Ideal.Value.run m g, ?_⟩
  refine (θ_run Cert.Reference3Ideal.defs _ _).mono (fun r h c => ?_) (Cert.Reference3Ideal.Value.run m' g')
  obtain ⟨h0, hargs⟩ := h c
  obtain ⟨e0, e1⟩ := hagree c
  refine ⟨h0.trans ?_, hargs⟩
  rw [e0, e1]
  funext i
  rw [← ix2_eta i]
  exact (reference_at _ _ _ _).trans (Cert.Kernel3Ideal.Grad.result_at m c _ _).symm

end Cert.WeightGrad

end
-- ==== Proof.Product.Forward.lean ====
/-
  A product tile by tile, the contracted axis whole in every tile: the kernel's result array is the product, entry by
  entry.
-/
module

public import proofs.«01_k».proof.Proof.Product.Offsets
public import proofs.«01_k».proof.Defs
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Forward

open Cert.Kernel4Ideal Cert.Kernel4Ideal.Gen Cert.Kernel4Ideal.Value Cert.Product
open Idealize.ShloMosaic Idealize.ShloMosaic.TcCoe Idealize.SL.Sem
open scoped BigOperators

/-! ## What a point leaves -/

theorem out_eq {F : FTy → Type} [FloatOps F] (x0 : Vec F S1664x1024 .bf16) (x1 : Vec F S1024x1408 .bf16) : out0_2 x0 x1 = k0_pay1 x0 x1 := by
  unfold out0_2
  rw [View.canon_unit_zero hz]
  simp only [View.ld_unit_zero (S := S1664x1024) hz, View.ld_unit_zero (S := S1024x1408) hz]

theorem pay1_at (x0 : Vec Ideal S1664x1024 .bf16) (x1 : Vec Ideal S1024x1408 .bf16) (r : Fin 1664) (q : Fin 1408) :
    k0_pay1 x0 x1 (ix2 r q) = ∑ k : Fin 1024, x0 (ix2 r k) * x1 (ix2 k q) := by
  pointwise [k0_pay1]

/-! ## The blocks -/

theorem index_at : ∀ t : Fin cfg0.N, win0_0.index t = ![t.val / 6, 0] ∧ win0_1.index t = ![0, t.val % 6] ∧ win0_2.index t = ![t.val / 6, t.val % 6] :=
  (by decide +kernel : ∀ t : Fin grid0.N, _)
theorem flush_at : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The two arguments. -/
def left : FVec Ideal S8320x1024 .f32 := m ((c.tc : Thread nD τ).loc main_arg0)
def right : FVec Ideal S1024x8448 .f32 := m ((c.tc : Thread nD τ).loc main_arg1)

theorem entry_left : (V m c main_v0 : FVec Ideal S8320x1024 .bf16) = truncf .bf16 (left m c) := by
  show StableHlo.after hostOps0 _ _ = _
  after_results
  rfl
theorem entry_right : (V m c main_v1 : FVec Ideal S1024x8448 .bf16) = truncf .bf16 (right m c) := by
  show StableHlo.after hostOps0 _ _ = _
  after_results
  rfl

theorem point_lt (t : Fin cfg0.N) : t.val < 30 := lt_of_lt_of_eq t.isLt N_0

def rowOf (t : Fin cfg0.N) (r : Fin 1664) : Fin 8320 := ⟨t.val / 6 * 1664 + r.val, by have := point_lt t; have := r.isLt; omega⟩
def colOf (t : Fin cfg0.N) (q : Fin 1408) : Fin 8448 := ⟨t.val % 6 * 1408 + q.val, by have := q.isLt; omega⟩

/-- The two blocks a point multiplies. -/
def leftBlock (t : Fin cfg0.N) : Vec Ideal S1664x1024 .bf16 := iblk m c 0 t
def rightBlock (t : Fin cfg0.N) : Vec Ideal S1024x1408 .bf16 := iblk m c 1 t

theorem read_0 (t : Fin cfg0.N) (r : Fin 1664) (k : Fin 1024) : leftBlock m c t (ix2 r k) = left m c (ix2 (rowOf t r) k) := by
  have h : (iblk m c 0 t : Vec Ideal S1664x1024 .bf16) (ix2 r k) = (V m c main_v0 : FVec Ideal S8320x1024 .bf16) (ix2 (rowOf t r) k) := by
    blk_ext [iblk, index_at t, rowOf]
  refine h.trans ?_
  rw [entry_left]; rfl
theorem read_1 (t : Fin cfg0.N) (k : Fin 1024) (q : Fin 1408) : rightBlock m c t (ix2 k q) = right m c (ix2 k (colOf t q)) := by
  have h : (iblk m c 1 t : Vec Ideal S1024x1408 .bf16) (ix2 k q) = (V m c main_v1 : FVec Ideal S1024x8448 .bf16) (ix2 k (colOf t q)) := by
    blk_ext [iblk, index_at t, colOf]
  refine h.trans ?_
  rw [entry_right]; rfl

/-! ## The result -/

/-- The product of the two arguments. -/
def prod : FVec Ideal S8320x8448 .f32 := fun i => ∑ k : Fin 1024, left m c (ix2 (i 0) k) * right m c (ix2 k (i 1))

theorem tile_at (t : Fin cfg0.N) (r : Fin 1664) (q : Fin 1408) :
    k0_pay1 (leftBlock m c t) (rightBlock m c t) (ix2 r q) = prod m c (ix2 (rowOf t r) (colOf t q)) := by
  rw [pay1_at]
  exact Finset.sum_congr rfl fun k _ => congrArg₂ (fun x y : EReal => x * y) (read_0 m c t r k) (read_1 m c t k q)

theorem covers : win0_2.Covers := by decide +kernel
theorem placed (t : Fin cfg0.N) (y : S1664x1408.Idx) : (win0_2.blk t).view.emb y = ix2 (rowOf t (y 0)) (colOf t (y 1)) := by
  blk_ext [index_at t, rowOf, colOf]

theorem flushed_eq (t : Fin cfg0.N) : (dats m 0 c).flushed 2 t = ((cfg0.win 2).blk t).view.read (Elt Ideal) (prod m c) := by
  rw [flushed2, out_eq]
  funext y
  show k0_pay1 (leftBlock m c t) (rightBlock m c t) y = prod m c ((win0_2.blk t).view.emb y)
  rw [placed]
  exact (congrArg (k0_pay1 (leftBlock m c t) (rightBlock m c t)) (ix2_eta (n0 := 1664) (n1 := 1408) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel4Ideal.Forward

/-! ## The claim -/

namespace Cert.Forward

open Idealize.ShloMosaic Idealize.ShloMosaic.TcCoe Idealize.SL.Sem
open scoped BigOperators

section Reference

open Cert.Reference4Ideal Cert.Reference4Ideal.Gen

theorem reference_at (x : FVec Ideal S8320x1024 .f32) (w : FVec Ideal S1024x8448 .f32) (R : Fin 8320) (Q : Fin 8448) :
    (Host.dotGeneral dot_S8320x1024_S1024x8448_S8320x8448_1_0_0_1_n_n none x w : FVec Ideal S8320x8448 .f32) (ix2 R Q)
      = ∑ k : Fin 1024, x (ix2 R k) * w (ix2 k Q) := by
  pointwise

end Reference

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨h0, hargs⟩ := h c
  obtain ⟨e0, e1⟩ := hagree c
  refine ⟨h0.trans ?_, hargs⟩
  rw [e0, e1]
  refine Eq.trans ?_ (Cert.Kernel4Ideal.Forward.result m c).symm
  funext i
  rw [← ix2_eta i]
  exact reference_at _ _ _ _

end Cert.Forward

end
-- ==== Proof.Product.UpForward.lean ====
/-
  The feed-forward layer's first product tile by tile, the contracted axis whole in every tile: the kernel's result array
  is the product, entry by entry.
-/
module

public import proofs.«01_k».proof.Proof.Product.Offsets
public import proofs.«01_k».proof.Defs
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Forward

open Cert.Kernel5Ideal Cert.Kernel5Ideal.Gen Cert.Kernel5Ideal.Value Cert.Product
open Idealize.ShloMosaic Idealize.ShloMosaic.TcCoe Idealize.SL.Sem
open scoped BigOperators

/-! ## What a point leaves -/

theorem out_eq {F : FTy → Type} [FloatOps F] (x0 : Vec F S1664x1024 .bf16) (x1 : Vec F S1024x1408 .bf16) : out0_2 x0 x1 = k0_pay1 x0 x1 := by
  unfold out0_2
  rw [View.canon_unit_zero hz]
  simp only [View.ld_unit_zero (S := S1664x1024) hz, View.ld_unit_zero (S := S1024x1408) hz]

theorem pay1_at (x0 : Vec Ideal S1664x1024 .bf16) (x1 : Vec Ideal S1024x1408 .bf16) (r : Fin 1664) (q : Fin 1408) :
    k0_pay1 x0 x1 (ix2 r q) = ∑ k : Fin 1024, x0 (ix2 r k) * x1 (ix2 k q) := by
  pointwise [k0_pay1]

/-! ## The blocks -/

theorem index_at : ∀ t : Fin cfg0.N, win0_0.index t = ![t.val / 4, 0] ∧ win0_1.index t = ![0, t.val % 4] ∧ win0_2.index t = ![t.val / 4, t.val % 4] :=
  (by decide +kernel : ∀ t : Fin grid0.N, _)
theorem flush_at : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The two arguments. -/
def left : FVec Ideal S8320x1024 .f32 := m ((c.tc : Thread nD τ).loc main_arg0)
def right : FVec Ideal S1024x5632 .f32 := m ((c.tc : Thread nD τ).loc main_arg1)

theorem entry_left : (V m c main_v0 : FVec Ideal S8320x1024 .bf16) = truncf .bf16 (left m c) := by
  show StableHlo.after hostOps0 _ _ = _
  after_results
  rfl
theorem entry_right : (V m c main_v1 : FVec Ideal S1024x5632 .bf16) = truncf .bf16 (right m c) := by
  show StableHlo.after hostOps0 _ _ = _
  after_results
  rfl

theorem point_lt (t : Fin cfg0.N) : t.val < 20 := lt_of_lt_of_eq t.isLt N_0

def rowOf (t : Fin cfg0.N) (r : Fin 1664) : Fin 8320 := ⟨t.val / 4 * 1664 + r.val, by have := point_lt t; have := r.isLt; omega⟩
def colOf (t : Fin cfg0.N) (q : Fin 1408) : Fin 5632 := ⟨t.val % 4 * 1408 + q.val, by have := q.isLt; omega⟩

/-- The two blocks a point multiplies. -/
def leftBlock (t : Fin cfg0.N) : Vec Ideal S1664x1024 .bf16 := iblk m c 0 t
def rightBlock (t : Fin cfg0.N) : Vec Ideal S1024x1408 .bf16 := iblk m c 1 t

theorem read_0 (t : Fin cfg0.N) (r : Fin 1664) (k : Fin 1024) : leftBlock m c t (ix2 r k) = left m c (ix2 (rowOf t r) k) := by
  have h : (iblk m c 0 t : Vec Ideal S1664x1024 .bf16) (ix2 r k) = (V m c main_v0 : FVec Ideal S8320x1024 .bf16) (ix2 (rowOf t r) k) := by
    blk_ext [iblk, index_at t, rowOf]
  refine h.trans ?_
  rw [entry_left]; rfl
theorem read_1 (t : Fin cfg0.N) (k : Fin 1024) (q : Fin 1408) : rightBlock m c t (ix2 k q) = right m c (ix2 k (colOf t q)) := by
  have h : (iblk m c 1 t : Vec Ideal S1024x1408 .bf16) (ix2 k q) = (V m c main_v1 : FVec Ideal S1024x5632 .bf16) (ix2 k (colOf t q)) := by
    blk_ext [iblk, index_at t, colOf]
  refine h.trans ?_
  rw [entry_right]; rfl

/-! ## The result -/

/-- The product of the two arguments. -/
def prod : FVec Ideal S8320x5632 .bf16 := fun i => ∑ k : Fin 1024, left m c (ix2 (i 0) k) * right m c (ix2 k (i 1))

theorem tile_at (t : Fin cfg0.N) (r : Fin 1664) (q : Fin 1408) :
    k0_pay1 (leftBlock m c t) (rightBlock m c t) (ix2 r q) = prod m c (ix2 (rowOf t r) (colOf t q)) := by
  rw [pay1_at]
  exact Finset.sum_congr rfl fun k _ => congrArg₂ (fun x y : EReal => x * y) (read_0 m c t r k) (read_1 m c t k q)

theorem covers : win0_2.Covers := by decide +kernel
theorem placed (t : Fin cfg0.N) (y : S1664x1408.Idx) : (win0_2.blk t).view.emb y = ix2 (rowOf t (y 0)) (colOf t (y 1)) := by
  blk_ext [index_at t, rowOf, colOf]

theorem flushed_eq (t : Fin cfg0.N) : (dats m 0 c).flushed 2 t = ((cfg0.win 2).blk t).view.read (Elt Ideal) (prod m c) := by
  rw [flushed2, out_eq]
  funext y
  show k0_pay1 (leftBlock m c t) (rightBlock m c t) y = prod m c ((win0_2.blk t).view.emb y)
  rw [placed]
  exact (congrArg (k0_pay1 (leftBlock m c t) (rightBlock m c t)) (ix2_eta (n0 := 1664) (n1 := 1408) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel5Ideal.Forward

/-! ## The claim -/

namespace Cert.UpForward

open Idealize.ShloMosaic Idealize.ShloMosaic.TcCoe Idealize.SL.Sem
open scoped BigOperators

section Reference

open Cert.Reference5Ideal Cert.Reference5Ideal.Gen

theorem reference_at (x : FVec Ideal S8320x1024 .f32) (w : FVec Ideal S1024x5632 .f32) (R : Fin 8320) (Q : Fin 5632) :
    (truncf .bf16 (Host.dotGeneral dot_S8320x1024_S1024x5632_S8320x5632_1_0_0_1_n_n none x w : FVec Ideal S8320x5632 .f32) bitsLt_bf16_f32 : FVec Ideal S8320x5632 .bf16) (ix2 R Q)
      = ∑ k : Fin 1024, x (ix2 R k) * w (ix2 k Q) := by
  pointwise

end Reference

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, hargs⟩ := h c
  obtain ⟨e0, e1⟩ := hagree c
  refine ⟨h0.trans ?_, hargs⟩
  rw [e0, e1]
  refine Eq.trans ?_ (Cert.Kernel5Ideal.Forward.result m c).symm
  funext i
  rw [← ix2_eta i]
  exact reference_at _ _ _ _

end Cert.UpForward

end
-- ==== Proof.Product.UpInputGrad.lean ====
/-
  The gradient of a product in its left argument, accumulated over two blocks of the contracted axis and added to an
  array on the way out: the kernel's result array is that sum, entry by entry.
-/
module

public import proofs.«01_k».proof.Proof.Product.Offsets
public import proofs.«01_k».proof.Proof.Product.Sums
public import proofs.«01_k».proof.Defs
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Grad

open Cert.Kernel6Ideal Cert.Kernel6Ideal.Gen Cert.Kernel6Ideal.Value Cert.Product
open Idealize.ShloMosaic Idealize.ShloMosaic.TcCoe Idealize.SL.Sem
open scoped BigOperators

/-! ## What a point leaves -/

section Case

variable {F : FTy → Type} [FloatOps F]
variable (c : Dev nD) (i : grid0.Coords) (arg3 : Memref sig .tc .vmem S832x2816 .bf16) (harg3 : arg3.IsWhole)
  (arg4 : Memref sig .tc .vmem S1024x2816 .bf16) (harg4 : arg4.IsWhole) (arg5 : Memref sig .tc .vmem S832x1024 .f32) (harg5 : arg5.IsWhole)
  (arg6 : Memref sig .tc .vmem S832x1024 .f32) (harg6 : arg6.IsWhole) (arg7 : Memref sig .tc .vmem S832x1024 .f32) (harg7 : arg7.IsWhole)
  (x0 : Vec F S832x2816 .bf16) (x1 : Vec F S1024x2816 .bf16) (x2 : Vec F S832x1024 .f32) (xs : Vec F S832x1024 .f32)

theorem first (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  rw [View.canon_unit_zero hz]
  simp only [View.readAt_eq_ld, harg3.read_unread, harg4.read_unread, View.ld_unit_zero (S := S832x2816) hz, View.ld_unit_zero (S := S1024x2816) hz]

theorem last (hc0 : ¬cond0_0 i) (hc1 : ¬cond0_1 i) (hc2 : cond0_2 i) :
    out0_B_3 c i arg3 harg3 arg4 harg4 arg5 harg5 arg6 harg6 arg7 harg7 hc0 hc1 hc2 x0 x1 x2 xs = k0_pay4 x0 x1 xs x2 := by
  unfold out0_B_3
  rw [View.read_writes_eq_canon _ _ _ (cover0_B_3 c i arg3 harg3 arg4 harg4 arg5 harg5 arg6 harg6 arg7 harg7 hc0 hc1 hc2 x0 x1 x2 xs)]
  unfold kernelRun0_B
  dsimp only
  rw [View.canon_unit_zero hz]
  simp only [View.readAt_eq_ld, harg3.read_unread, harg4.read_unread, harg5.read_unread, harg7.read_unread, View.ld_unit_zero (S := S832x2816) hz,
    View.ld_unit_zero (S := S1024x2816) hz, View.ld_unit_zero (S := S832x1024) hz]

end Case

/-! ## The payloads at an entry -/

section Entry

variable (x0 : Vec Ideal S832x2816 .bf16) (x1 : Vec Ideal S1024x2816 .bf16) (x2 xs : Vec Ideal S832x1024 .f32)
  (r : Fin 832) (q : Fin 1024)

theorem pay1_at : k0_pay1 x0 x1 (ix2 r q) = ∑ k : Fin 2816, x0 (ix2 r k) * x1 (ix2 q k) := by
  pointwise [k0_pay1]
theorem pay2_at : k0_pay2 x0 x1 (ix2 r q) = ∑ k : Fin 2816, x0 (ix2 r k) * x1 (ix2 q k) := by
  rw [← pay1_at]
  pointwise [k0_pay2]
theorem pay4_at : k0_pay4 x0 x1 xs x2 (ix2 r q) = xs (ix2 r q) + (∑ k : Fin 2816, x0 (ix2 r k) * x1 (ix2 q k)) + x2 (ix2 r q) := by
  rw [← pay1_at]
  pointwise [k0_pay4]

end Entry

/-! ## The blocks -/

theorem index_in : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ) (c : Dev nD)

/-- The weight, the cotangent and the array added. -/
def weight : FVec Ideal S1024x5632 .f32 := m ((c.tc : Thread nD τ).loc main_arg0)
def cot : FVec Ideal S8320x5632 .f32 := m ((c.tc : Thread nD τ).loc main_arg1)
def extra : FVec Ideal S8320x1024 .f32 := m ((c.tc : Thread nD τ).loc main_arg2)

theorem entry_cot : (V m c main_v0 : FVec Ideal S8320x5632 .bf16) = truncf .bf16 (cot m c) := by
  show StableHlo.after hostOps0 _ _ = _
  after_results
  rfl
theorem entry_weight : (V m c main_v1 : FVec Ideal S1024x5632 .bf16) = truncf .bf16 (weight m c) := by
  show StableHlo.after hostOps0 _ _ = _
  after_results
  rfl

theorem point_lt (t : Fin cfg0.N) : t.val < 20 := lt_of_lt_of_eq t.isLt N_0

/-- The array's row of row `r` of a point's block. -/
def rowOf (t : Fin cfg0.N) (r : Fin 832) : Fin 8320 := ⟨t.val / 2 * 832 + r.val, by have := point_lt t; have := r.isLt; omega⟩
def colOf (t : Fin cfg0.N) (k : Fin 2816) : Fin 5632 := ⟨t.val % 2 * 2816 + k.val, by have := k.isLt; omega⟩

/-- The two blocks a point multiplies. -/
def cotBlock (t : Fin cfg0.N) : Vec Ideal S832x2816 .bf16 := iblk m c 0 t
def weightBlock (t : Fin cfg0.N) : Vec Ideal S1024x2816 .bf16 := iblk m c 1 t

theorem read_0 (t : Fin cfg0.N) (r : Fin 832) (k : Fin 2816) :
    cotBlock m c t (ix2 r k) = cot m c (ix2 (rowOf t r) (colOf t k)) := by
  have h : (iblk m c 0 t : Vec Ideal S832x2816 .bf16) (ix2 r k) = (V m c main_v0 : FVec Ideal S8320x5632 .bf16) (ix2 (rowOf t r) (colOf t k)) := by
    blk_ext [iblk, index_in t, rowOf, colOf]
  refine h.trans ?_
  rw [entry_cot]; rfl
theorem read_1 (t : Fin cfg0.N) (q : Fin 1024) (k : Fin 2816) :
    weightBlock m c t (ix2 q k) = weight m c (ix2 q (colOf t k)) := by
  have h : (iblk m c 1 t : Vec Ideal S1024x2816 .bf16) (ix2 q k) = (V m c main_v1 : FVec Ideal S1024x5632 .bf16) (ix2 q (colOf t k)) := by
    blk_ext [iblk, index_in t, colOf]
  refine h.trans ?_
  rw [entry_weight]; rfl
theorem read_2 (t : Fin cfg0.N) (r : Fin 832) (q : Fin 1024) :
    (iblk m c 2 t : Vec Ideal S832x1024 .f32) (ix2 r q) = extra m c (ix2 (rowOf t r) q) := by
  have h : (iblk m c 2 t : Vec Ideal S832x1024 .f32) (ix2 r q) = (V m c main_arg2 : FVec Ideal S8320x1024 .f32) (ix2 (rowOf t r) q) := by
    blk_ext [iblk, index_in t, rowOf]
  rw [h, V_main_arg2]; rfl

/-- The terms of one entry of the product. -/
def terms (R : Fin 8320) (q : Fin 1024) (k : Fin 5632) : EReal := cot m c (ix2 R k) * weight m c (ix2 q k)

/-- What a point's product adds to an entry: its block's sum. -/
theorem block_at (t : Fin cfg0.N) (r : Fin 832) (q : Fin 1024) :
    ∑ k : Fin 2816, cotBlock m c t (ix2 r k) * weightBlock m c t (ix2 q k)
      = blockSum 2816 (terms m c (rowOf t r) q) (t.val % 2) := by
  refine Finset.sum_congr rfl fun k _ => ?_
  exact (congrArg₂ (fun x y : EReal => x * y) (read_0 m c t r k) (read_1 m c t q k)).trans (ext_of_lt (terms m c (rowOf t r) q) (colOf t k).isLt).symm

/-! ## The accumulation -/

/-- What the last point of a run leaves for an entry: the entry of the product, plus the array added. -/
theorem out_at (b : ℕ) (hb : b < 10) (r : Fin 832) (q : Fin 1024) (h : 2 * b + 1 < cfg0.N) :
    (outsAt0 m c (2 * b + 1) h).1 (ix2 r q)
      = (∑ k : Fin 5632, terms m c (rowOf ⟨2 * b + 1, h⟩ r) q k) + extra m c (ix2 (rowOf ⟨2 * b + 1, h⟩ r) q) := by
  have h0 : 2 * b < cfg0.N := by omega
  have e0 : rowOf ⟨2 * b, h0⟩ r = rowOf ⟨2 * b + 1, h⟩ r := Fin.ext (by show 2 * b / 2 * 832 + _ = (2 * b + 1) / 2 * 832 + _; omega)
  have s0 : (outsAt0 m c (2 * b) h0).2 (ix2 r q) = blockSum 2816 (terms m c (rowOf ⟨2 * b + 1, h⟩ r) q) 0 := by
    rw [outsAt0_A m c ⟨2 * b, h0⟩ (by show 2 * b % 2 = 0; omega) (by show ¬2 * b % 2 = 1; omega)]
    dsimp only
    rw [first]
    refine (pay2_at _ _ r q).trans ((block_at m c ⟨2 * b, h0⟩ r q).trans ?_)
    rw [e0, show (⟨2 * b, h0⟩ : Fin cfg0.N).val % 2 = 0 from Nat.mul_mod_right 2 b]
  rw [outsAt0_B m c ⟨2 * b + 1, h⟩ (by show ¬(2 * b + 1) % 2 = 0; omega) (by show (2 * b + 1) % 2 = 1; omega)]
  dsimp only
  rw [last]
  refine (pay4_at _ _ _ _ r q).trans (congrArg₂ (· + ·) ((congrArg₂ (· + ·) s0 (block_at m c ⟨2 * b + 1, h⟩ r q)).trans ?_) (read_2 m c ⟨2 * b + 1, h⟩ r q))
  rw [show (⟨2 * b + 1, h⟩ : Fin cfg0.N).val % 2 = 1 from Nat.mul_add_mod 2 b 1,
    ← sum_blockSum 2816 2 (terms m c (rowOf ⟨2 * b + 1, h⟩ r) q) (by norm_num), Finset.sum_range_succ, Finset.sum_range_one]

/-- The kernel's result array. -/
theorem result_at (R : Fin 8320) (q : Fin 1024) :
    (G3 m c : FVec Ideal S8320x1024 .f32) (ix2 R q) = (∑ k : Fin 5632, cot m c (ix2 R k) * weight m c (ix2 q k)) + extra m c (ix2 R q) := by
  have hR := R.isLt
  have hq := q.isLt
  have hp : pt3Of (ix2 R q) = 2 * (R.val / 832) + 1 := by
    show 2 * (1 * (R.val / 832 - 0) + 1 * (q.val / 1024 - 0)) + 1 = _
    omega
  have hb : 2 * (R.val / 832) + 1 < cfg0.N := lt_of_lt_of_eq (by omega) N_0.symm
  have hl : loc3Of (ix2 R q) = ix2 (⟨R.val % 832, by omega⟩ : Fin 832) q := by
    funext a; apply Fin.ext
    match a with
    | ⟨0, _⟩ => rfl
    | ⟨1, _⟩ => show q.val % 1024 = q.val; omega
  have hr : rowOf ⟨2 * (R.val / 832) + 1, hb⟩ ⟨R.val % 832, by omega⟩ = R := Fin.ext (by
    show (2 * (R.val / 832) + 1) / 2 * 832 + R.val % 832 = R.val
    omega)
  have ho := out_at m c (R.val / 832) (by omega) ⟨R.val % 832, by omega⟩ q hb
  rw [hr] at ho
  rw [outsAt0_sweep, fold0_congr m c _ _ (pt3Of (ix2 R q)) (by rw [hp]; omega) hp.symm, ← hl] at ho
  refine Eq.trans ?_ ho
  unfold G3
  rw [dif_pos (by rw [hp]; exact hb)]

end Cert.Kernel6Ideal.Grad

/-! ## The claim -/

namespace Cert.UpInputGrad

open Idealize.ShloMosaic Idealize.ShloMosaic.TcCoe Idealize.SL.Sem
open scoped BigOperators

section Reference

open Cert.Reference6Ideal Cert.Reference6Ideal.Gen

theorem reference_at (x : FVec Ideal S8320x5632 .f32) (w : FVec Ideal S1024x5632 .f32) (a : FVec Ideal S8320x1024 .f32) (R : Fin 8320) (q : Fin 1024) :
    (addf (Host.dotGeneral dot_S8320x5632_S1024x5632_S8320x1024_1_1_0_0_n_n none x w : FVec Ideal S8320x1024 .f32) a) (ix2 R q)
      = (∑ k : Fin 5632, x (ix2 R k) * w (ix2 q k)) + a (ix2 R q) := by
  pointwise

end Reference

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Value.G3 m c, Cert.Kernel6Ideal.Value.run m g, ?_⟩
  refine (θ_run Cert.Reference6Ideal.defs _ _).mono (fun r h c => ?_) (Cert.Reference6Ideal.Value.run m' g')
  obtain ⟨h0, hargs⟩ := h c
  obtain ⟨e0, e1, e2⟩ := hagree c
  refine ⟨h0.trans ?_, hargs⟩
  rw [e0, e1, e2]
  funext i
  rw [← ix2_eta i]
  exact (reference_at _ _ _ _ _).trans (Cert.Kernel6Ideal.Grad.result_at m c _ _).symm

end Cert.UpInputGrad

end
-- ==== Proof.Product.UpWeightGrad.lean ====
/-
  The gradient of a product in its right argument, accumulated over five blocks of the contracted axis: the kernel's
  result array is that product, entry by entry.
-/
module

public import proofs.«01_k».proof.Proof.Product.Offsets
public import proofs.«01_k».proof.Proof.Product.Carried
public import proofs.«01_k».proof.Defs
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Grad

open Cert.Kernel7Ideal Cert.Kernel7Ideal.Gen Cert.Kernel7Ideal.Value Cert.Product
open Idealize.ShloMosaic Idealize.ShloMosaic.TcCoe Idealize.SL.Sem
open scoped BigOperators

/-! ## What a point leaves -/

section Case

variable {F : FTy → Type} [FloatOps F]
variable (c : Dev nD) (i : grid0.Coords) (arg3 : Memref sig .tc .vmem S1664x1024 .bf16) (harg3 : arg3.IsWhole)
  (arg4 : Memref sig .tc .vmem S1664x1408 .bf16) (harg4 : arg4.IsWhole) (arg5 : Memref sig .tc .vmem S1024x1408 .bf16) (harg5 : arg5.IsWhole)
  (arg6 : Memref sig .tc .vmem S1024x1408 .f32) (harg6 : arg6.IsWhole)
  (x0 : Vec F S1664x1024 .bf16) (x1 : Vec F S1664x1408 .bf16) (xs : Vec F S1024x1408 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  simp only [View.readAt_eq_ld, harg3.read_unread, harg4.read_unread, View.ld_unit_zero (S := S1664x1024) hz, View.ld_unit_zero (S := S1664x1408) hz]

theorem next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz]
  simp only [View.readAt_eq_ld, harg3.read_unread, harg4.read_unread, harg6.read_unread, View.ld_unit_zero (S := S1664x1024) hz,
    View.ld_unit_zero (S := S1664x1408) hz, View.ld_unit_zero (S := S1024x1408) hz]

theorem last (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz]
  simp only [View.readAt_eq_ld, harg3.read_unread, harg4.read_unread, harg6.read_unread, View.ld_unit_zero (S := S1664x1024) hz,
    View.ld_unit_zero (S := S1664x1408) hz, View.ld_unit_zero (S := S1024x1408) hz]

end Case

/-! ## The payloads at an entry -/

section Entry

variable (x0 : Vec Ideal S1664x1024 .bf16) (x1 : Vec Ideal S1664x1408 .bf16) (xs : Vec Ideal S1024x1408 .f32)
  (r : Fin 1024) (q : Fin 1408)

theorem pay1_at : k0_pay1 x0 x1 (ix2 r q) = ∑ k : Fin 1664, x0 (ix2 k r) * x1 (ix2 k q) := by
  pointwise [k0_pay1]
theorem pay2_at : k0_pay2 x0 x1 (ix2 r q) = ∑ k : Fin 1664, x0 (ix2 k r) * x1 (ix2 k q) := by
  rw [← pay1_at]
  pointwise [k0_pay2]
theorem pay3_at : k0_pay3 x0 x1 xs (ix2 r q) = xs (ix2 r q) + ∑ k : Fin 1664, x0 (ix2 k r) * x1 (ix2 k q) := by
  rw [← pay1_at]
  pointwise [k0_pay3]
theorem pay4_at : k0_pay4 x0 x1 xs (ix2 r q) = xs (ix2 r q) + ∑ k : Fin 1664, x0 (ix2 k r) * x1 (ix2 k q) := by
  rw [← pay1_at]
  pointwise [k0_pay4]

end Entry

/-! ## The blocks -/

theorem index_in : ∀ t : Fin cfg0.N, win0_0.index t = ![t.val % 5, 0] ∧ win0_1.index t = ![t.val % 5, t.val / 5] :=
  (by decide +kernel : ∀ t : Fin grid0.N, _)

variable (m : (ℓ : Loc nD τ sig) → Buf (Elt Ideal) ℓ) (c : Dev nD)

/-- The left argument and the cotangent. -/
def left : FVec Ideal S8320x1024 .f32 := m ((c.tc : Thread nD τ).loc main_arg0)
def cot : FVec Ideal S8320x5632 .f32 := m ((c.tc : Thread nD τ).loc main_arg1)

theorem entry_left : (V m c main_v0 : FVec Ideal S8320x1024 .bf16) = truncf .bf16 (left m c) := by
  show StableHlo.after hostOps0 _ _ = _
  after_results
  rfl
theorem entry_cot : (V m c main_v1 : FVec Ideal S8320x5632 .bf16) = truncf .bf16 (cot m c) := by
  show StableHlo.after hostOps0 _ _ = _
  after_results
  rfl

theorem point_lt (t : Fin cfg0.N) : t.val < 20 := lt_of_lt_of_eq t.isLt N_0

/-- The array's row and column of row `k` and column `q` of a point's blocks. -/
def rowOf (t : Fin cfg0.N) (k : Fin 1664) : Fin 8320 := ⟨t.val % 5 * 1664 + k.val, by have := k.isLt; omega⟩
def colOf (t : Fin cfg0.N) (q : Fin 1408) : Fin 5632 := ⟨t.val / 5 * 1408 + q.val, by have := point_lt t; have := q.isLt; omega⟩

/-- The two blocks a point multiplies. -/
def leftBlock (t : Fin cfg0.N) : Vec Ideal S1664x1024 .bf16 := iblk m c 0 t
def cotBlock (t : Fin cfg0.N) : Vec Ideal S1664x1408 .bf16 := iblk m c 1 t

theorem read_0 (t : Fin cfg0.N) (k : Fin 1664) (r : Fin 1024) : leftBlock m c t (ix2 k r) = left m c (ix2 (rowOf t k) r) := by
  have h : (iblk m c 0 t : Vec Ideal S1664x1024 .bf16) (ix2 k r) = (V m c main_v0 : FVec Ideal S8320x1024 .bf16) (ix2 (rowOf t k) r) := by
    blk_ext [iblk, index_in t, rowOf]
  refine h.trans ?_
  rw [entry_left]; rfl
theorem read_1 (t : Fin cfg0.N) (k : Fin 1664) (q : Fin 1408) : cotBlock m c t (ix2 k q) = cot m c (ix2 (rowOf t k) (colOf t q)) := by
  have h : (iblk m c 1 t : Vec Ideal S1664x1408 .bf16) (ix2 k q) = (V m c main_v1 : FVec Ideal S8320x5632 .bf16) (ix2 (rowOf t k) (colOf t q)) := by
    blk_ext [iblk, index_in t, rowOf, colOf]
  refine h.trans ?_
  rw [entry_cot]; rfl

/-- The terms of one entry of the product. -/
def terms (r : Fin 1024) (Q : Fin 5632) (k : Fin 8320) : EReal := left m c (ix2 k r) * cot m c (ix2 k Q)

/-- What a point's product adds to an entry: its block's sum. -/
theorem block_at (t : Fin cfg0.N) (r : Fin 1024) (q : Fin 1408) :
    ∑ k : Fin 1664, leftBlock m c t (ix2 k r) * cotBlock m c t (ix2 k q) = blockSum 1664 (terms m c r (colOf t q)) (t.val % 5) := by
  refine Finset.sum_congr rfl fun k _ => ?_
  exact (congrArg₂ (fun x y : EReal => x * y) (read_0 m c t k r) (read_1 m c t k q)).trans (ext_of_lt (terms m c r (colOf t q)) (rowOf t k).isLt).symm

/-! ## The accumulation -/

/-- Where the carried sum stands after point `s` of run `b`, the last point apart. -/
theorem carried_at (b : ℕ) (hb : b < 4) (r : Fin 1024) (q : Fin 1408) (Q : Fin 5632) (hQ : Q.val = b * 1408 + q.val) :
    ∀ (s : ℕ) (hs : s < 4) (h : 5 * b + s < cfg0.N),
      (outsAt0 m c (5 * b + s) h).2 (ix2 r q) = ∑ j ∈ Finset.range (s + 1), blockSum 1664 (terms m c r Q) j := by
  refine carried (fun n h => (outsAt0 m c n h).2 (ix2 r q)) (blockSum 1664 (terms m c r Q)) (5 * b) 4 (fun h => ?_) (fun s hs h h' => ?_)
  · have e : colOf ⟨5 * b + 0, h⟩ q = Q := Fin.ext (by show (5 * b + 0) / 5 * 1408 + _ = _; omega)
    rw [outsAt0_A m c ⟨5 * b + 0, h⟩ (by show (5 * b + 0) % 5 = 0; omega) (by show ¬(1 ≤ (5 * b + 0) % 5 ∧ _); omega) (by show ¬(5 * b + 0) % 5 = 4; omega)]
    dsimp only
    rw [first]
    refine (pay2_at _ _ r q).trans ((block_at m c ⟨5 * b + 0, h⟩ r q).trans ?_)
    rw [e, show (⟨5 * b + 0, h⟩ : Fin cfg0.N).val % 5 = 0 from Nat.mul_mod_right 5 b]
  · have e : colOf ⟨5 * b + (s + 1), h⟩ q = Q := Fin.ext (by show (5 * b + (s + 1)) / 5 * 1408 + _ = _; omega)
    have em : (5 * b + (s + 1)) % 5 = s + 1 := by omega
    rw [outsAt0_B m c ⟨5 * b + (s + 1), h⟩ (by show ¬(5 * b + (s + 1)) % 5 = 0; omega) (by show 1 ≤ (5 * b + (s + 1)) % 5 ∧ (5 * b + (s + 1)) % 5 ≤ 3; omega)
      (by show ¬(5 * b + (s + 1)) % 5 = 4; omega)]
    dsimp only
    rw [next]
    refine (pay3_at _ _ _ r q).trans (congrArg₂ (fun x y : EReal => x + y) rfl ((block_at m c ⟨5 * b + (s + 1), h⟩ r q).trans ?_))
    rw [e, show (⟨5 * b + (s + 1), h⟩ : Fin cfg0.N).val % 5 = s + 1 from em]

/-- What the last point of a run leaves for an entry: the entry of the product. -/
theorem out_at (b : ℕ) (hb : b < 4) (r : Fin 1024) (q : Fin 1408) (Q : Fin 5632) (hQ : Q.val = b * 1408 + q.val) (h : 5 * b + 4 < cfg0.N) :
    (outsAt0 m c (5 * b + 4) h).1 (ix2 r q) = ∑ k : Fin 8320, terms m c r Q k := by
  have e : colOf ⟨5 * b + 4, h⟩ q = Q := Fin.ext (by show (5 * b + 4) / 5 * 1408 + _ = _; omega)
  rw [outsAt0_C m c ⟨5 * b + 4, h⟩ (by show ¬(5 * b + 4) % 5 = 0; omega) (by show ¬(1 ≤ (5 * b + 4) % 5 ∧ (5 * b + 4) % 5 ≤ 3); omega) (by show (5 * b + 4) % 5 = 4; omega)]
  dsimp only
  rw [last]
  refine (pay4_at _ _ _ r q).trans ((congrArg₂ (fun x y : EReal => x + y)
    (carried_at m c b hb r q Q hQ 3 (by omega) (by omega)) (block_at m c ⟨5 * b + 4, h⟩ r q)).trans ?_)
  rw [e, show (⟨5 * b + 4, h⟩ : Fin cfg0.N).val % 5 = 4 from Nat.mul_add_mod 5 b 4, ← sum_blockSum 1664 5 (terms m c r Q) (by norm_num)]
  exact (Finset.sum_range_succ (fun j => blockSum 1664 (terms m c r Q) j) 4).symm

/-- The kernel's result array. -/
theorem result_at (r : Fin 1024) (Q : Fin 5632) :
    (G2 m c : FVec Ideal S1024x5632 .bf16) (ix2 r Q) = ∑ k : Fin 8320, left m c (ix2 k r) * cot m c (ix2 k Q) := by
  have hr := r.isLt
  have hQ := Q.isLt
  have hp : pt2Of (ix2 r Q) = 5 * (Q.val / 1408) + 4 := by
    show 5 * (4 * (r.val / 1024 - 0) + 1 * (Q.val / 1408 - 0)) + 4 = _
    omega
  have hb : 5 * (Q.val / 1408) + 4 < cfg0.N := lt_of_lt_of_eq (by omega) N_0.symm
  have hl : loc2Of (ix2 r Q) = ix2 r (⟨Q.val % 1408, by omega⟩ : Fin 1408) := by
    funext a; apply Fin.ext
    match a with
    | ⟨0, _⟩ => show r.val % 1024 = r.val; omega
    | ⟨1, _⟩ => rfl
  have ho := out_at m c (Q.val / 1408) (by omega) r ⟨Q.val % 1408, by omega⟩ Q (by show Q.val = Q.val / 1408 * 1408 + Q.val % 1408; omega) hb
  rw [outsAt0_sweep, fold0_congr m c _ _ (pt2Of (ix2 r Q)) (by rw [hp]; omega) hp.symm, ← hl] at ho
  refine Eq.trans ?_ ho
  unfold G2
  rw [dif_pos (by rw [hp]; exact hb)]

end Cert.Kernel7Ideal.Grad

/-! ## The claim -/

namespace Cert.UpWeightGrad

open Idealize.ShloMosaic Idealize.ShloMosaic.TcCoe Idealize.SL.Sem
open scoped BigOperators

section Reference

open Cert.Reference7Ideal Cert.Reference7Ideal.Gen

variable (m : (ℓ : Loc nD τ sig) → Buf (Elt Ideal) ℓ) (c : Dev nD)

theorem reference_at (x : FVec Ideal S8320x1024 .f32) (w : FVec Ideal S8320x5632 .f32) (r : Fin 1024) (Q : Fin 5632) :
    (truncf .bf16 (transpose S1024x5632 [1, 0] (Host.dotGeneral dot_S8320x5632_S8320x1024_S5632x1024_0_0_1_1_n_n none w x : FVec Ideal S5632x1024 .f32)
        transposes_S5632x1024_S1024x5632_1_0) bitsLt_bf16_f32 : FVec Ideal S1024x5632 .bf16) (ix2 r Q)
      = ∑ k : Fin 8320, x (ix2 k r) * w (ix2 k Q) := by
  have h : (truncf .bf16 (transpose S1024x5632 [1, 0] (Host.dotGeneral dot_S8320x5632_S8320x1024_S5632x1024_0_0_1_1_n_n none w x : FVec Ideal S5632x1024 .f32)
        transposes_S5632x1024_S1024x5632_1_0) bitsLt_bf16_f32 : FVec Ideal S1024x5632 .bf16) (ix2 r Q)
      = ∑ k : Fin 8320, w (ix2 k Q) * x (ix2 k r) := by
    pointwise
  exact h.trans (Finset.sum_congr rfl fun k _ => mul_comm _ _)

end Reference

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Value.G2 m c, Cert.Kernel7Ideal.Value.run m g, ?_⟩
  refine (θ_run Cert.Reference7Ideal.defs _ _).mono (fun r h c => ?_) (Cert.Reference7Ideal.Value.run m' g')
  obtain ⟨h0, hargs⟩ := h c
  obtain ⟨e0, e1⟩ := hagree c
  refine ⟨h0.trans ?_, hargs⟩
  rw [e0, e1]
  funext i
  rw [← ix2_eta i]
  exact (reference_at _ _ _ _).trans (Cert.Kernel7Ideal.Grad.result_at m c _ _).symm

end Cert.UpWeightGrad

end
-- ==== Proof.Product.DownForward.lean ====
/-
  The feed-forward layer's second product by blocks of rows: the kernel's result array is the product, entry by entry.
-/
module

public import proofs.«01_k».proof.Proof.Product.Offsets
public import proofs.«01_k».proof.Defs
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Forward

open Cert.Kernel8Ideal Cert.Kernel8Ideal.Gen Cert.Kernel8Ideal.Value Cert.Product
open Idealize.ShloMosaic Idealize.ShloMosaic.TcCoe Idealize.SL.Sem
open scoped BigOperators

/-! ## What a point leaves -/

theorem out_eq {F : FTy → Type} [FloatOps F] (x0 : Vec F S1040x2816 .bf16) (x1 : Vec F S2816x1024 .bf16) : out0_2 x0 x1 = k0_pay1 x0 x1 := by
  unfold out0_2
  rw [View.canon_unit_zero hz]
  simp only [View.ld_unit_zero (S := S1040x2816) hz, View.ld_unit_zero (S := S2816x1024) hz]

theorem pay1_at (x0 : Vec Ideal S1040x2816 .bf16) (x1 : Vec Ideal S2816x1024 .bf16) (r : Fin 1040) (q : Fin 1024) :
    k0_pay1 x0 x1 (ix2 r q) = ∑ k : Fin 2816, x0 (ix2 r k) * x1 (ix2 k q) := by
  pointwise [k0_pay1]

/-! ## The blocks -/

theorem index_at : ∀ t : Fin cfg0.N, win0_0.index t = ![t.val, 0] ∧ win0_1.index t = ![0, 0] ∧ win0_2.index t = ![t.val, 0] :=
  (by decide +kernel : ∀ t : Fin grid0.N, _)
theorem flush_at : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The two arguments. -/
def left : FVec Ideal S8320x2816 .f32 := m ((c.tc : Thread nD τ).loc main_arg0)
def right : FVec Ideal S2816x1024 .f32 := m ((c.tc : Thread nD τ).loc main_arg1)

theorem entry_left : (V m c main_v0 : FVec Ideal S8320x2816 .bf16) = truncf .bf16 (left m c) := by
  show StableHlo.after hostOps0 _ _ = _
  after_results
  rfl
theorem entry_right : (V m c main_v1 : FVec Ideal S2816x1024 .bf16) = truncf .bf16 (right m c) := by
  show StableHlo.after hostOps0 _ _ = _
  after_results
  rfl

theorem point_lt (t : Fin cfg0.N) : t.val < 8 := lt_of_lt_of_eq t.isLt N_0

def rowOf (t : Fin cfg0.N) (r : Fin 1040) : Fin 8320 := ⟨t.val * 1040 + r.val, by have := point_lt t; have := r.isLt; omega⟩

/-- The two blocks a point multiplies. -/
def leftBlock (t : Fin cfg0.N) : Vec Ideal S1040x2816 .bf16 := iblk m c 0 t
def rightBlock (t : Fin cfg0.N) : Vec Ideal S2816x1024 .bf16 := iblk m c 1 t

theorem read_0 (t : Fin cfg0.N) (r : Fin 1040) (k : Fin 2816) : leftBlock m c t (ix2 r k) = left m c (ix2 (rowOf t r) k) := by
  have h : (iblk m c 0 t : Vec Ideal S1040x2816 .bf16) (ix2 r k) = (V m c main_v0 : FVec Ideal S8320x2816 .bf16) (ix2 (rowOf t r) k) := by
    blk_ext [iblk, index_at t, rowOf]
  refine h.trans ?_
  rw [entry_left]; rfl
theorem read_1 (t : Fin cfg0.N) (k : Fin 2816) (q : Fin 1024) : rightBlock m c t (ix2 k q) = right m c (ix2 k q) := by
  have h : (iblk m c 1 t : Vec Ideal S2816x1024 .bf16) (ix2 k q) = (V m c main_v1 : FVec Ideal S2816x1024 .bf16) (ix2 k q) := by
    blk_ext [iblk, index_at t]
  refine h.trans ?_
  rw [entry_right]; rfl

/-! ## The result -/

/-- The product of the two arguments. -/
def prod : FVec Ideal S8320x1024 .f32 := fun i => ∑ k : Fin 2816, left m c (ix2 (i 0) k) * right m c (ix2 k (i 1))

theorem tile_at (t : Fin cfg0.N) (r : Fin 1040) (q : Fin 1024) :
    k0_pay1 (leftBlock m c t) (rightBlock m c t) (ix2 r q) = prod m c (ix2 (rowOf t r) q) := by
  rw [pay1_at]
  exact Finset.sum_congr rfl fun k _ => congrArg₂ (fun x y : EReal => x * y) (read_0 m c t r k) (read_1 m c t k q)

theorem covers : win0_2.Covers := by decide +kernel
theorem placed (t : Fin cfg0.N) (y : S1040x1024.Idx) : (win0_2.blk t).view.emb y = ix2 (rowOf t (y 0)) (y 1) := by
  blk_ext [index_at t, rowOf]

theorem flushed_eq (t : Fin cfg0.N) : (dats m 0 c).flushed 2 t = ((cfg0.win 2).blk t).view.read (Elt Ideal) (prod m c) := by
  rw [flushed2, out_eq]
  funext y
  show k0_pay1 (leftBlock m c t) (rightBlock m c t) y = prod m c ((win0_2.blk t).view.emb y)
  rw [placed]
  exact (congrArg (k0_pay1 (leftBlock m c t) (rightBlock m c t)) (ix2_eta (n0 := 1040) (n1 := 1024) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel8Ideal.Forward

/-! ## The claim -/

namespace Cert.DownForward

open Idealize.ShloMosaic Idealize.ShloMosaic.TcCoe Idealize.SL.Sem
open scoped BigOperators

section Reference

open Cert.Reference8Ideal Cert.Reference8Ideal.Gen

theorem reference_at (x : FVec Ideal S8320x2816 .f32) (w : FVec Ideal S2816x1024 .f32) (R : Fin 8320) (Q : Fin 1024) :
    (Host.dotGeneral dot_S8320x2816_S2816x1024_S8320x1024_1_0_0_1_n_n none x w : FVec Ideal S8320x1024 .f32) (ix2 R Q)
      = ∑ k : Fin 2816, x (ix2 R k) * w (ix2 k Q) := by
  pointwise

end Reference

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h0, hargs⟩ := h c
  obtain ⟨e0, e1⟩ := hagree c
  refine ⟨h0.trans ?_, hargs⟩
  rw [e0, e1]
  refine Eq.trans ?_ (Cert.Kernel8Ideal.Forward.result m c).symm
  funext i
  rw [← ix2_eta i]
  exact reference_at _ _ _ _

end Cert.DownForward

end
-- ==== Proof.Product.DownInputGrad.lean ====
/-
  The gradient of the feed-forward layer's second product in its left argument tile by tile, the contracted axis whole in
  every tile: the kernel's result array is that gradient, entry by entry.
-/
module

public import proofs.«01_k».proof.Proof.Product.Offsets
public import proofs.«01_k».proof.Defs
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Grad

open Cert.Kernel9Ideal Cert.Kernel9Ideal.Gen Cert.Kernel9Ideal.Value Cert.Product
open Idealize.ShloMosaic Idealize.ShloMosaic.TcCoe Idealize.SL.Sem
open scoped BigOperators

/-! ## What a point leaves -/

theorem out_eq {F : FTy → Type} [FloatOps F] (x0 : Vec F S1664x1024 .bf16) (x1 : Vec F S1408x1024 .bf16) : out0_2 x0 x1 = k0_pay1 x0 x1 := by
  unfold out0_2
  rw [View.canon_unit_zero hz]
  simp only [View.ld_unit_zero (S := S1664x1024) hz, View.ld_unit_zero (S := S1408x1024) hz]

theorem pay1_at (x0 : Vec Ideal S1664x1024 .bf16) (x1 : Vec Ideal S1408x1024 .bf16) (r : Fin 1664) (q : Fin 1408) :
    k0_pay1 x0 x1 (ix2 r q) = ∑ k : Fin 1024, x0 (ix2 r k) * x1 (ix2 q k) := by
  pointwise [k0_pay1]

/-! ## The blocks -/

theorem index_at : ∀ t : Fin cfg0.N, win0_0.index t = ![t.val / 2, 0] ∧ win0_1.index t = ![t.val % 2, 0] ∧ win0_2.index t = ![t.val / 2, t.val % 2] :=
  (by decide +kernel : ∀ t : Fin grid0.N, _)
theorem flush_at : ∀ t : Fin cfg0.N, (cfg0.win 2).flush t = true :=
  (by decide +kernel : ∀ t : Fin grid0.N, win0_2.flush t = true)

variable (m : (ℓ : Loc nD τ sig) → Buf (Elt Ideal) ℓ) (c : Dev nD)

/-- The cotangent and the weight. -/
def cot : FVec Ideal S8320x1024 .f32 := m ((c.tc : Thread nD τ).loc main_arg1)
def weight : FVec Ideal S2816x1024 .f32 := m ((c.tc : Thread nD τ).loc main_arg0)

theorem entry_cot : (V m c main_v0 : FVec Ideal S8320x1024 .bf16) = truncf .bf16 (cot m c) := by
  show StableHlo.after hostOps0 _ _ = _
  after_results
  rfl
theorem entry_weight : (V m c main_v1 : FVec Ideal S2816x1024 .bf16) = truncf .bf16 (weight m c) := by
  show StableHlo.after hostOps0 _ _ = _
  after_results
  rfl

theorem point_lt (t : Fin cfg0.N) : t.val < 10 := lt_of_lt_of_eq t.isLt N_0

def rowOf (t : Fin cfg0.N) (r : Fin 1664) : Fin 8320 := ⟨t.val / 2 * 1664 + r.val, by have := point_lt t; have := r.isLt; omega⟩
def colOf (t : Fin cfg0.N) (q : Fin 1408) : Fin 2816 := ⟨t.val % 2 * 1408 + q.val, by have := q.isLt; omega⟩

/-- The two blocks a point multiplies. -/
def cotBlock (t : Fin cfg0.N) : Vec Ideal S1664x1024 .bf16 := iblk m c 0 t
def weightBlock (t : Fin cfg0.N) : Vec Ideal S1408x1024 .bf16 := iblk m c 1 t

theorem read_0 (t : Fin cfg0.N) (r : Fin 1664) (k : Fin 1024) : cotBlock m c t (ix2 r k) = cot m c (ix2 (rowOf t r) k) := by
  have h : (iblk m c 0 t : Vec Ideal S1664x1024 .bf16) (ix2 r k) = (V m c main_v0 : FVec Ideal S8320x1024 .bf16) (ix2 (rowOf t r) k) := by
    blk_ext [iblk, index_at t, rowOf]
  refine h.trans ?_
  rw [entry_cot]; rfl
theorem read_1 (t : Fin cfg0.N) (q : Fin 1408) (k : Fin 1024) : weightBlock m c t (ix2 q k) = weight m c (ix2 (colOf t q) k) := by
  have h : (iblk m c 1 t : Vec Ideal S1408x1024 .bf16) (ix2 q k) = (V m c main_v1 : FVec Ideal S2816x1024 .bf16) (ix2 (colOf t q) k) := by
    blk_ext [iblk, index_at t, colOf]
  refine h.trans ?_
  rw [entry_weight]; rfl

/-! ## The result -/

/-- The gradient: the product of the cotangent and the transposed weight. -/
def prod : FVec Ideal S8320x2816 .bf16 := fun i => ∑ k : Fin 1024, cot m c (ix2 (i 0) k) * weight m c (ix2 (i 1) k)

theorem tile_at (t : Fin cfg0.N) (r : Fin 1664) (q : Fin 1408) :
    k0_pay1 (cotBlock m c t) (weightBlock m c t) (ix2 r q) = prod m c (ix2 (rowOf t r) (colOf t q)) := by
  rw [pay1_at]
  exact Finset.sum_congr rfl fun k _ => congrArg₂ (fun x y : EReal => x * y) (read_0 m c t r k) (read_1 m c t q k)

theorem covers : win0_2.Covers := by decide +kernel
theorem placed (t : Fin cfg0.N) (y : S1664x1408.Idx) : (win0_2.blk t).view.emb y = ix2 (rowOf t (y 0)) (colOf t (y 1)) := by
  blk_ext [index_at t, rowOf, colOf]

theorem flushed_eq (t : Fin cfg0.N) : (dats m 0 c).flushed 2 t = ((cfg0.win 2).blk t).view.read (Elt Ideal) (prod m c) := by
  rw [flushed2, out_eq]
  funext y
  show k0_pay1 (cotBlock m c t) (weightBlock m c t) y = prod m c ((win0_2.blk t).view.emb y)
  rw [placed]
  exact (congrArg (k0_pay1 (cotBlock m c t) (weightBlock m c t)) (ix2_eta (n0 := 1664) (n1 := 1408) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel9Ideal.Grad

/-! ## The claim -/

namespace Cert.DownInputGrad

open Idealize.ShloMosaic Idealize.ShloMosaic.TcCoe Idealize.SL.Sem
open scoped BigOperators

section Reference

open Cert.Reference9Ideal Cert.Reference9Ideal.Gen

theorem reference_at (x : FVec Ideal S8320x1024 .f32) (w : FVec Ideal S2816x1024 .f32) (R : Fin 8320) (Q : Fin 2816) :
    (truncf .bf16 (Host.dotGeneral dot_S8320x1024_S2816x1024_S8320x2816_1_1_0_0_n_n none x w : FVec Ideal S8320x2816 .f32) bitsLt_bf16_f32 : FVec Ideal S8320x2816 .bf16) (ix2 R Q)
      = ∑ k : Fin 1024, x (ix2 R k) * w (ix2 Q k) := by
  pointwise

end Reference

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, hargs⟩ := h c
  obtain ⟨e0, e1⟩ := hagree c
  refine ⟨h0.trans ?_, hargs⟩
  rw [e0, e1]
  refine Eq.trans ?_ (Cert.Kernel9Ideal.Grad.result m c).symm
  funext i
  rw [← ix2_eta i]
  exact reference_at _ _ _ _

end Cert.DownInputGrad

end
-- ==== Proof.Product.DownWeightGrad.lean ====
/-
  The gradient of a product in its right argument, accumulated over five blocks of the contracted axis: the kernel's
  result array is that product, entry by entry.
-/
module

public import proofs.«01_k».proof.Proof.Product.Offsets
public import proofs.«01_k».proof.Proof.Product.Carried
public import proofs.«01_k».proof.Defs
public import proofs.«01_k».proof.Proof.Gen.Kernel10Ideal.Value
public import proofs.«01_k».proof.Proof.Gen.Reference10Ideal
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Grad

open Cert.Kernel10Ideal Cert.Kernel10Ideal.Gen Cert.Kernel10Ideal.Value Cert.Product
open Idealize.ShloMosaic Idealize.ShloMosaic.TcCoe Idealize.SL.Sem
open scoped BigOperators

/-! ## What a point leaves -/

section Case

variable {F : FTy → Type} [FloatOps F]
variable (c : Dev nD) (i : grid0.Coords) (arg3 : Memref sig .tc .vmem S1664x1408 .bf16) (harg3 : arg3.IsWhole)
  (arg4 : Memref sig .tc .vmem S1664x1024 .bf16) (harg4 : arg4.IsWhole) (arg5 : Memref sig .tc .vmem S1408x1024 .bf16) (harg5 : arg5.IsWhole)
  (arg6 : Memref sig .tc .vmem S1408x1024 .f32) (harg6 : arg6.IsWhole)
  (x0 : Vec F S1664x1408 .bf16) (x1 : Vec F S1664x1024 .bf16) (xs : Vec F S1408x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  simp only [View.readAt_eq_ld, harg3.read_unread, harg4.read_unread, View.ld_unit_zero (S := S1664x1408) hz, View.ld_unit_zero (S := S1664x1024) hz]

theorem next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz]
  simp only [View.readAt_eq_ld, harg3.read_unread, harg4.read_unread, harg6.read_unread, View.ld_unit_zero (S := S1664x1408) hz,
    View.ld_unit_zero (S := S1664x1024) hz, View.ld_unit_zero (S := S1408x1024) hz]

theorem last (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz]
  simp only [View.readAt_eq_ld, harg3.read_unread, harg4.read_unread, harg6.read_unread, View.ld_unit_zero (S := S1664x1408) hz,
    View.ld_unit_zero (S := S1664x1024) hz, View.ld_unit_zero (S := S1408x1024) hz]

end Case

/-! ## The payloads at an entry -/

section Entry

variable (x0 : Vec Ideal S1664x1408 .bf16) (x1 : Vec Ideal S1664x1024 .bf16) (xs : Vec Ideal S1408x1024 .f32)
  (r : Fin 1408) (q : Fin 1024)

theorem pay1_at : k0_pay1 x0 x1 (ix2 r q) = ∑ k : Fin 1664, x0 (ix2 k r) * x1 (ix2 k q) := by
  pointwise [k0_pay1]
theorem pay2_at : k0_pay2 x0 x1 (ix2 r q) = ∑ k : Fin 1664, x0 (ix2 k r) * x1 (ix2 k q) := by
  rw [← pay1_at]
  pointwise [k0_pay2]
theorem pay3_at : k0_pay3 x0 x1 xs (ix2 r q) = xs (ix2 r q) + ∑ k : Fin 1664, x0 (ix2 k r) * x1 (ix2 k q) := by
  rw [← pay1_at]
  pointwise [k0_pay3]
theorem pay4_at : k0_pay4 x0 x1 xs (ix2 r q) = xs (ix2 r q) + ∑ k : Fin 1664, x0 (ix2 k r) * x1 (ix2 k q) := by
  rw [← pay1_at]
  pointwise [k0_pay4]

end Entry

/-! ## The blocks -/

theorem index_in : ∀ t : Fin cfg0.N, win0_0.index t = ![t.val % 5, t.val / 5] ∧ win0_1.index t = ![t.val % 5, 0] :=
  (by decide +kernel : ∀ t : Fin grid0.N, _)

variable (m : (ℓ : Loc nD τ sig) → Buf (Elt Ideal) ℓ) (c : Dev nD)

/-- The left argument and the cotangent. -/
def left : FVec Ideal S8320x2816 .f32 := m ((c.tc : Thread nD τ).loc main_arg0)
def cot : FVec Ideal S8320x1024 .f32 := m ((c.tc : Thread nD τ).loc main_arg1)

theorem entry_left : (V m c main_v0 : FVec Ideal S8320x2816 .bf16) = truncf .bf16 (left m c) := by
  show StableHlo.after hostOps0 _ _ = _
  after_results
  rfl
theorem entry_cot : (V m c main_v1 : FVec Ideal S8320x1024 .bf16) = truncf .bf16 (cot m c) := by
  show StableHlo.after hostOps0 _ _ = _
  after_results
  rfl

theorem point_lt (t : Fin cfg0.N) : t.val < 10 := lt_of_lt_of_eq t.isLt N_0

/-- The array's row and column of row `k` and column `r` of a point's left block. -/
def rowOf (t : Fin cfg0.N) (k : Fin 1664) : Fin 8320 := ⟨t.val % 5 * 1664 + k.val, by have := k.isLt; omega⟩
def colOf (t : Fin cfg0.N) (r : Fin 1408) : Fin 2816 := ⟨t.val / 5 * 1408 + r.val, by have := point_lt t; have := r.isLt; omega⟩

/-- The two blocks a point multiplies. -/
def leftBlock (t : Fin cfg0.N) : Vec Ideal S1664x1408 .bf16 := iblk m c 0 t
def cotBlock (t : Fin cfg0.N) : Vec Ideal S1664x1024 .bf16 := iblk m c 1 t

theorem read_0 (t : Fin cfg0.N) (k : Fin 1664) (r : Fin 1408) : leftBlock m c t (ix2 k r) = left m c (ix2 (rowOf t k) (colOf t r)) := by
  have h : (iblk m c 0 t : Vec Ideal S1664x1408 .bf16) (ix2 k r) = (V m c main_v0 : FVec Ideal S8320x2816 .bf16) (ix2 (rowOf t k) (colOf t r)) := by
    blk_ext [iblk, index_in t, rowOf, colOf]
  refine h.trans ?_
  rw [entry_left]; rfl
theorem read_1 (t : Fin cfg0.N) (k : Fin 1664) (q : Fin 1024) : cotBlock m c t (ix2 k q) = cot m c (ix2 (rowOf t k) q) := by
  have h : (iblk m c 1 t : Vec Ideal S1664x1024 .bf16) (ix2 k q) = (V m c main_v1 : FVec Ideal S8320x1024 .bf16) (ix2 (rowOf t k) q) := by
    blk_ext [iblk, index_in t, rowOf]
  refine h.trans ?_
  rw [entry_cot]; rfl

/-- The terms of one entry of the product. -/
def terms (R : Fin 2816) (q : Fin 1024) (k : Fin 8320) : EReal := left m c (ix2 k R) * cot m c (ix2 k q)

/-- What a point's product adds to an entry: its block's sum. -/
theorem block_at (t : Fin cfg0.N) (r : Fin 1408) (q : Fin 1024) :
    ∑ k : Fin 1664, leftBlock m c t (ix2 k r) * cotBlock m c t (ix2 k q) = blockSum 1664 (terms m c (colOf t r) q) (t.val % 5) := by
  refine Finset.sum_congr rfl fun k _ => ?_
  exact (congrArg₂ (fun x y : EReal => x * y) (read_0 m c t k r) (read_1 m c t k q)).trans (ext_of_lt (terms m c (colOf t r) q) (rowOf t k).isLt).symm

/-! ## The accumulation -/

/-- Where the carried sum stands after point `s` of run `b`, the last point apart. -/
theorem carried_at (b : ℕ) (hb : b < 2) (r : Fin 1408) (q : Fin 1024) (R : Fin 2816) (hR : R.val = b * 1408 + r.val) :
    ∀ (s : ℕ) (hs : s < 4) (h : 5 * b + s < cfg0.N),
      (outsAt0 m c (5 * b + s) h).2 (ix2 r q) = ∑ j ∈ Finset.range (s + 1), blockSum 1664 (terms m c R q) j := by
  refine carried (fun n h => (outsAt0 m c n h).2 (ix2 r q)) (blockSum 1664 (terms m c R q)) (5 * b) 4 (fun h => ?_) (fun s hs h h' => ?_)
  · have e : colOf ⟨5 * b + 0, h⟩ r = R := Fin.ext (by show (5 * b + 0) / 5 * 1408 + _ = _; omega)
    rw [outsAt0_A m c ⟨5 * b + 0, h⟩ (by show (5 * b + 0) % 5 = 0; omega) (by show ¬(1 ≤ (5 * b + 0) % 5 ∧ _); omega) (by show ¬(5 * b + 0) % 5 = 4; omega)]
    dsimp only
    rw [first]
    refine (pay2_at _ _ r q).trans ((block_at m c ⟨5 * b + 0, h⟩ r q).trans ?_)
    rw [e, show (⟨5 * b + 0, h⟩ : Fin cfg0.N).val % 5 = 0 from Nat.mul_mod_right 5 b]
  · have e : colOf ⟨5 * b + (s + 1), h⟩ r = R := Fin.ext (by show (5 * b + (s + 1)) / 5 * 1408 + _ = _; omega)
    have em : (5 * b + (s + 1)) % 5 = s + 1 := by omega
    rw [outsAt0_B m c ⟨5 * b + (s + 1), h⟩ (by show ¬(5 * b + (s + 1)) % 5 = 0; omega) (by show 1 ≤ (5 * b + (s + 1)) % 5 ∧ (5 * b + (s + 1)) % 5 ≤ 3; omega)
      (by show ¬(5 * b + (s + 1)) % 5 = 4; omega)]
    dsimp only
    rw [next]
    refine (pay3_at _ _ _ r q).trans (congrArg₂ (fun x y : EReal => x + y) rfl ((block_at m c ⟨5 * b + (s + 1), h⟩ r q).trans ?_))
    rw [e, show (⟨5 * b + (s + 1), h⟩ : Fin cfg0.N).val % 5 = s + 1 from em]

/-- What the last point of a run leaves for an entry: the entry of the product. -/
theorem out_at (b : ℕ) (hb : b < 2) (r : Fin 1408) (q : Fin 1024) (R : Fin 2816) (hR : R.val = b * 1408 + r.val) (h : 5 * b + 4 < cfg0.N) :
    (outsAt0 m c (5 * b + 4) h).1 (ix2 r q) = ∑ k : Fin 8320, terms m c R q k := by
  have e : colOf ⟨5 * b + 4, h⟩ r = R := Fin.ext (by show (5 * b + 4) / 5 * 1408 + _ = _; omega)
  rw [outsAt0_C m c ⟨5 * b + 4, h⟩ (by show ¬(5 * b + 4) % 5 = 0; omega) (by show ¬(1 ≤ (5 * b + 4) % 5 ∧ (5 * b + 4) % 5 ≤ 3); omega) (by show (5 * b + 4) % 5 = 4; omega)]
  dsimp only
  rw [last]
  refine (pay4_at _ _ _ r q).trans ((congrArg₂ (fun x y : EReal => x + y)
    (carried_at m c b hb r q R hR 3 (by omega) (by omega)) (block_at m c ⟨5 * b + 4, h⟩ r q)).trans ?_)
  rw [e, show (⟨5 * b + 4, h⟩ : Fin cfg0.N).val % 5 = 4 from Nat.mul_add_mod 5 b 4, ← sum_blockSum 1664 5 (terms m c R q) (by norm_num)]
  exact (Finset.sum_range_succ (fun j => blockSum 1664 (terms m c R q) j) 4).symm

/-- The kernel's result array. -/
theorem result_at (R : Fin 2816) (q : Fin 1024) :
    (G2 m c : FVec Ideal S2816x1024 .bf16) (ix2 R q) = ∑ k : Fin 8320, left m c (ix2 k R) * cot m c (ix2 k q) := by
  have hR := R.isLt
  have hq := q.isLt
  have hp : pt2Of (ix2 R q) = 5 * (R.val / 1408) + 4 := by
    show 5 * (1 * (R.val / 1408 - 0) + 1 * (q.val / 1024 - 0)) + 4 = _
    omega
  have hb : 5 * (R.val / 1408) + 4 < cfg0.N := lt_of_lt_of_eq (by omega) N_0.symm
  have hl : loc2Of (ix2 R q) = ix2 (⟨R.val % 1408, by omega⟩ : Fin 1408) q := by
    funext a; apply Fin.ext
    match a with
    | ⟨0, _⟩ => rfl
    | ⟨1, _⟩ => show q.val % 1024 = q.val; omega
  have ho := out_at m c (R.val / 1408) (by omega) ⟨R.val % 1408, by omega⟩ q R (by show R.val = R.val / 1408 * 1408 + R.val % 1408; omega) hb
  rw [outsAt0_sweep, fold0_congr m c _ _ (pt2Of (ix2 R q)) (by rw [hp]; omega) hp.symm, ← hl] at ho
  refine Eq.trans ?_ ho
  unfold G2
  rw [dif_pos (by rw [hp]; exact hb)]

end Cert.Kernel10Ideal.Grad

/-! ## The claim -/

namespace Cert.DownWeightGrad

open Idealize.ShloMosaic Idealize.ShloMosaic.TcCoe Idealize.SL.Sem
open scoped BigOperators

section Reference

open Cert.Reference10Ideal Cert.Reference10Ideal.Gen

variable (m : (ℓ : Loc nD τ sig) → Buf (Elt Ideal) ℓ) (c : Dev nD)

theorem reference_at (x : FVec Ideal S8320x2816 .f32) (w : FVec Ideal S8320x1024 .f32) (R : Fin 2816) (q : Fin 1024) :
    (truncf .bf16 (transpose S2816x1024 [1, 0] (Host.dotGeneral dot_S8320x1024_S8320x2816_S1024x2816_0_0_1_1_n_n none w x : FVec Ideal S1024x2816 .f32)
        transposes_S1024x2816_S2816x1024_1_0) bitsLt_bf16_f32 : FVec Ideal S2816x1024 .bf16) (ix2 R q)
      = ∑ k : Fin 8320, x (ix2 k R) * w (ix2 k q) := by
  have h : (truncf .bf16 (transpose S2816x1024 [1, 0] (Host.dotGeneral dot_S8320x1024_S8320x2816_S1024x2816_0_0_1_1_n_n none w x : FVec Ideal S1024x2816 .f32)
        transposes_S1024x2816_S2816x1024_1_0) bitsLt_bf16_f32 : FVec Ideal S2816x1024 .bf16) (ix2 R q)
      = ∑ k : Fin 8320, w (ix2 k q) * x (ix2 k R) := by
    pointwise
  exact h.trans (Finset.sum_congr rfl fun k _ => mul_comm _ _)

end Reference

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Kernel10Ideal.Value.G2 m c, Cert.Kernel10Ideal.Value.run m g, ?_⟩
  refine (θ_run Cert.Reference10Ideal.defs _ _).mono (fun r h c => ?_) (Cert.Reference10Ideal.Value.run m' g')
  obtain ⟨h0, hargs⟩ := h c
  obtain ⟨e0, e1⟩ := hagree c
  refine ⟨h0.trans ?_, hargs⟩
  rw [e0, e1]
  funext i
  rw [← ix2_eta i]
  exact (reference_at _ _ _ _).trans (Cert.Kernel10Ideal.Grad.result_at m c _ _).symm

end Cert.DownWeightGrad

end
-- ==== Proof.Product.OutForward.lean ====
/-
  The attention's output projection by blocks of rows: the kernel's result array is the product, entry by entry.
-/
module

public import proofs.«01_k».proof.Proof.Product.Offsets
public import proofs.«01_k».proof.Proof.Product.Carried
public import proofs.«01_k».proof.Defs
public import proofs.«01_k».proof.Proof.Gen.Kernel11Ideal.Value
public import proofs.«01_k».proof.Proof.Gen.Reference11Ideal
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Forward

open Cert.Kernel11Ideal Cert.Kernel11Ideal.Gen Cert.Kernel11Ideal.Value Cert.Product
open Idealize.ShloMosaic Idealize.ShloMosaic.TcCoe Idealize.SL.Sem
open scoped BigOperators

/-- What a point leaves. -/
theorem out_eq {F : FTy → Type} [FloatOps F] (x0 : Vec F S1664x1024 .f32) (x1 : Vec F S1024x1024 .bf16) : out0_2 x0 x1 = k0_pay1 x0 x1 := by
  unfold out0_2
  rw [View.canon_unit_zero hz]
  simp only [View.ld_unit_zero (S := S1664x1024) hz, View.ld_unit_zero (S := S1024x1024) hz]
theorem pay1_at (x0 : Vec Ideal S1664x1024 .f32) (x1 : Vec Ideal S1024x1024 .bf16) (r : Fin 1664) (q : Fin 1024) :
    k0_pay1 x0 x1 (ix2 r q) = ∑ k : Fin 1024, x0 (ix2 r k) * x1 (ix2 k q) := by
  pointwise [k0_pay1]

theorem index_at : ∀ t : Fin cfg0.N, win0_0.index t = ![t.val, 0] ∧ win0_1.index t = ![0, 0] ∧ win0_2.index t = ![t.val, 0] :=
  (by decide +kernel : ∀ t : Fin grid0.N, _)
theorem covers : win0_2.Covers := by decide +kernel

def rowOf (t : Fin cfg0.N) (r : Fin 1664) : Fin 8320 :=
  ⟨t.val * 1664 + r.val, by have : t.val < 5 := lt_of_lt_of_eq t.isLt N_0; have := r.isLt; omega⟩

variable (m : (ℓ : Loc nD τ sig) → Buf (Elt Ideal) ℓ) (c : Dev nD)

/-- The two arguments. -/
def left : FVec Ideal S8320x1024 .f32 := m ((c.tc : Thread nD τ).loc main_arg0)
def right : FVec Ideal S1024x1024 .f32 := m ((c.tc : Thread nD τ).loc main_arg1)

theorem entry_left : (V m c main_arg0 : FVec Ideal S8320x1024 .f32) = left m c := V_main_arg0 m c
theorem entry_right : (V m c main_v0 : FVec Ideal S1024x1024 .bf16) = right m c := by
  show StableHlo.after hostOps0 _ _ = _
  after_results
  rfl

/-- The two blocks a point multiplies. -/
theorem read_0 (t : Fin cfg0.N) (r : Fin 1664) (k : Fin 1024) : (iblk m c 0 t : Vec Ideal S1664x1024 .f32) (ix2 r k) = left m c (ix2 (rowOf t r) k) := by
  rw [← entry_left]
  blk_ext [iblk, index_at t, rowOf]
theorem read_1 (t : Fin cfg0.N) (k q : Fin 1024) : (iblk m c 1 t : Vec Ideal S1024x1024 .bf16) (ix2 k q) = right m c (ix2 k q) := by
  rw [← entry_right]
  blk_ext [iblk, index_at t]

/-- The product of the two arguments. -/
def prod : FVec Ideal S8320x1024 .f32 := fun i => ∑ k : Fin 1024, left m c (ix2 (i 0) k) * right m c (ix2 k (i 1))

theorem tile_at (t : Fin cfg0.N) (r : Fin 1664) (q : Fin 1024) :
    k0_pay1 (iblk m c 0 t : Vec Ideal S1664x1024 .f32) (iblk m c 1 t : Vec Ideal S1024x1024 .bf16) (ix2 r q) = prod m c (ix2 (rowOf t r) q) :=
  (pay1_at _ _ r q).trans (sum_mul_congr (read_0 m c t r) (read_1 m c t · q))

theorem placed (t : Fin cfg0.N) (y : S1664x1024.Idx) : (win0_2.blk t).view.emb y = ix2 (rowOf t (y 0)) (y 1) := by
  blk_ext [index_at t, rowOf]

theorem flushed_eq (t : Fin cfg0.N) : (dats m 0 c).flushed 2 t = ((cfg0.win 2).blk t).view.read (Elt Ideal) (prod m c) := by
  rw [flushed2, out_eq]
  funext y
  show k0_pay1 (iblk m c 0 t : Vec Ideal S1664x1024 .f32) (iblk m c 1 t : Vec Ideal S1024x1024 .bf16) y = prod m c ((win0_2.blk t).view.emb y)
  rw [placed]
  exact (congrArg (k0_pay1 _ _) (ix2_eta (n0 := 1664) (n1 := 1024) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel11Ideal.Forward

/-! ## The claim -/

namespace Cert.OutForward

open Idealize.ShloMosaic Idealize.ShloMosaic.TcCoe Idealize.SL.Sem
open scoped BigOperators

section Reference

open Cert.Reference11Ideal Cert.Reference11Ideal.Gen

theorem reference_at (x : FVec Ideal S8320x1024 .f32) (w : FVec Ideal S1024x1024 .f32) (R : Fin 8320) (Q : Fin 1024) :
    (Host.dotGeneral dot_S8320x1024_S1024x1024_S8320x1024_1_0_0_1_n_n none x w : FVec Ideal S8320x1024 .f32) (ix2 R Q)
      = ∑ k : Fin 1024, x (ix2 R k) * w (ix2 k Q) := by
  pointwise

end Reference

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h0, hargs⟩ := h c
  obtain ⟨e0, e1⟩ := hagree c
  refine ⟨h0.trans ?_, hargs⟩
  rw [e0, e1]
  refine Eq.trans ?_ (Cert.Kernel11Ideal.Forward.result m c).symm
  funext i
  rw [← ix2_eta i]
  exact reference_at _ _ _ _

end Cert.OutForward

end
-- ==== Proof.Product.OutInputGrad.lean ====
/-
  The gradient of the attention's output projection in the heads' outputs, by blocks of rows: the kernel's result array is
  the product of the cotangent and the transposed weight, entry by entry.
-/
module

public import proofs.«01_k».proof.Proof.Product.Offsets
public import proofs.«01_k».proof.Proof.Product.Carried
public import proofs.«01_k».proof.Defs
public import proofs.«01_k».proof.Proof.Gen.Kernel12Ideal.Value
public import proofs.«01_k».proof.Proof.Gen.Reference12Ideal
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Grad

open Cert.Kernel12Ideal Cert.Kernel12Ideal.Gen Cert.Kernel12Ideal.Value Cert.Product
open Idealize.ShloMosaic Idealize.ShloMosaic.TcCoe Idealize.SL.Sem
open scoped BigOperators

/-- What a point leaves. -/
theorem out_eq {F : FTy → Type} [FloatOps F] (x0 : Vec F S1664x1024 .bf16) (x1 : Vec F S1024x1024 .bf16) : out0_2 x0 x1 = k0_pay1 x0 x1 := by
  unfold out0_2
  rw [View.canon_unit_zero hz]
  simp only [View.ld_unit_zero (S := S1664x1024) hz, View.ld_unit_zero (S := S1024x1024) hz]
theorem pay1_at (x0 : Vec Ideal S1664x1024 .bf16) (x1 : Vec Ideal S1024x1024 .bf16) (r : Fin 1664) (q : Fin 1024) :
    k0_pay1 x0 x1 (ix2 r q) = ∑ k : Fin 1024, x0 (ix2 r k) * x1 (ix2 q k) := by
  pointwise [k0_pay1]

theorem index_at : ∀ t : Fin cfg0.N, win0_0.index t = ![t.val, 0] ∧ win0_1.index t = ![0, 0] ∧ win0_2.index t = ![t.val, 0] :=
  (by decide +kernel : ∀ t : Fin grid0.N, _)
theorem covers : win0_2.Covers := by decide +kernel

def rowOf (t : Fin cfg0.N) (r : Fin 1664) : Fin 8320 :=
  ⟨t.val * 1664 + r.val, by have : t.val < 5 := lt_of_lt_of_eq t.isLt N_0; have := r.isLt; omega⟩

variable (m : (ℓ : Loc nD τ sig) → Buf (Elt Ideal) ℓ) (c : Dev nD)

/-- The weight and the cotangent. -/
def weight : FVec Ideal S1024x1024 .f32 := m ((c.tc : Thread nD τ).loc main_arg0)
def cot : FVec Ideal S8320x1024 .f32 := m ((c.tc : Thread nD τ).loc main_arg1)

theorem entry_cot : (V m c main_v0 : FVec Ideal S8320x1024 .bf16) = cot m c := by
  show StableHlo.after hostOps0 _ _ = _
  after_results
  rfl
theorem entry_weight : (V m c main_v1 : FVec Ideal S1024x1024 .bf16) = weight m c := by
  show StableHlo.after hostOps0 _ _ = _
  after_results
  rfl

/-- The two blocks a point multiplies. -/
theorem read_0 (t : Fin cfg0.N) (r : Fin 1664) (k : Fin 1024) : (iblk m c 0 t : Vec Ideal S1664x1024 .bf16) (ix2 r k) = cot m c (ix2 (rowOf t r) k) := by
  rw [← entry_cot]
  blk_ext [iblk, index_at t, rowOf]
theorem read_1 (t : Fin cfg0.N) (q k : Fin 1024) : (iblk m c 1 t : Vec Ideal S1024x1024 .bf16) (ix2 q k) = weight m c (ix2 q k) := by
  rw [← entry_weight]
  blk_ext [iblk, index_at t]

/-- The gradient. -/
def prod : FVec Ideal S8320x1024 .f32 := fun i => ∑ k : Fin 1024, cot m c (ix2 (i 0) k) * weight m c (ix2 (i 1) k)

theorem tile_at (t : Fin cfg0.N) (r : Fin 1664) (q : Fin 1024) :
    k0_pay1 (iblk m c 0 t : Vec Ideal S1664x1024 .bf16) (iblk m c 1 t : Vec Ideal S1024x1024 .bf16) (ix2 r q) = prod m c (ix2 (rowOf t r) q) :=
  (pay1_at _ _ r q).trans (sum_mul_congr (read_0 m c t r) (read_1 m c t q))

theorem placed (t : Fin cfg0.N) (y : S1664x1024.Idx) : (win0_2.blk t).view.emb y = ix2 (rowOf t (y 0)) (y 1) := by
  blk_ext [index_at t, rowOf]

theorem flushed_eq (t : Fin cfg0.N) : (dats m 0 c).flushed 2 t = ((cfg0.win 2).blk t).view.read (Elt Ideal) (prod m c) := by
  rw [flushed2, out_eq]
  funext y
  show k0_pay1 (iblk m c 0 t : Vec Ideal S1664x1024 .bf16) (iblk m c 1 t : Vec Ideal S1024x1024 .bf16) y = prod m c ((win0_2.blk t).view.emb y)
  rw [placed]
  exact (congrArg (k0_pay1 _ _) (ix2_eta (n0 := 1664) (n1 := 1024) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel12Ideal.Grad

/-! ## The claim -/

namespace Cert.OutInputGrad

open Idealize.ShloMosaic Idealize.ShloMosaic.TcCoe Idealize.SL.Sem
open scoped BigOperators

section Reference

open Cert.Reference12Ideal Cert.Reference12Ideal.Gen

theorem reference_at (x : FVec Ideal S8320x1024 .f32) (w : FVec Ideal S1024x1024 .f32) (R : Fin 8320) (Q : Fin 1024) :
    (Host.dotGeneral dot_S8320x1024_S1024x1024_S8320x1024_1_1_0_0_n_n none x w : FVec Ideal S8320x1024 .f32) (ix2 R Q)
      = ∑ k : Fin 1024, x (ix2 R k) * w (ix2 Q k) := by
  pointwise

end Reference

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h0, hargs⟩ := h c
  obtain ⟨e0, e1⟩ := hagree c
  refine ⟨h0.trans ?_, hargs⟩
  rw [e0, e1]
  refine Eq.trans ?_ (Cert.Kernel12Ideal.Grad.result m c).symm
  funext i
  rw [← ix2_eta i]
  exact reference_at _ _ _ _

end Cert.OutInputGrad

end
-- ==== Proof.Product.OutWeightGrad.lean ====
/-
  The gradient of the attention's output projection in the weight, accumulated over five blocks of the rows: the kernel's
  result array is the product of the transposed rows and the cotangent, entry by entry.
-/
module

public import proofs.«01_k».proof.Proof.Product.Offsets
public import proofs.«01_k».proof.Proof.Product.Carried
public import proofs.«01_k».proof.Defs
public import proofs.«01_k».proof.Proof.Gen.Kernel13Ideal.Value
public import proofs.«01_k».proof.Proof.Gen.Reference13Ideal
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Grad

open Cert.Kernel13Ideal Cert.Kernel13Ideal.Gen Cert.Kernel13Ideal.Value Cert.Product
open Idealize.ShloMosaic Idealize.ShloMosaic.TcCoe Idealize.SL.Sem
open scoped BigOperators

/-! ## What a point leaves: the first, the next ones, the last -/

section Case

variable {F : FTy → Type} [FloatOps F]
variable (c : Dev nD) (i : grid0.Coords) (arg3 : Memref sig .tc .vmem S1664x1024 .f32) (harg3 : arg3.IsWhole)
  (arg4 : Memref sig .tc .vmem S1664x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec F S1664x1024 .f32) (x1 : Vec F S1664x1024 .bf16) (xs : Vec F S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  simp only [View.readAt_eq_ld, harg3.read_unread, harg4.read_unread, View.ld_unit_zero (S := S1664x1024) hz]

theorem next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz]
  simp only [View.readAt_eq_ld, harg3.read_unread, harg4.read_unread, harg6.read_unread, View.ld_unit_zero (S := S1664x1024) hz,
    View.ld_unit_zero (S := S1024x1024) hz]

theorem last (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz]
  simp only [View.readAt_eq_ld, harg3.read_unread, harg4.read_unread, harg6.read_unread, View.ld_unit_zero (S := S1664x1024) hz,
    View.ld_unit_zero (S := S1024x1024) hz]

end Case

section Entry

variable (x0 : Vec Ideal S1664x1024 .f32) (x1 : Vec Ideal S1664x1024 .bf16) (xs : Vec Ideal S1024x1024 .f32) (r q : Fin 1024)

theorem pay1_at : k0_pay1 x0 x1 (ix2 r q) = ∑ k : Fin 1664, x0 (ix2 k r) * x1 (ix2 k q) := by
  pointwise [k0_pay1]
theorem pay2_at : k0_pay2 x0 x1 (ix2 r q) = ∑ k : Fin 1664, x0 (ix2 k r) * x1 (ix2 k q) := by
  rw [← pay1_at]
  pointwise [k0_pay2]
theorem pay3_at : k0_pay3 x0 x1 xs (ix2 r q) = xs (ix2 r q) + ∑ k : Fin 1664, x0 (ix2 k r) * x1 (ix2 k q) := by
  rw [← pay1_at]
  pointwise [k0_pay3]
theorem pay4_at : k0_pay4 x0 x1 xs (ix2 r q) = xs (ix2 r q) + ∑ k : Fin 1664, x0 (ix2 k r) * x1 (ix2 k q) := by
  rw [← pay1_at]
  pointwise [k0_pay4]

end Entry

/-! ## The blocks: point `t` takes the `t`th rows of both arrays -/

theorem index_in : ∀ t : Fin cfg0.N, win0_0.index t = ![t.val, 0] ∧ win0_1.index t = ![t.val, 0] :=
  (by decide +kernel : ∀ t : Fin grid0.N, _)

def rowOf (t : Fin cfg0.N) (k : Fin 1664) : Fin 8320 :=
  ⟨t.val * 1664 + k.val, by have : t.val < 5 := lt_of_lt_of_eq t.isLt N_0; have := k.isLt; omega⟩

variable (m : (ℓ : Loc nD τ sig) → Buf (Elt Ideal) ℓ) (c : Dev nD)

/-- The rows and the cotangent. -/
def left : FVec Ideal S8320x1024 .f32 := m ((c.tc : Thread nD τ).loc main_arg0)
def cot : FVec Ideal S8320x1024 .f32 := m ((c.tc : Thread nD τ).loc main_arg1)

theorem entry_left : (V m c main_arg0 : FVec Ideal S8320x1024 .f32) = left m c := V_main_arg0 m c
theorem entry_cot : (V m c main_v0 : FVec Ideal S8320x1024 .bf16) = cot m c := by
  show StableHlo.after hostOps0 _ _ = _
  after_results
  rfl

def leftBlock (t : Fin cfg0.N) : Vec Ideal S1664x1024 .f32 := iblk m c 0 t
def cotBlock (t : Fin cfg0.N) : Vec Ideal S1664x1024 .bf16 := iblk m c 1 t

theorem read_0 (t : Fin cfg0.N) (k : Fin 1664) (r : Fin 1024) : leftBlock m c t (ix2 k r) = left m c (ix2 (rowOf t k) r) := by
  rw [← entry_left, leftBlock]
  blk_ext [iblk, index_in t, rowOf]
theorem read_1 (t : Fin cfg0.N) (k : Fin 1664) (q : Fin 1024) : cotBlock m c t (ix2 k q) = cot m c (ix2 (rowOf t k) q) := by
  rw [← entry_cot, cotBlock]
  blk_ext [iblk, index_in t, rowOf]

/-- The terms of one entry of the product. -/
def terms (r q : Fin 1024) (k : Fin 8320) : EReal := left m c (ix2 k r) * cot m c (ix2 k q)

/-- What point `s` adds to an entry: its block's sum. -/
theorem block_at (t : Fin cfg0.N) (s : ℕ) (hs : t.val = s) (r q : Fin 1024) :
    ∑ k : Fin 1664, leftBlock m c t (ix2 k r) * cotBlock m c t (ix2 k q) = blockSum 1664 (terms m c r q) s :=
  sum_eq_blockSum (rowOf t) (fun k => by rw [← hs]; rfl) fun k => by rw [read_0, read_1]; rfl

/-! ## The accumulation -/

/-- What the last point leaves for an entry. -/
theorem out_at (r q : Fin 1024) (h : 0 + 4 < cfg0.N) : (outsAt0 m c (0 + 4) h).1 (ix2 r q) = ∑ k : Fin 8320, terms m c r q k := by
  refine swept 1664 3 (terms m c r q) (by norm_num) (fun n h => (outsAt0 m c n h).2 (ix2 r q)) _ 0 h (fun h => ?_) (fun s hs h _ => ?_) (fun _ => ?_)
  · rw [outsAt0_A m c ⟨0 + 0, h⟩ (by show (0 + 0) % 5 = 0; omega) (by show ¬(1 ≤ (0 + 0) % 5 ∧ _); omega) (by show ¬(0 + 0) % 5 = 4; omega)]
    dsimp only
    rw [first]
    exact (pay2_at _ _ r q).trans (block_at m c ⟨0 + 0, h⟩ 0 rfl r q)
  · rw [outsAt0_B m c ⟨0 + (s + 1), h⟩ (by show ¬(0 + (s + 1)) % 5 = 0; omega) (by show 1 ≤ (0 + (s + 1)) % 5 ∧ (0 + (s + 1)) % 5 ≤ 3; omega)
      (by show ¬(0 + (s + 1)) % 5 = 4; omega)]
    dsimp only
    rw [next]
    exact (pay3_at _ _ _ r q).trans (congrArg₂ (fun x y : EReal => x + y) rfl (block_at m c ⟨0 + (s + 1), h⟩ (s + 1) (Nat.zero_add _) r q))
  · rw [outsAt0_C m c ⟨0 + 4, h⟩ (by show ¬(0 + 4) % 5 = 0; omega) (by show ¬(1 ≤ (0 + 4) % 5 ∧ (0 + 4) % 5 ≤ 3); omega) (by show (0 + 4) % 5 = 4; omega)]
    dsimp only
    rw [last]
    exact (pay4_at _ _ _ r q).trans (congrArg₂ (fun x y : EReal => x + y) rfl (block_at m c ⟨0 + 4, h⟩ 4 rfl r q))

/-- The kernel's result array. -/
theorem result_at (r q : Fin 1024) :
    (G2 m c : FVec Ideal S1024x1024 .bf16) (ix2 r q) = ∑ k : Fin 8320, left m c (ix2 k r) * cot m c (ix2 k q) := by
  have hr := r.isLt
  have hq := q.isLt
  have hp : pt2Of (ix2 r q) = 0 + 4 := by
    show 5 * (1 * (r.val / 1024 - 0) + 1 * (q.val / 1024 - 0)) + 4 = _
    omega
  have hb : 0 + 4 < cfg0.N := lt_of_lt_of_eq (by omega) N_0.symm
  have hl : loc2Of (ix2 r q) = ix2 r q := by
    funext a; apply Fin.ext
    match a with
    | ⟨0, _⟩ => show r.val % 1024 = r.val; omega
    | ⟨1, _⟩ => show q.val % 1024 = q.val; omega
  have ho := out_at m c r q hb
  rw [outsAt0_sweep, fold0_congr m c _ _ (pt2Of (ix2 r q)) (by rw [hp]; omega) hp.symm] at ho
  refine Eq.trans ?_ ho
  unfold G2
  rw [dif_pos (by rw [hp]; exact hb)]
  exact congrArg _ hl

end Cert.Kernel13Ideal.Grad

/-! ## The claim -/

namespace Cert.OutWeightGrad

open Idealize.ShloMosaic Idealize.ShloMosaic.TcCoe Idealize.SL.Sem
open scoped BigOperators

section Reference

open Cert.Reference13Ideal Cert.Reference13Ideal.Gen

theorem reference_at (x w : FVec Ideal S8320x1024 .f32) (r q : Fin 1024) :
    (truncf .bf16 (transpose S1024x1024 [1, 0] (Host.dotGeneral dot_S8320x1024_S8320x1024_S1024x1024_0_0_1_1_n_n none w x : FVec Ideal S1024x1024 .f32)
        transposes_S1024x1024_S1024x1024_1_0) bitsLt_bf16_f32 : FVec Ideal S1024x1024 .bf16) (ix2 r q)
      = ∑ k : Fin 8320, x (ix2 k r) * w (ix2 k q) := by
  simp only [mul_comm (x _)]
  pointwise

end Reference

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.Value.G2 m c, Cert.Kernel13Ideal.Value.run m g, ?_⟩
  refine (θ_run Cert.Reference13Ideal.defs _ _).mono (fun r h c => ?_) (Cert.Reference13Ideal.Value.run m' g')
  obtain ⟨h0, hargs⟩ := h c
  obtain ⟨e0, e1⟩ := hagree c
  refine ⟨h0.trans ?_, hargs⟩
  rw [e0, e1]
  funext i
  rw [← ix2_eta i]
  exact (reference_at _ _ _ _).trans (Cert.Kernel13Ideal.Grad.result_at m c _ _).symm

end Cert.OutWeightGrad

end
-- ==== Proof.Product.MixerForward.lean ====
/-
  The state-space mixer's output projection by blocks of rows: the kernel's result array is the product, entry by entry.
-/
module

public import proofs.«01_k».proof.Proof.Product.Offsets
public import proofs.«01_k».proof.Proof.Product.Carried
public import proofs.«01_k».proof.Defs
public import proofs.«01_k».proof.Proof.Gen.Kernel14Ideal.Value
public import proofs.«01_k».proof.Proof.Gen.Reference14Ideal
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Kernel14Ideal.Forward

open Cert.Kernel14Ideal Cert.Kernel14Ideal.Gen Cert.Kernel14Ideal.Value Cert.Product
open Idealize.ShloMosaic Idealize.ShloMosaic.TcCoe Idealize.SL.Sem
open scoped BigOperators

/-- What a point leaves. -/
theorem out_eq {F : FTy → Type} [FloatOps F] (x0 : Vec F S1040x2048 .bf16) (x1 : Vec F S2048x1024 .bf16) : out0_2 x0 x1 = k0_pay1 x0 x1 := by
  unfold out0_2
  rw [View.canon_unit_zero hz]
  simp only [View.ld_unit_zero (S := S1040x2048) hz, View.ld_unit_zero (S := S2048x1024) hz]
theorem pay1_at (x0 : Vec Ideal S1040x2048 .bf16) (x1 : Vec Ideal S2048x1024 .bf16) (r : Fin 1040) (q : Fin 1024) :
    k0_pay1 x0 x1 (ix2 r q) = ∑ k : Fin 2048, x0 (ix2 r k) * x1 (ix2 k q) := by
  pointwise [k0_pay1]

theorem index_at : ∀ t : Fin cfg0.N, win0_0.index t = ![t.val, 0] ∧ win0_1.index t = ![0, 0] ∧ win0_2.index t = ![t.val, 0] :=
  (by decide +kernel : ∀ t : Fin grid0.N, _)
theorem covers : win0_2.Covers := by decide +kernel

def rowOf (t : Fin cfg0.N) (r : Fin 1040) : Fin 8320 :=
  ⟨t.val * 1040 + r.val, by have : t.val < 8 := lt_of_lt_of_eq t.isLt N_0; have := r.isLt; omega⟩

variable (m : (ℓ : Loc nD τ sig) → Buf (Elt Ideal) ℓ) (c : Dev nD)

/-- The two arguments. -/
def left : FVec Ideal S8320x2048 .f32 := m ((c.tc : Thread nD τ).loc main_arg0)
def right : FVec Ideal S2048x1024 .f32 := m ((c.tc : Thread nD τ).loc main_arg1)

theorem entry_left : (V m c main_v0 : FVec Ideal S8320x2048 .bf16) = left m c := by
  show StableHlo.after hostOps0 _ _ = _
  after_results
  rfl
theorem entry_right : (V m c main_v1 : FVec Ideal S2048x1024 .bf16) = right m c := by
  show StableHlo.after hostOps0 _ _ = _
  after_results
  rfl

/-- The two blocks a point multiplies. -/
theorem read_0 (t : Fin cfg0.N) (r : Fin 1040) (k : Fin 2048) : (iblk m c 0 t : Vec Ideal S1040x2048 .bf16) (ix2 r k) = left m c (ix2 (rowOf t r) k) := by
  rw [← entry_left]
  blk_ext [iblk, index_at t, rowOf]
theorem read_1 (t : Fin cfg0.N) (k : Fin 2048) (q : Fin 1024) : (iblk m c 1 t : Vec Ideal S2048x1024 .bf16) (ix2 k q) = right m c (ix2 k q) := by
  rw [← entry_right]
  blk_ext [iblk, index_at t]

/-- The product of the two arguments. -/
def prod : FVec Ideal S8320x1024 .f32 := fun i => ∑ k : Fin 2048, left m c (ix2 (i 0) k) * right m c (ix2 k (i 1))

theorem tile_at (t : Fin cfg0.N) (r : Fin 1040) (q : Fin 1024) :
    k0_pay1 (iblk m c 0 t : Vec Ideal S1040x2048 .bf16) (iblk m c 1 t : Vec Ideal S2048x1024 .bf16) (ix2 r q) = prod m c (ix2 (rowOf t r) q) :=
  (pay1_at _ _ r q).trans (sum_mul_congr (read_0 m c t r) (read_1 m c t · q))

theorem placed (t : Fin cfg0.N) (y : S1040x1024.Idx) : (win0_2.blk t).view.emb y = ix2 (rowOf t (y 0)) (y 1) := by
  blk_ext [index_at t, rowOf]

theorem flushed_eq (t : Fin cfg0.N) : (dats m 0 c).flushed 2 t = ((cfg0.win 2).blk t).view.read (Elt Ideal) (prod m c) := by
  rw [flushed2, out_eq]
  funext y
  show k0_pay1 (iblk m c 0 t : Vec Ideal S1040x2048 .bf16) (iblk m c 1 t : Vec Ideal S2048x1024 .bf16) y = prod m c ((win0_2.blk t).view.emb y)
  rw [placed]
  exact (congrArg (k0_pay1 _ _) (ix2_eta (n0 := 1040) (n1 := 1024) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel14Ideal.Forward

/-! ## The claim -/

namespace Cert.MixerForward

open Idealize.ShloMosaic Idealize.ShloMosaic.TcCoe Idealize.SL.Sem
open scoped BigOperators

section Reference

open Cert.Reference14Ideal Cert.Reference14Ideal.Gen

theorem reference_at (x : FVec Ideal S8320x2048 .f32) (w : FVec Ideal S2048x1024 .f32) (R : Fin 8320) (Q : Fin 1024) :
    (Host.dotGeneral dot_S8320x2048_S2048x1024_S8320x1024_1_0_0_1_n_n none x w : FVec Ideal S8320x1024 .f32) (ix2 R Q)
      = ∑ k : Fin 2048, x (ix2 R k) * w (ix2 k Q) := by
  pointwise

end Reference

theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h0, hargs⟩ := h c
  obtain ⟨e0, e1⟩ := hagree c
  refine ⟨h0.trans ?_, hargs⟩
  rw [e0, e1]
  refine Eq.trans ?_ (Cert.Kernel14Ideal.Forward.result m c).symm
  funext i
  rw [← ix2_eta i]
  exact reference_at _ _ _ _

end Cert.MixerForward

end
-- ==== Proof.Product.MixerInputGrad.lean ====
/-
  The gradient of the state-space mixer's output projection in the mixer's rows, tile by tile: the kernel's result array is
  the product of the cotangent and the transposed weight, entry by entry.
-/
module

public import proofs.«01_k».proof.Proof.Product.Offsets
public import proofs.«01_k».proof.Proof.Product.Carried
public import proofs.«01_k».proof.Defs
public import proofs.«01_k».proof.Proof.Gen.Kernel15Ideal.Value
public import proofs.«01_k».proof.Proof.Gen.Reference15Ideal
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Grad

open Cert.Kernel15Ideal Cert.Kernel15Ideal.Gen Cert.Kernel15Ideal.Value Cert.Product
open Idealize.ShloMosaic Idealize.ShloMosaic.TcCoe Idealize.SL.Sem
open scoped BigOperators

/-- What a point leaves. -/
theorem out_eq {F : FTy → Type} [FloatOps F] (x0 : Vec F S1664x1024 .bf16) (x1 : Vec F S1024x1024 .bf16) : out0_2 x0 x1 = k0_pay1 x0 x1 := by
  unfold out0_2
  rw [View.canon_unit_zero hz]
  simp only [View.ld_unit_zero (S := S1664x1024) hz, View.ld_unit_zero (S := S1024x1024) hz]
theorem pay1_at (x0 : Vec Ideal S1664x1024 .bf16) (x1 : Vec Ideal S1024x1024 .bf16) (r : Fin 1664) (q : Fin 1024) :
    k0_pay1 x0 x1 (ix2 r q) = ∑ k : Fin 1024, x0 (ix2 r k) * x1 (ix2 q k) := by
  pointwise [k0_pay1]

theorem index_at : ∀ t : Fin cfg0.N, win0_0.index t = ![t.val / 2, 0] ∧ win0_1.index t = ![t.val % 2, 0] ∧ win0_2.index t = ![t.val / 2, t.val % 2] :=
  (by decide +kernel : ∀ t : Fin grid0.N, _)
theorem covers : win0_2.Covers := by decide +kernel

def rowOf (t : Fin cfg0.N) (r : Fin 1664) : Fin 8320 :=
  ⟨t.val / 2 * 1664 + r.val, by have : t.val < 10 := lt_of_lt_of_eq t.isLt N_0; have := r.isLt; omega⟩
def colOf (t : Fin cfg0.N) (q : Fin 1024) : Fin 2048 := ⟨t.val % 2 * 1024 + q.val, by have := q.isLt; omega⟩

variable (m : (ℓ : Loc nD τ sig) → Buf (Elt Ideal) ℓ) (c : Dev nD)

/-- The weight and the cotangent. -/
def weight : FVec Ideal S2048x1024 .f32 := m ((c.tc : Thread nD τ).loc main_arg0)
def cot : FVec Ideal S8320x1024 .f32 := m ((c.tc : Thread nD τ).loc main_arg1)

theorem entry_cot : (V m c main_v0 : FVec Ideal S8320x1024 .bf16) = cot m c := by
  show StableHlo.after hostOps0 _ _ = _
  after_results
  rfl
theorem entry_weight : (V m c main_v1 : FVec Ideal S2048x1024 .bf16) = weight m c := by
  show StableHlo.after hostOps0 _ _ = _
  after_results
  rfl

/-- The two blocks a point multiplies. -/
theorem read_0 (t : Fin cfg0.N) (r : Fin 1664) (k : Fin 1024) : (iblk m c 0 t : Vec Ideal S1664x1024 .bf16) (ix2 r k) = cot m c (ix2 (rowOf t r) k) := by
  rw [← entry_cot]
  blk_ext [iblk, index_at t, rowOf]
theorem read_1 (t : Fin cfg0.N) (q k : Fin 1024) : (iblk m c 1 t : Vec Ideal S1024x1024 .bf16) (ix2 q k) = weight m c (ix2 (colOf t q) k) := by
  rw [← entry_weight]
  blk_ext [iblk, index_at t, colOf]

/-- The gradient. -/
def prod : FVec Ideal S8320x2048 .f32 := fun i => ∑ k : Fin 1024, cot m c (ix2 (i 0) k) * weight m c (ix2 (i 1) k)

theorem tile_at (t : Fin cfg0.N) (r : Fin 1664) (q : Fin 1024) :
    k0_pay1 (iblk m c 0 t : Vec Ideal S1664x1024 .bf16) (iblk m c 1 t : Vec Ideal S1024x1024 .bf16) (ix2 r q) = prod m c (ix2 (rowOf t r) (colOf t q)) :=
  (pay1_at _ _ r q).trans (sum_mul_congr (read_0 m c t r) (read_1 m c t q))

theorem placed (t : Fin cfg0.N) (y : S1664x1024.Idx) : (win0_2.blk t).view.emb y = ix2 (rowOf t (y 0)) (colOf t (y 1)) := by
  blk_ext [index_at t, rowOf, colOf]

theorem flushed_eq (t : Fin cfg0.N) : (dats m 0 c).flushed 2 t = ((cfg0.win 2).blk t).view.read (Elt Ideal) (prod m c) := by
  rw [flushed2, out_eq]
  funext y
  show k0_pay1 (iblk m c 0 t : Vec Ideal S1664x1024 .bf16) (iblk m c 1 t : Vec Ideal S1024x1024 .bf16) y = prod m c ((win0_2.blk t).view.emb y)
  rw [placed]
  exact (congrArg (k0_pay1 _ _) (ix2_eta (n0 := 1664) (n1 := 1024) y).symm).trans (tile_at m c t (y 0) (y 1))

/-- The kernel's result array. -/
theorem result : (dats m 0 c).arrAt 2 cfg0.N = prod m c :=
  (dats m 0 c).arrAt_eq_of_cover 2 _ (fun t _ => flushed_eq m c t) fun i => Pipeline.Window.Covers.cover win0_2 covers (Memref.isWhole_whole _) i

end Cert.Kernel15Ideal.Grad

/-! ## The claim -/

namespace Cert.MixerInputGrad

open Idealize.ShloMosaic Idealize.ShloMosaic.TcCoe Idealize.SL.Sem
open scoped BigOperators

section Reference

open Cert.Reference15Ideal Cert.Reference15Ideal.Gen

theorem reference_at (x : FVec Ideal S8320x1024 .f32) (w : FVec Ideal S2048x1024 .f32) (R : Fin 8320) (Q : Fin 2048) :
    (Host.dotGeneral dot_S8320x1024_S2048x1024_S8320x2048_1_1_0_0_n_n none x w : FVec Ideal S8320x2048 .f32) (ix2 R Q)
      = ∑ k : Fin 1024, x (ix2 R k) * w (ix2 Q k) := by
  pointwise

end Reference

theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h0, hargs⟩ := h c
  obtain ⟨e0, e1⟩ := hagree c
  refine ⟨h0.trans ?_, hargs⟩
  rw [e0, e1]
  refine Eq.trans ?_ (Cert.Kernel15Ideal.Grad.result m c).symm
  funext i
  rw [← ix2_eta i]
  exact reference_at _ _ _ _

end Cert.MixerInputGrad

end
-- ==== Proof.Product.MixerWeightGrad.lean ====
/-
  The gradient of the state-space mixer's output projection in the weight, accumulated over five blocks of the rows: the
  kernel's result array is the product of the transposed rows and the cotangent, entry by entry.
-/
module

public import proofs.«01_k».proof.Proof.Product.Offsets
public import proofs.«01_k».proof.Proof.Product.Carried
public import proofs.«01_k».proof.Defs
public import proofs.«01_k».proof.Proof.Gen.Kernel16Ideal.Value
public import proofs.«01_k».proof.Proof.Gen.Reference16Ideal
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Kernel16Ideal.Grad

open Cert.Kernel16Ideal Cert.Kernel16Ideal.Gen Cert.Kernel16Ideal.Value Cert.Product
open Idealize.ShloMosaic Idealize.ShloMosaic.TcCoe Idealize.SL.Sem
open scoped BigOperators

/-! ## What a point leaves: the first of a run, the next ones, the last -/

section Case

variable {F : FTy → Type} [FloatOps F]
variable (c : Dev nD) (i : grid0.Coords) (arg3 arg4 : Memref sig .tc .vmem S1664x1024 .bf16) (harg3 : arg3.IsWhole) (harg4 : arg4.IsWhole)
  (arg5 : Memref sig .tc .vmem S1024x1024 .bf16) (harg5 : arg5.IsWhole) (arg6 : Memref sig .tc .vmem S1024x1024 .f32) (harg6 : arg6.IsWhole)
  (x0 x1 : Vec F S1664x1024 .bf16) (xs : Vec F S1024x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  simp only [View.readAt_eq_ld, harg3.read_unread, harg4.read_unread, View.ld_unit_zero (S := S1664x1024) hz]

theorem next (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero hz]
  simp only [View.readAt_eq_ld, harg3.read_unread, harg4.read_unread, harg6.read_unread, View.ld_unit_zero (S := S1664x1024) hz,
    View.ld_unit_zero (S := S1024x1024) hz]

theorem last (hc0 : ¬cond0_0 i) (hc1 : ¬cond0_1 i) (hc2 : cond0_2 i) :
    out0_C_2 c i arg3 harg3 arg4 harg4 arg5 harg5 arg6 harg6 hc0 hc1 hc2 x0 x1 xs = k0_pay4 x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero hz]
  simp only [View.readAt_eq_ld, harg3.read_unread, harg4.read_unread, harg6.read_unread, View.ld_unit_zero (S := S1664x1024) hz,
    View.ld_unit_zero (S := S1024x1024) hz]

end Case

section Entry

variable (x0 x1 : Vec Ideal S1664x1024 .bf16) (xs : Vec Ideal S1024x1024 .f32) (r q : Fin 1024)

theorem pay1_at : k0_pay1 x0 x1 (ix2 r q) = ∑ k : Fin 1664, x0 (ix2 k r) * x1 (ix2 k q) := by
  pointwise [k0_pay1]
theorem pay2_at : k0_pay2 x0 x1 (ix2 r q) = ∑ k : Fin 1664, x0 (ix2 k r) * x1 (ix2 k q) := by
  rw [← pay1_at]
  pointwise [k0_pay2]
theorem pay3_at : k0_pay3 x0 x1 xs (ix2 r q) = xs (ix2 r q) + ∑ k : Fin 1664, x0 (ix2 k r) * x1 (ix2 k q) := by
  rw [← pay1_at]
  pointwise [k0_pay3]
theorem pay4_at : k0_pay4 x0 x1 xs (ix2 r q) = xs (ix2 r q) + ∑ k : Fin 1664, x0 (ix2 k r) * x1 (ix2 k q) := by
  rw [← pay1_at]
  pointwise [k0_pay4]

end Entry

/-! ## The blocks -/

theorem index_in : ∀ t : Fin cfg0.N, win0_0.index t = ![t.val % 5, t.val / 5] ∧ win0_1.index t = ![t.val % 5, 0] :=
  (by decide +kernel : ∀ t : Fin grid0.N, _)

def rowOf (t : Fin cfg0.N) (k : Fin 1664) : Fin 8320 := ⟨t.val % 5 * 1664 + k.val, by have := k.isLt; omega⟩
def colOf (t : Fin cfg0.N) (r : Fin 1024) : Fin 2048 :=
  ⟨t.val / 5 * 1024 + r.val, by have : t.val < 10 := lt_of_lt_of_eq t.isLt N_0; have := r.isLt; omega⟩

variable (m : (ℓ : Loc nD τ sig) → Buf (Elt Ideal) ℓ) (c : Dev nD)

/-- The rows and the cotangent. -/
def left : FVec Ideal S8320x2048 .f32 := m ((c.tc : Thread nD τ).loc main_arg0)
def cot : FVec Ideal S8320x1024 .f32 := m ((c.tc : Thread nD τ).loc main_arg1)

theorem entry_left : (V m c main_v0 : FVec Ideal S8320x2048 .bf16) = left m c := by
  show StableHlo.after hostOps0 _ _ = _
  after_results
  rfl
theorem entry_cot : (V m c main_v1 : FVec Ideal S8320x1024 .bf16) = cot m c := by
  show StableHlo.after hostOps0 _ _ = _
  after_results
  rfl

def leftBlock (t : Fin cfg0.N) : Vec Ideal S1664x1024 .bf16 := iblk m c 0 t
def cotBlock (t : Fin cfg0.N) : Vec Ideal S1664x1024 .bf16 := iblk m c 1 t

theorem read_0 (t : Fin cfg0.N) (k : Fin 1664) (r : Fin 1024) : leftBlock m c t (ix2 k r) = left m c (ix2 (rowOf t k) (colOf t r)) := by
  rw [← entry_left, leftBlock]
  blk_ext [iblk, index_in t, rowOf, colOf]
theorem read_1 (t : Fin cfg0.N) (k : Fin 1664) (q : Fin 1024) : cotBlock m c t (ix2 k q) = cot m c (ix2 (rowOf t k) q) := by
  rw [← entry_cot, cotBlock]
  blk_ext [iblk, index_in t, rowOf]

/-- The terms of one entry of the product. -/
def terms (R : Fin 2048) (q : Fin 1024) (k : Fin 8320) : EReal := left m c (ix2 k R) * cot m c (ix2 k q)

/-- What point `s` of a run adds to an entry: its block's sum. -/
theorem block_at (t : Fin cfg0.N) (s : ℕ) (hs : t.val % 5 = s) (r q : Fin 1024) (R : Fin 2048) (hR : colOf t r = R) :
    ∑ k : Fin 1664, leftBlock m c t (ix2 k r) * cotBlock m c t (ix2 k q) = blockSum 1664 (terms m c R q) s :=
  sum_eq_blockSum (rowOf t) (fun k => by rw [← hs]; rfl) fun k => by rw [read_0, read_1, hR]; rfl

/-! ## The accumulation -/

/-- What the last point of run `b` leaves for an entry. -/
theorem out_at (b : ℕ) (r q : Fin 1024) (R : Fin 2048) (hR : R.val = b * 1024 + r.val) (h : 5 * b + 4 < cfg0.N) :
    (outsAt0 m c (5 * b + 4) h).1 (ix2 r q) = ∑ k : Fin 8320, terms m c R q k := by
  have e : ∀ s (hs : s < 5) (h : 5 * b + s < cfg0.N), colOf ⟨5 * b + s, h⟩ r = R := fun s hs h =>
    Fin.ext (by show (5 * b + s) / 5 * 1024 + r.val = R.val; omega)
  refine swept 1664 3 (terms m c R q) (by norm_num) (fun n h => (outsAt0 m c n h).2 (ix2 r q)) _ (5 * b) h (fun h => ?_) (fun s hs h _ => ?_)
    (fun _ => ?_)
  · rw [outsAt0_A m c ⟨5 * b + 0, h⟩ (by show (5 * b + 0) % 5 = 0; omega) (by show ¬(1 ≤ (5 * b + 0) % 5 ∧ _); omega) (by show ¬(5 * b + 0) % 5 = 4; omega)]
    dsimp only
    rw [first]
    exact (pay2_at _ _ r q).trans (block_at m c ⟨5 * b + 0, h⟩ 0 (by show (5 * b + 0) % 5 = 0; omega) r q R (e 0 (by omega) h))
  · rw [outsAt0_B m c ⟨5 * b + (s + 1), h⟩ (by show ¬(5 * b + (s + 1)) % 5 = 0; omega) (by show 1 ≤ (5 * b + (s + 1)) % 5 ∧ (5 * b + (s + 1)) % 5 ≤ 3; omega)
      (by show ¬(5 * b + (s + 1)) % 5 = 4; omega)]
    dsimp only
    rw [next]
    exact (pay3_at _ _ _ r q).trans (congrArg₂ (fun x y : EReal => x + y) rfl
      (block_at m c ⟨5 * b + (s + 1), h⟩ (s + 1) (by show (5 * b + (s + 1)) % 5 = s + 1; omega) r q R (e (s + 1) (by omega) h)))
  · rw [outsAt0_C m c ⟨5 * b + 4, h⟩ (by show ¬(5 * b + 4) % 5 = 0; omega) (by show ¬(1 ≤ (5 * b + 4) % 5 ∧ (5 * b + 4) % 5 ≤ 3); omega) (by show (5 * b + 4) % 5 = 4; omega)]
    dsimp only
    rw [last]
    exact (pay4_at _ _ _ r q).trans (congrArg₂ (fun x y : EReal => x + y) rfl
      (block_at m c ⟨5 * b + 4, h⟩ 4 (by show (5 * b + 4) % 5 = 4; omega) r q R (e 4 (by omega) h)))

/-- The kernel's result array. -/
theorem result_at (R : Fin 2048) (q : Fin 1024) :
    (G2 m c : FVec Ideal S2048x1024 .bf16) (ix2 R q) = ∑ k : Fin 8320, left m c (ix2 k R) * cot m c (ix2 k q) := by
  have hR := R.isLt
  have hq := q.isLt
  have hp : pt2Of (ix2 R q) = 5 * (R.val / 1024) + 4 := by
    show 5 * (1 * (R.val / 1024 - 0) + 1 * (q.val / 1024 - 0)) + 4 = _
    omega
  have hb : 5 * (R.val / 1024) + 4 < cfg0.N := lt_of_lt_of_eq (by omega) N_0.symm
  have hl : loc2Of (ix2 R q) = ix2 (⟨R.val % 1024, by omega⟩ : Fin 1024) q := by
    funext a; apply Fin.ext
    match a with
    | ⟨0, _⟩ => rfl
    | ⟨1, _⟩ => show q.val % 1024 = q.val; omega
  have ho := out_at m c (R.val / 1024) ⟨R.val % 1024, by omega⟩ q R (by show R.val = R.val / 1024 * 1024 + R.val % 1024; omega) hb
  rw [outsAt0_sweep, fold0_congr m c _ _ (pt2Of (ix2 R q)) (by rw [hp]; omega) hp.symm, ← hl] at ho
  refine Eq.trans ?_ ho
  unfold G2
  rw [dif_pos (by rw [hp]; exact hb)]

end Cert.Kernel16Ideal.Grad

/-! ## The claim -/

namespace Cert.MixerWeightGrad

open Idealize.ShloMosaic Idealize.ShloMosaic.TcCoe Idealize.SL.Sem
open scoped BigOperators

section Reference

open Cert.Reference16Ideal Cert.Reference16Ideal.Gen

theorem reference_at (x : FVec Ideal S8320x2048 .f32) (w : FVec Ideal S8320x1024 .f32) (R : Fin 2048) (q : Fin 1024) :
    (truncf .bf16 (transpose S2048x1024 [1, 0] (Host.dotGeneral dot_S8320x1024_S8320x2048_S1024x2048_0_0_1_1_n_n none w x : FVec Ideal S1024x2048 .f32)
        transposes_S1024x2048_S2048x1024_1_0) bitsLt_bf16_f32 : FVec Ideal S2048x1024 .bf16) (ix2 R q)
      = ∑ k : Fin 8320, x (ix2 k R) * w (ix2 k q) := by
  simp only [mul_comm (x _)]
  pointwise

end Reference

theorem algebraic : Cert.algebraic_Kernel16Ideal_Reference16Ideal (hKernel16Ideal := Cert.Kernel16Ideal.Gen.facts)
    (hReference16Ideal := Cert.Reference16Ideal.Gen.facts) := by
  intro m g m' g' _ hagree
  refine ⟨fun c => Cert.Kernel16Ideal.Value.G2 m c, Cert.Kernel16Ideal.Value.run m g, ?_⟩
  refine (θ_run Cert.Reference16Ideal.defs _ _).mono (fun r h c => ?_) (Cert.Reference16Ideal.Value.run m' g')
  obtain ⟨h0, hargs⟩ := h c
  obtain ⟨e0, e1⟩ := hagree c
  refine ⟨h0.trans ?_, hargs⟩
  rw [e0, e1]
  funext i
  rw [← ix2_eta i]
  exact (reference_at _ _ _ _).trans (Cert.Kernel16Ideal.Grad.result_at m c _ _).symm

end Cert.MixerWeightGrad

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Pre_finite
public import proofs.«01_k».proof.Proof.Ideal.Data
public import proofs.«01_k».proof.Proof.Bits.Data
public import proofs.«01_k».proof.Proof.Value.Equal
public import proofs.«01_k».proof.Proof.Gen.Kernel2.Frame
public import proofs.«01_k».proof.Proof.Gen.Kernel3.Frame
public import proofs.«01_k».proof.Proof.Gen.Kernel4.Frame
public import proofs.«01_k».proof.Proof.Product.InputGrad
public import proofs.«01_k».proof.Proof.Product.WeightGrad
public import proofs.«01_k».proof.Proof.Product.Forward
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Product.UpForward
public import proofs.«01_k».proof.Proof.Product.UpInputGrad
public import proofs.«01_k».proof.Proof.Product.UpWeightGrad
public import proofs.«01_k».proof.Proof.Product.DownForward
public import proofs.«01_k».proof.Proof.Product.DownInputGrad
public import proofs.«01_k».proof.Proof.Product.DownWeightGrad
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Product.OutForward
public import proofs.«01_k».proof.Proof.Product.OutInputGrad
public import proofs.«01_k».proof.Proof.Product.OutWeightGrad
public import proofs.«01_k».proof.Proof.Product.MixerForward
public import proofs.«01_k».proof.Proof.Product.MixerInputGrad
public import proofs.«01_k».proof.Proof.Product.MixerWeightGrad
public import Idealize.ShloMosaic.Adequacy
public import Idealize.ShloMosaic.Init
public import Idealize.ShloMosaic.Lib.Claim

@[expose] public section

noncomputable section

namespace Cert.Proof

open Idealize.ShloMosaic Idealize.SL.Sem Cert.Kernel

set_option maxHeartbeats 6400000 in
theorem reference_quiescent : Cert.quiescent_ReferenceIdeal := by
  intro m g _
  hlo_run
  · exact fun _ => ⟨trivial, trivial, trivial, trivial, trivial, trivial⟩
  · exact sem_eq_zero_of_no_sems (sig := Cert.ReferenceIdeal.sig) (by decide) _

theorem reference2_quiescent : Cert.quiescent_Reference2Ideal := by
  intro m g _
  hlo_run
  · exact fun _ => ⟨trivial, trivial, trivial⟩
  · exact sem_eq_zero_of_no_sems (sig := Cert.Reference2Ideal.sig) (by decide) _

theorem reference3_quiescent : Cert.quiescent_Reference3Ideal := by
  intro m g _
  hlo_run
  · exact fun _ => ⟨trivial, trivial⟩
  · exact sem_eq_zero_of_no_sems (sig := Cert.Reference3Ideal.sig) (by decide) _

theorem reference4_quiescent : Cert.quiescent_Reference4Ideal := by
  intro m g _
  hlo_run
  · exact fun _ => ⟨trivial, trivial⟩
  · exact sem_eq_zero_of_no_sems (sig := Cert.Reference4Ideal.sig) (by decide) _

theorem reference5_quiescent : Cert.quiescent_Reference5Ideal := by
  intro m g _
  hlo_run
  · exact fun _ => ⟨trivial, trivial⟩
  · exact sem_eq_zero_of_no_sems (sig := Cert.Reference5Ideal.sig) (by decide) _

theorem reference6_quiescent : Cert.quiescent_Reference6Ideal := by
  intro m g _
  hlo_run
  · exact fun _ => ⟨trivial, trivial, trivial⟩
  · exact sem_eq_zero_of_no_sems (sig := Cert.Reference6Ideal.sig) (by decide) _

theorem reference7_quiescent : Cert.quiescent_Reference7Ideal := by
  intro m g _
  hlo_run
  · exact fun _ => ⟨trivial, trivial⟩
  · exact sem_eq_zero_of_no_sems (sig := Cert.Reference7Ideal.sig) (by decide) _

theorem reference8_quiescent : Cert.quiescent_Reference8Ideal := by
  intro m g _
  hlo_run
  · exact fun _ => ⟨trivial, trivial⟩
  · exact sem_eq_zero_of_no_sems (sig := Cert.Reference8Ideal.sig) (by decide) _

theorem reference9_quiescent : Cert.quiescent_Reference9Ideal := by
  intro m g _
  hlo_run
  · exact fun _ => ⟨trivial, trivial⟩
  · exact sem_eq_zero_of_no_sems (sig := Cert.Reference9Ideal.sig) (by decide) _

theorem reference10_quiescent : Cert.quiescent_Reference10Ideal := by
  intro m g _
  hlo_run
  · exact fun _ => ⟨trivial, trivial⟩
  · exact sem_eq_zero_of_no_sems (sig := Cert.Reference10Ideal.sig) (by decide) _

theorem reference11_quiescent : Cert.quiescent_Reference11Ideal := by
  intro m g _
  hlo_run
  · exact fun _ => ⟨trivial, trivial⟩
  · exact sem_eq_zero_of_no_sems (sig := Cert.Reference11Ideal.sig) (by decide) _

theorem reference12_quiescent : Cert.quiescent_Reference12Ideal := by
  intro m g _
  hlo_run
  · exact fun _ => ⟨trivial, trivial⟩
  · exact sem_eq_zero_of_no_sems (sig := Cert.Reference12Ideal.sig) (by decide) _

theorem reference13_quiescent : Cert.quiescent_Reference13Ideal := by
  intro m g _
  hlo_run
  · exact fun _ => ⟨trivial, trivial⟩
  · exact sem_eq_zero_of_no_sems (sig := Cert.Reference13Ideal.sig) (by decide) _

theorem reference14_quiescent : Cert.quiescent_Reference14Ideal := by
  intro m g _
  hlo_run
  · exact fun _ => ⟨trivial, trivial⟩
  · exact sem_eq_zero_of_no_sems (sig := Cert.Reference14Ideal.sig) (by decide) _

theorem reference15_quiescent : Cert.quiescent_Reference15Ideal := by
  intro m g _
  hlo_run
  · exact fun _ => ⟨trivial, trivial⟩
  · exact sem_eq_zero_of_no_sems (sig := Cert.Reference15Ideal.sig) (by decide) _

theorem reference16_quiescent : Cert.quiescent_Reference16Ideal := by
  intro m g _
  hlo_run
  · exact fun _ => ⟨trivial, trivial⟩
  · exact sem_eq_zero_of_no_sems (sig := Cert.Reference16Ideal.sig) (by decide) _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_finite.Gen.facts,
  fun m g _ => Cert.Kernel.Grad.frame m g, fun m g _ => Cert.KernelIdeal.Grad.frame m g,
  fun m g _ => Cert.KernelIdeal.Grad.frame m g, reference_quiescent, fun m g _ => reference_quiescent m g trivial,
  fun m g _ => Cert.Kernel2.Gen.frame m g, fun m g _ => Cert.Kernel2Ideal.Gen.frame m g,
  reference2_quiescent,
  fun m g _ => Cert.Kernel3.Gen.frame m g, fun m g _ => Cert.Kernel3Ideal.Gen.frame m g,
  reference3_quiescent,
  fun m g _ => Cert.Kernel4.Gen.frame m g, fun m g _ => Cert.Kernel4Ideal.Gen.frame m g,
  reference4_quiescent,
  fun m g _ => Cert.Kernel5.Gen.frame m g, fun m g _ => Cert.Kernel5Ideal.Gen.frame m g,
  reference5_quiescent,
  fun m g _ => Cert.Kernel6.Gen.frame m g, fun m g _ => Cert.Kernel6Ideal.Gen.frame m g,
  reference6_quiescent,
  fun m g _ => Cert.Kernel7.Gen.frame m g, fun m g _ => Cert.Kernel7Ideal.Gen.frame m g,
  reference7_quiescent,
  fun m g _ => Cert.Kernel8.Gen.frame m g, fun m g _ => Cert.Kernel8Ideal.Gen.frame m g,
  reference8_quiescent,
  fun m g _ => Cert.Kernel9.Gen.frame m g, fun m g _ => Cert.Kernel9Ideal.Gen.frame m g,
  reference9_quiescent,
  fun m g _ => Cert.Kernel10.Gen.frame m g, fun m g _ => Cert.Kernel10Ideal.Gen.frame m g,
  reference10_quiescent,
  fun m g _ => Cert.Kernel11.Gen.frame m g, fun m g _ => Cert.Kernel11Ideal.Gen.frame m g,
  reference11_quiescent,
  fun m g _ => Cert.Kernel12.Gen.frame m g, fun m g _ => Cert.Kernel12Ideal.Gen.frame m g,
  reference12_quiescent,
  fun m g _ => Cert.Kernel13.Gen.frame m g, fun m g _ => Cert.Kernel13Ideal.Gen.frame m g,
  reference13_quiescent,
  fun m g _ => Cert.Kernel14.Gen.frame m g, fun m g _ => Cert.Kernel14Ideal.Gen.frame m g,
  reference14_quiescent,
  fun m g _ => Cert.Kernel15.Gen.frame m g, fun m g _ => Cert.Kernel15Ideal.Gen.frame m g,
  reference15_quiescent,
  fun m g _ => Cert.Kernel16.Gen.frame m g, fun m g _ => Cert.Kernel16Ideal.Gen.frame m g,
  reference16_quiescent,
  IdealRules.named_const.statement Cert.KernelIdeal.κ "masked" .f32 0xF149F2CA#32 ⊥ rfl,
  Cert.Equal.algebraic, trivial, Cert.InputGrad.algebraic, trivial, Cert.WeightGrad.algebraic, trivial, Cert.Forward.algebraic,
  trivial, Cert.UpForward.algebraic, trivial, Cert.UpInputGrad.algebraic, trivial, Cert.UpWeightGrad.algebraic,
  trivial, Cert.DownForward.algebraic, trivial, Cert.DownInputGrad.algebraic, trivial, Cert.DownWeightGrad.algebraic,
  trivial, Cert.OutForward.algebraic, trivial, Cert.OutInputGrad.algebraic, trivial, Cert.OutWeightGrad.algebraic,
  trivial, Cert.MixerForward.algebraic, trivial, Cert.MixerInputGrad.algebraic, trivial, Cert.MixerWeightGrad.algebraic⟩

end Cert.Proof

end
